-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_conditioning [hPre_finite_conditioning : Cert.Pre_finite_conditioning.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_conditioning.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_conditioning.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_conditioning.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_conditioning [hPre_finite_conditioning : Cert.Pre_finite_conditioning.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_conditioning.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_conditioning.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_conditioning.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_conditioning [hKernel4Ideal : Cert.Kernel4Ideal.Facts] [hPre_finite_conditioning : Cert.Pre_finite_conditioning.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_conditioning m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_conditioning [hReference4Ideal : Cert.Reference4Ideal.Facts] [hPre_finite_conditioning : Cert.Pre_finite_conditioning.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_conditioning m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)) (v3 : (c : Dev Cert.Kernel3Ideal.nD) → Buf (Elt Ideal) ((c.tc : Thread Cert.Kernel3Ideal.nD Cert.Kernel3Ideal.τ).loc Cert.Kernel3Ideal.main_v16_3)) (v4 : (c : Dev Cert.Kernel3Ideal.nD) → Buf (Elt Ideal) ((c.tc : Thread Cert.Kernel3Ideal.nD Cert.Kernel3Ideal.τ).loc Cert.Kernel3Ideal.main_v16_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_v16_3) = v3 c
          ∧ r.2.mem ((c.tc : Thread Cert.Kernel3Ideal.nD Cert.Kernel3Ideal.τ).loc Cert.Kernel3Ideal.main_v16_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_conditioning [hKernel4Ideal : Cert.Kernel4Ideal.Facts] [hReference4Ideal : Cert.Reference4Ideal.Facts] [hPre_finite_conditioning : Cert.Pre_finite_conditioning.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_conditioning m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v92) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v15_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v15_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v94) = v0 c
          ∧ r.2.mem ((c.tc : Thread Cert.Reference6Ideal.nD Cert.Reference6Ideal.τ).loc Cert.Reference6Ideal.main_v95) = v1 c
          ∧ r.2.mem ((c.tc : Thread Cert.Reference6Ideal.nD Cert.Reference6Ideal.τ).loc Cert.Reference6Ideal.main_v102) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_conditioning : Cert.Pre_finite_conditioning.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_conditioning (hKernel4Ideal := hKernel4Ideal) (hPre_finite_conditioning := hPre_finite_conditioning)
    ∧ quiescent_Reference4Ideal (hReference4Ideal := hReference4Ideal)
    ∧ quiescent_Reference4Ideal_pre_finite_conditioning (hReference4Ideal := hReference4Ideal) (hPre_finite_conditioning := hPre_finite_conditioning)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_conditioning (hKernel4Ideal := hKernel4Ideal) (hReference4Ideal := hReference4Ideal) (hPre_finite_conditioning := hPre_finite_conditioning)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x4096x1536 : Shape := ⟨3, ![8, 4096, 1536]⟩
abbrev S8x1x256x4x2x64 : Shape := ⟨6, ![8, 1, 256, 4, 2, 64]⟩
abbrev S8x1x256x4x128 : Shape := ⟨5, ![8, 1, 256, 4, 128]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x4096x1536 : S_.BroadcastsInDim S8x4096x1536 (![] : Fin 0 → Fin S8x4096x1536.rank)
  bcast_S_S8x1x256x4x2x64 : S_.BroadcastsInDim S8x1x256x4x2x64 (![] : Fin 0 → Fin S8x1x256x4x2x64.rank)
  bcast_S_S8x1x256x4x128 : S_.BroadcastsInDim S8x1x256x4x128 (![] : Fin 0 → Fin S8x1x256x4x128.rank)
  bcast_S_S1x64 : S_.BroadcastsInDim S1x64 (![] : Fin 0 → Fin S1x64.rank)

variable [Facts]

def fn_part1 {F : FTy → Type} [FloatOps F] (main_arg6 : FVec F S1x64 .f32) (main_v3 : IVec S8x4096x1536 1) (main_v6 : IVec S8x1x256x4x2x64 1) (main_v9 : IVec S8x1x256x4x128 1) (main_v12 : IVec S1x64 1) (main_v15 : IVec S1x64 1) (main_v16 : FVec F S1x64 .f32) (main_v17 : FVec F S1x64 .f32) : IVec S8x4096x1536 1 × IVec S8x1x256x4x2x64 1 × IVec S8x1x256x4x128 1 × IVec S1x64 1 × IVec S1x64 1 × IVec S1x64 1 × IVec S1x64 1 :=
  let main_v18 : IVec S1x64 1 := cmpf .olt main_v16 main_v17
  let main_v19 : FVec F S1x64 .f32 := Host.absf main_arg6
  let main_cst_5 : FVec F S_ .f32 := constant S_ .f32 0x7F800000#32
  let main_v20 : FVec F S1x64 .f32 := broadcastInDim S1x64 ![] bcast_S_S1x64 main_cst_5
  let main_v21 : IVec S1x64 1 := cmpf .olt main_v19 main_v20
  (main_v3, main_v6, main_v9, main_v12, main_v15, main_v18, main_v21)

def fn {F : FTy → Type} [FloatOps F] (main_arg0 : FVec F S8x4096x1536 .bf16) (main_arg1 : FVec F S8x1x256x4x2x64 .f32) (main_arg2 : FVec F S8x1x256x4x128 .f32) (main_arg3 : FVec F S1x64 .f32) (main_arg4 : FVec F S1x64 .f32) (main_arg5 : FVec F S1x64 .f32) (main_arg6 : FVec F S1x64 .f32) (main_arg7 : FVec F S1x128 .f32) : IVec S8x4096x1536 1 × IVec S8x1x256x4x2x64 1 × IVec S8x1x256x4x128 1 × IVec S1x64 1 × IVec S1x64 1 × IVec S1x64 1 × IVec S1x64 1 :=
  let main_v0 : FVec F S8x4096x1536 .f32 := (extf .f32 · bitsLt_bf16_f32) main_arg0
  let main_v1 : FVec F S8x4096x1536 .f32 := Host.absf main_v0
  let main_cst : FVec F S_ .f32 := constant S_ .f32 0x7F800000#32
  let main_v2 : FVec F S8x4096x1536 .f32 := broadcastInDim S8x4096x1536 ![] bcast_S_S8x4096x1536 main_cst
  let main_v3 : IVec S8x4096x1536 1 := cmpf .olt main_v1 main_v2
  let main_v4 : FVec F S8x1x256x4x2x64 .f32 := Host.absf main_arg1
  let main_cst_0 : FVec F S_ .f32 := constant S_ .f32 0x7F800000#32
  let main_v5 : FVec F S8x1x256x4x2x64 .f32 := broadcastInDim S8x1x256x4x2x64 ![] bcast_S_S8x1x256x4x2x64 main_cst_0
  let main_v6 : IVec S8x1x256x4x2x64 1 := cmpf .olt main_v4 main_v5
  let main_v7 : FVec F S8x1x256x4x128 .f32 := Host.absf main_arg2
  let main_cst_1 : FVec F S_ .f32 := constant S_ .f32 0x7F800000#32
  let main_v8 : FVec F S8x1x256x4x128 .f32 := broadcastInDim S8x1x256x4x128 ![] bcast_S_S8x1x256x4x128 main_cst_1
  let main_v9 : IVec S8x1x256x4x128 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  let main_v16 : FVec F S1x64 .f32 := Host.absf main_arg5
  let main_cst_4 : FVec F S_ .f32 := constant S_ .f32 0x7F800000#32
  let main_v17 : FVec F S1x64 .f32 := broadcastInDim S1x64 ![] bcast_S_S1x64 main_cst_4
  fn_part1 (F := F) main_arg6 main_v3 main_v6 main_v9 main_v12 main_v15 main_v16 main_v17
-- ==== Pre_finite_conditioning.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩

class Facts : Prop where
  bcast_S_S8x1024 : S_.BroadcastsInDim S8x1024 (![] : Fin 0 → Fin S8x1024.rank)
  bcast_S_S1024 : S_.BroadcastsInDim S1024 (![] : Fin 0 → Fin S1024.rank)
  bcast_S_S1x1024x6144 : S_.BroadcastsInDim S1x1024x6144 (![] : Fin 0 → Fin S1x1024x6144.rank)

variable [Facts]

def fn {F : FTy → Type} [FloatOps F] (main_arg0 : FVec F S8x1024 .f32) (main_arg1 : FVec F S1024 .f32) (main_arg2 : FVec F S1x1024x6144 .f32) (main_arg3 : FVec F S1x6144 .f32) : IVec S8x1024 1 × IVec S1024 1 × IVec S1x1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x1024x6144 .f32 := Host.absf main_arg2
  let main_cst_1 : FVec F S_ .f32 := constant S_ .f32 0x7F800000#32
  let main_v7 : FVec F S1x1024x6144 .f32 := broadcastInDim S1x1024x6144 ![] bcast_S_S1x1024x6144 main_cst_1
  let main_v8 : IVec S1x1024x6144 1 := cmpf .olt main_v6 main_v7
  (main_v2, main_v5, main_v8)
-- ==== Kernel.lean ====
abbrev S8x4096x1536 : Shape := ⟨3, ![8, 4096, 1536]⟩
abbrev S8x1x256x4x2x64 : Shape := ⟨6, ![8, 1, 256, 4, 2, 64]⟩
abbrev S8x1x256x4x128 : Shape := ⟨5, ![8, 1, 256, 4, 128]⟩
abbrev S1x64 : Shape := ⟨2, ![1, 64]⟩
abbrev S1x128 : Shape := ⟨2, ![1, 128]⟩
abbrev S8x256x4x2x64 : Shape := ⟨5, ![8, 256, 4, 2, 64]⟩
abbrev S8x256x512 : Shape := ⟨3, ![8, 256, 512]⟩
abbrev S8x256x4x128 : Shape := ⟨4, ![8, 256, 4, 128]⟩
abbrev S64 : Shape := ⟨1, ![64]⟩
abbrev S4x64 : Shape := ⟨2, ![4, 64]⟩
abbrev S128 : Shape := ⟨1, ![128]⟩
abbrev S8x4096x512 : Shape := ⟨3, ![8, 4096, 512]⟩
abbrev S1x512x128 : Shape := ⟨3, ![1, 512, 128]⟩
abbrev S1x4096x128 : Shape := ⟨3, ![1, 4096, 128]⟩
abbrev S1x256x128 : Shape := ⟨3, ![1, 256, 128]⟩
abbrev S1 : Shape := ⟨1, ![1]⟩
abbrev S1x1 : Shape := ⟨2, ![1, 1]⟩
abbrev S512x128 : Shape := ⟨2, ![512, 128]⟩
abbrev S1024x128 : Shape := ⟨2, ![1024, 128]⟩
abbrev S256x128 : Shape := ⟨2, ![256, 128]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 26
  | .vmem => 14
  | .smem => 0
  | _ => 0

abbrev bufTy : (tb : Table) → Fin (tcTables nBuf tb) → BufTy
  | .hbm, ⟨0, _⟩ => ⟨S8x4096x1536, .bf16⟩
  | .hbm, ⟨1, _⟩ => ⟨S8x1x256x4x2x64, .f32⟩
  | .hbm, ⟨2, _⟩ => ⟨S8x1x256x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x256x4x2x64, .f32⟩
  | .hbm, ⟨9, _⟩ => ⟨S8x256x512, .f32⟩
  | .hbm, ⟨10, _⟩ => ⟨S8x256x512, .bf16⟩
  | .hbm, ⟨11, _⟩ => ⟨S8x256x4x128, .f32⟩
  | .hbm, ⟨12, _⟩ => ⟨S8x256x512, .f32⟩
  | .hbm, ⟨13, _⟩ => ⟨S8x256x512, .bf16⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S4x64, .f32⟩
  | .hbm, ⟨23, _⟩ => ⟨S128, .f32⟩
  | .hbm, ⟨24, _⟩ => ⟨S1x128, .f32⟩
  | .hbm, ⟨25, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S4x64, .f32⟩
  | .local _ .vmem, ⟨11, _⟩ => ⟨S1x128, .f32⟩
  | .local _ .vmem, ⟨12, _⟩ => ⟨S1x512x128, .bf16⟩
  | .local _ .vmem, ⟨13, _⟩ => ⟨S1x512x128, .bf16⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x4096x1536 : Shape := ⟨3, ![8, 4096, 1536]⟩
abbrev S8x1x256x4x2x64 : Shape := ⟨6, ![8, 1, 256, 4, 2, 64]⟩
abbrev S8x1x256x4x128 : Shape := ⟨5, ![8, 1, 256, 4, 128]⟩
abbrev S1x64 : Shape := ⟨2, ![1, 64]⟩
abbrev S1x128 : Shape := ⟨2, ![1, 128]⟩
abbrev S8x4096x512 : Shape := ⟨3, ![8, 4096, 512]⟩
abbrev S8x4096x4x2x64 : Shape := ⟨5, ![8, 4096, 4, 2, 64]⟩
abbrev S_ : Shape := ⟨0, ![]⟩
abbrev S8x256x4x2x64 : Shape := ⟨5, ![8, 256, 4, 2, 64]⟩
abbrev S8x4352x4x2x64 : Shape := ⟨5, ![8, 4352, 4, 2, 64]⟩
abbrev S8x256x4x128 : Shape := ⟨4, ![8, 256, 4, 128]⟩
abbrev S8x4096x4x128 : Shape := ⟨4, ![8, 4096, 4, 128]⟩
abbrev S8x4352x4x128 : Shape := ⟨4, ![8, 4352, 4, 128]⟩
abbrev S64 : Shape := ⟨1, ![64]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S8x1x256x4x2x64, .f32⟩
  | .hbm, ⟨2, _⟩ => ⟨S8x1x256x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x4096x1536, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S8x4096x4x2x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x4096x4x2x64, .f32⟩
  | .hbm, ⟨18, _⟩ => ⟨S8x4096x4x2x64, .f32⟩
  | .hbm, ⟨19, _⟩ => ⟨S8x256x4x2x64, .f32⟩
  | .hbm, ⟨20, _⟩ => ⟨S8x4096x4x2x64, .f32⟩
  | .hbm, ⟨21, _⟩ => ⟨S8x4352x4x2x64, .f32⟩
  | .hbm, ⟨22, _⟩ => ⟨S8x256x4x128, .f32⟩
  | .hbm, ⟨23, _⟩ => ⟨S8x4096x4x128, .f32⟩
  | .hbm, ⟨24, _⟩ => ⟨S8x4352x4x128, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x4x2x4096x4352, .f32⟩
  | .hbm, ⟨41, _⟩ => ⟨S_, .f32⟩
  | .hbm, ⟨42, _⟩ => ⟨S8x4x2x4096x4352, .f32⟩
  | .hbm, ⟨43, _⟩ => ⟨S8x4x2x4096x4352, .f32⟩
  | .hbm, ⟨44, _⟩ => ⟨S_, .f32⟩
  | .hbm, ⟨45, _⟩ => ⟨S8x4x2x4096, .f32⟩
  | .hbm, ⟨46, _⟩ => ⟨S_, .f32⟩
  | .hbm, ⟨47, _⟩ => ⟨S8x4x2x4096, .f32⟩
  | .hbm, ⟨48, _⟩ => ⟨S8x4x2x4096, .f32⟩
  | .hbm, ⟨49, _⟩ => ⟨S8x4x2x4096x1, .f32⟩
  | .hbm, ⟨50, _⟩ => ⟨S8x4x2x4096x4352, .f32⟩
  | .hbm, ⟨51, _⟩ => ⟨S8x4x2x4096x4352, .f32⟩
  | .hbm, ⟨52, _⟩ => ⟨S8x4x2x4096x4352, .f32⟩
  | .hbm, ⟨53, _⟩ => ⟨S_, .f32⟩
  | .hbm, ⟨54, _⟩ => ⟨S8x4x2x4096, .f32⟩
  | .hbm, ⟨55, _⟩ => ⟨S8x4x2x4096x1, .f32⟩
  | .hbm, ⟨56, _⟩ => ⟨S8x4x2x4096x4352, .f32⟩
  | .hbm, ⟨57, _⟩ => ⟨S8x4x2x4096x4352, .f32⟩
  | .hbm, ⟨58, _⟩ => ⟨S8x4x1x4096x4352, .f32⟩
  | .hbm, ⟨59, _⟩ => ⟨S8x4x4096x4352, .f32⟩
  | .hbm, ⟨60, _⟩ => ⟨S8x4x1x4096x4352, .f32⟩
  | .hbm, ⟨61, _⟩ => ⟨S8x4x4096x4352, .f32⟩
  | .hbm, ⟨62, _⟩ => ⟨S8x4x4096x4352, .f32⟩
  | .hbm, ⟨63, _⟩ => ⟨S8x4x4096x4352, .f32⟩
  | .hbm, ⟨64, _⟩ => ⟨S8x4x4096x4352, .f32⟩
  | .hbm, ⟨65, _⟩ => ⟨S8x4x128x4096, .f32⟩
  | .hbm, ⟨66, _⟩ => ⟨S8x4096x4x128, .f32⟩
  | .hbm, ⟨67, _⟩ => ⟨S8x4096x4x128, .f32⟩
  | .hbm, ⟨68, _⟩ => ⟨S_, .f32⟩
  | .hbm, ⟨69, _⟩ => ⟨S8x4096x4, .f32⟩
  | .hbm, ⟨70, _⟩ => ⟨S8x4096x4x1, .f32⟩
  | .hbm, ⟨71, _⟩ => ⟨S_, .f32⟩
  | .hbm, ⟨72, _⟩ => ⟨S8x4096x4x1, .f32⟩
  | .hbm, ⟨73, _⟩ => ⟨S8x4096x4x1, .f32⟩
  | .hbm, ⟨74, _⟩ => ⟨S_, .f32⟩
  | .hbm, ⟨75, _⟩ => ⟨S8x4096x4x1, .f32⟩
  | .hbm, ⟨76, _⟩ => ⟨S8x4096x4x1, .f32⟩
  | .hbm, ⟨77, _⟩ => ⟨S8x4096x4x1, .f32⟩
  | .hbm, ⟨78, _⟩ => ⟨S8x4096x4x128, .f32⟩
  | .hbm, ⟨79, _⟩ => ⟨S8x4096x4x128, .f32⟩
  | .hbm, ⟨80, _⟩ => ⟨S128, .f32⟩
  | .hbm, ⟨81, _⟩ => ⟨S1x1x1x128, .f32⟩
  | .hbm, ⟨82, _⟩ => ⟨S8x4096x4x128, .f32⟩
  | .hbm, ⟨83, _⟩ => ⟨S8x4096x4x128, .f32⟩
  | .hbm, ⟨84, _⟩ => ⟨S_, .f32⟩
  | .hbm, ⟨85, _⟩ => ⟨S8x4096x4x128, .f32⟩
  | .hbm, ⟨86, _⟩ => ⟨S8x4096x4x128, .f32⟩
  | .hbm, ⟨87, _⟩ => ⟨S8x4096x512, .f32⟩
  | .hbm, ⟨88, _⟩ => ⟨S8x4096x512, .bf16⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1x6144 : Shape := ⟨3, ![8, 1, 6144]⟩
abbrev S8x4096x512 : Shape := ⟨3, ![8, 4096, 512]⟩
abbrev S8x4096x2304 : Shape := ⟨3, ![8, 4096, 2304]⟩
abbrev S8x4096x2048 : Shape := ⟨3, ![8, 4096, 2048]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x512x512 : Shape := ⟨3, ![1, 512, 512]⟩
abbrev S1x1x6144 : Shape := ⟨3, ![1, 1, 6144]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩
abbrev S1x1x1024 : Shape := ⟨3, ![1, 1, 1024]⟩
abbrev S1024x704 : Shape := ⟨2, ![1024, 704]⟩
abbrev S256x704 : Shape := ⟨2, ![256, 704]⟩
abbrev S704x1024 : Shape := ⟨2, ![704, 1024]⟩

abbrev nBuf : Space → Nat
  | .hbm => 33
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x2304, .f32⟩
  | .hbm, ⟨6, _⟩ => ⟨S8x4096x512, .bf16⟩
  | .hbm, ⟨7, _⟩ => ⟨S8x4096x2048, .f32⟩
  | .hbm, ⟨8, _⟩ => ⟨S1x512, .f32⟩
  | .hbm, ⟨9, _⟩ => ⟨S1x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S512, .f32⟩
  | .hbm, ⟨17, _⟩ => ⟨S512, .f32⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1024x5632, .f32⟩
  | .hbm, ⟨26, _⟩ => ⟨S1024x5632, .bf16⟩
  | .hbm, ⟨27, _⟩ => ⟨S2816x1024, .f32⟩
  | .hbm, ⟨28, _⟩ => ⟨S2816x1024, .bf16⟩
  | .hbm, ⟨29, _⟩ => ⟨S1x512, .f32⟩
  | .hbm, ⟨30, _⟩ => ⟨S1x512, .f32⟩
  | .hbm, ⟨31, _⟩ => ⟨S1x1024, .f32⟩
  | .hbm, ⟨32, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x1x6144, .f32⟩
  | .local _ .vmem, ⟨19, _⟩ => ⟨S1x1x6144, .f32⟩
  | .local _ .vmem, ⟨20, _⟩ => ⟨S1x512, .f32⟩
  | .local _ .vmem, ⟨21, _⟩ => ⟨S1x512, .f32⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S1024x5632, .bf16⟩
  | .local _ .vmem, ⟨27, _⟩ => ⟨S2816x1024, .bf16⟩
  | .local _ .vmem, ⟨28, _⟩ => ⟨S1x512x1024, .f32⟩
  | .local _ .vmem, ⟨29, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S8x4096x1024 : Shape := ⟨3, ![8, 4096, 1024]⟩
abbrev S8x1x6144 : Shape := ⟨3, ![8, 1, 6144]⟩
abbrev S8x4096x512 : Shape := ⟨3, ![8, 4096, 512]⟩
abbrev S8x4096x2304 : Shape := ⟨3, ![8, 4096, 2304]⟩
abbrev S8x4096x2048 : Shape := ⟨3, ![8, 4096, 2048]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S8x1x1024 : Shape := ⟨3, ![8, 1, 1024]⟩
abbrev S8x4096x8x64 : Shape := ⟨4, ![8, 4096, 8, 64]⟩
abbrev S_ : Shape := ⟨0, ![]⟩
abbrev S8x4096x8 : Shape := ⟨3, ![8, 4096, 8]⟩
abbrev S8x4096x8x1 : Shape := ⟨4, ![8, 4096, 8, 1]⟩
abbrev S512 : Shape := ⟨1, ![512]⟩
abbrev S1x1x512 : Shape := ⟨3, ![1, 1, 512]⟩
abbrev S512x1024 : Shape := ⟨2, ![512, 1024]⟩
abbrev S1024x1024 : Shape := ⟨2, ![1024, 1024]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S2816x1024 : Shape := ⟨2, ![2816, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x4096x2304, .f32⟩
  | .hbm, ⟨6, _⟩ => ⟨S8x4096x512, .bf16⟩
  | .hbm, ⟨7, _⟩ => ⟨S8x4096x2048, .f32⟩
  | .hbm, ⟨8, _⟩ => ⟨S1x512, .f32⟩
  | .hbm, ⟨9, _⟩ => ⟨S1x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x8x64, .f32⟩
  | .hbm, ⟨26, _⟩ => ⟨S_, .f32⟩
  | .hbm, ⟨27, _⟩ => ⟨S8x4096x8, .f32⟩
  | .hbm, ⟨28, _⟩ => ⟨S8x4096x8x1, .f32⟩
  | .hbm, ⟨29, _⟩ => ⟨S_, .f32⟩
  | .hbm, ⟨30, _⟩ => ⟨S8x4096x8x1, .f32⟩
  | .hbm, ⟨31, _⟩ => ⟨S8x4096x8x1, .f32⟩
  | .hbm, ⟨32, _⟩ => ⟨S8x4096x8x64, .f32⟩
  | .hbm, ⟨33, _⟩ => ⟨S8x4096x8x64, .f32⟩
  | .hbm, ⟨34, _⟩ => ⟨S8x4096x8x64, .f32⟩
  | .hbm, ⟨35, _⟩ => ⟨S_, .f32⟩
  | .hbm, ⟨36, _⟩ => ⟨S8x4096x8, .f32⟩
  | .hbm, ⟨37, _⟩ => ⟨S8x4096x8x1, .f32⟩
  | .hbm, ⟨38, _⟩ => ⟨S_, .f32⟩
  | .hbm, ⟨39, _⟩ => ⟨S8x4096x8x1, .f32⟩
  | .hbm, ⟨40, _⟩ => ⟨S8x4096x8x1, .f32⟩
  | .hbm, ⟨41, _⟩ => ⟨S8x4096x8x64, .f32⟩
  | .hbm, ⟨42, _⟩ => ⟨S8x4096x8x64, .f32⟩
  | .hbm, ⟨43, _⟩ => ⟨S_, .f32⟩
  | .hbm, ⟨44, _⟩ => ⟨S8x4096x8x1, .f32⟩
  | .hbm, ⟨45, _⟩ => ⟨S8x4096x8x1, .f32⟩
  | .hbm, ⟨46, _⟩ => ⟨S8x4096x8x1, .f32⟩
  | .hbm, ⟨47, _⟩ => ⟨S8x4096x8x64, .f32⟩
  | .hbm, ⟨48, _⟩ => ⟨S8x4096x8x64, .f32⟩
  | .hbm, ⟨49, _⟩ => ⟨S8x4096x512, .f32⟩
  | .hbm, ⟨50, _⟩ => ⟨S512, .f32⟩
  | .hbm, ⟨51, _⟩ => ⟨S1x1x512, .f32⟩
  | .hbm, ⟨52, _⟩ => ⟨S8x4096x512, .f32⟩
  | .hbm, ⟨53, _⟩ => ⟨S8x4096x512, .f32⟩
  | .hbm, ⟨54, _⟩ => ⟨S512, .f32⟩
  | .hbm, ⟨55, _⟩ => ⟨S1x1x512, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S8x4096x512, .f32⟩
  | .hbm, ⟨60, _⟩ => ⟨S8x4096x512, .f32⟩
  | .hbm, ⟨61, _⟩ => ⟨S8x4096x512, .f32⟩
  | .hbm, ⟨62, _⟩ => ⟨S_, .f32⟩
  | .hbm, ⟨63, _⟩ => ⟨S8x4096x512, .f32⟩
  | .hbm, ⟨64, _⟩ => ⟨S8x4096x512, .f32⟩
  | .hbm, ⟨65, _⟩ => ⟨S_, .f32⟩
  | .hbm, ⟨66, _⟩ => ⟨S8x4096x512, .f32⟩
  | .hbm, ⟨67, _⟩ => ⟨S8x4096x512, .f32⟩
  | .hbm, ⟨68, _⟩ => ⟨S8x4096x512, .f32⟩
  | .hbm, ⟨69, _⟩ => ⟨S8x4096x1024, .f32⟩
  | .hbm, ⟨70, _⟩ => ⟨S8x4096x1024, .f32⟩
  | .hbm, ⟨71, _⟩ => ⟨S8x4096x512, .f32⟩
  | .hbm, ⟨72, _⟩ => ⟨S512x1024, .f32⟩
  | .hbm, ⟨73, _⟩ => ⟨S8x4096x1024, .f32⟩
  | .hbm, ⟨74, _⟩ => ⟨S8x4096x1024, .f32⟩
  | .hbm, ⟨75, _⟩ => ⟨S512x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S1024x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1, .f32⟩
  | .hbm, ⟨95, _⟩ => ⟨S8x4096x1024, .f32⟩
  | .hbm, ⟨96, _⟩ => ⟨S8x4096x1024, .f32⟩
  | .hbm, ⟨97, _⟩ => ⟨S1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | .hbm, ⟨101, _⟩ => ⟨S_, .f32⟩
  | .hbm, ⟨102, _⟩ => ⟨S8x1x1024, .f32⟩
  | .hbm, ⟨103, _⟩ => ⟨S8x1x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S1024x5632, .f32⟩
  | .hbm, ⟨109, _⟩ => ⟨S8x4096x5632, .f32⟩
  | .hbm, ⟨110, _⟩ => ⟨S8x4096x2816, .f32⟩
  | .hbm, ⟨111, _⟩ => ⟨S8x4096x2816, .f32⟩
  | .hbm, ⟨112, _⟩ => ⟨S8x4096x2816, .f32⟩
  | .hbm, ⟨113, _⟩ => ⟨S8x4096x2816, .f32⟩
  | .hbm, ⟨114, _⟩ => ⟨S_, .f32⟩
  | .hbm, ⟨115, _⟩ => ⟨S8x4096x2816, .f32⟩
  | .hbm, ⟨116, _⟩ => ⟨S8x4096x2816, .f32⟩
  | .hbm, ⟨117, _⟩ => ⟨S_, .f32⟩
  | .hbm, ⟨118, _⟩ => ⟨S8x4096x2816, .f32⟩
  | .hbm, ⟨119, _⟩ => ⟨S8x4096x2816, .f32⟩
  | .hbm, ⟨120, _⟩ => ⟨S8x4096x2816, .f32⟩
  | .hbm, ⟨121, _⟩ => ⟨S8x4096x2816, .f32⟩
  | .hbm, ⟨122, _⟩ => ⟨S2816x1024, .f32⟩
  | .hbm, ⟨123, _⟩ => ⟨S8x4096x1024, .f32⟩
  | .hbm, ⟨124, _⟩ => ⟨S8x4096x1024, .f32⟩
  | .hbm, ⟨125, _⟩ => ⟨S8x4096x1024, .f32⟩
  | .hbm, ⟨126, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_6 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_9 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call0_v0 : Ref sig .tc := ⟨.hbm, 112, rfl⟩
abbrev main_call0_v1 : Ref sig .tc := ⟨.hbm, 113, rfl⟩
abbrev main_call0_cst : Ref sig .tc := ⟨.hbm, 114, rfl⟩
abbrev main_call0_v2 : Ref sig .tc := ⟨.hbm, 115, rfl⟩
abbrev main_call0_v3 : Ref sig .tc := ⟨.hbm, 116, rfl⟩
abbrev main_call0_cst_0 : Ref sig .tc := ⟨.hbm, 117, rfl⟩
abbrev main_call0_v4 : Ref sig .tc := ⟨.hbm, 118, rfl⟩
abbrev main_call0_v5 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]
-- ==== Kernel3.lean ====
abbrev S32x256x1024 : Shape := ⟨3, ![32, 256, 1024]⟩
abbrev S1x1x6144 : Shape := ⟨3, ![1, 1, 6144]⟩
abbrev S1x1024 : Shape := ⟨2, ![1, 1024]⟩
abbrev S1x1024x5888 : Shape := ⟨3, ![1, 1024, 5888]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x512 : Shape := ⟨2, ![2, 512]⟩
abbrev S1x8192x1024 : Shape := ⟨3, ![1, 8192, 1024]⟩
abbrev S1024 : Shape := ⟨1, ![1024]⟩
abbrev S1024x5888 : Shape := ⟨2, ![1024, 5888]⟩
abbrev S1x8192x1536 : Shape := ⟨3, ![1, 8192, 1536]⟩
abbrev S1x8192x2304 : Shape := ⟨3, ![1, 8192, 2304]⟩
abbrev S1x8192x2048 : Shape := ⟨3, ![1, 8192, 2048]⟩
abbrev S1x8192x512 : Shape := ⟨3, ![1, 8192, 512]⟩
abbrev S1x512x1024 : Shape := ⟨3, ![1, 512, 1024]⟩
abbrev S1x512x1536 : Shape := ⟨3, ![1, 512, 1536]⟩
abbrev S1x512x2304 : Shape := ⟨3, ![1, 512, 2304]⟩
abbrev S1x512x2048 : Shape := ⟨3, ![1, 512, 2048]⟩
abbrev S1x512x512 : Shape := ⟨3, ![1, 512, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x512 : Shape := ⟨2, ![1024, 512]⟩
abbrev S256x512 : Shape := ⟨2, ![256, 512]⟩
abbrev S256x128 : Shape := ⟨2, ![256, 128]⟩
abbrev S1x256x512 : Shape := ⟨3, ![1, 256, 512]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 27
  | .vmem => 16
  | .smem => 0
  | _ => 0

abbrev bufTy : (tb : Table) → Fin (tcTables nBuf tb) → BufTy
  | .hbm, ⟨0, _⟩ => ⟨S32x256x1024, .f32⟩
  | .hbm, ⟨1, _⟩ => ⟨S1x1x6144, .f32⟩
  | .hbm, ⟨2, _⟩ => ⟨S1x1024, .f32⟩
  | .hbm, ⟨3, _⟩ => ⟨S1x1024x5888, .f32⟩
  | .hbm, ⟨4, _⟩ => ⟨S1x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S64, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S2x512, .f32⟩
  | .hbm, ⟨17, _⟩ => ⟨S1x8192x1024, .f32⟩
  | .hbm, ⟨18, _⟩ => ⟨S1024, .f32⟩
  | .hbm, ⟨19, _⟩ => ⟨S1024x5888, .f32⟩
  | .hbm, ⟨20, _⟩ => ⟨S1024x5888, .bf16⟩
  | .hbm, ⟨21, _⟩ => ⟨S1x1024, .f32⟩
  | .hbm, ⟨22, _⟩ => ⟨S1x8192x1536, .bf16⟩
  | .hbm, ⟨23, _⟩ => ⟨S1x8192x2304, .f32⟩
  | .hbm, ⟨24, _⟩ => ⟨S1x8192x2048, .f32⟩
  | .hbm, ⟨25, _⟩ => ⟨S1x8192x512, .f32⟩
  | .hbm, ⟨26, _⟩ => ⟨S1x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1024, .f32⟩
  | .local _ .vmem, ⟨4, _⟩ => ⟨S1024x5888, .bf16⟩
  | .local _ .vmem, ⟨5, _⟩ => ⟨S2x512, .f32⟩
  | .local _ .vmem, ⟨6, _⟩ => ⟨S1x512x1536, .bf16⟩
  | .local _ .vmem, ⟨7, _⟩ => ⟨S1x512x1536, .bf16⟩
  | .local _ .vmem, ⟨8, _⟩ => ⟨S1x512x2304, .f32⟩
  | .local _ .vmem, ⟨9, _⟩ => ⟨S1x512x2304, .f32⟩
  | .local _ .vmem, ⟨10, _⟩ => ⟨S1x512x2048, .f32⟩
  | .local _ .vmem, ⟨11, _⟩ => ⟨S1x512x2048, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5888 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S32x256x1024 : Shape := ⟨3, ![32, 256, 1024]⟩
abbrev S1x1x6144 : Shape := ⟨3, ![1, 1, 6144]⟩
abbrev S1x1024 : Shape := ⟨2, ![1, 1024]⟩
abbrev S1x1024x5888 : Shape := ⟨3, ![1, 1024, 5888]⟩
abbrev S1x64 : Shape := ⟨2, ![1, 64]⟩
abbrev S1x8192x1024 : Shape := ⟨3, ![1, 8192, 1024]⟩
abbrev S1x1x1024 : Shape := ⟨3, ![1, 1, 1024]⟩
abbrev S_ : Shape := ⟨0, ![]⟩
abbrev S1x8192 : Shape := ⟨2, ![1, 8192]⟩
abbrev S1x8192x1 : Shape := ⟨3, ![1, 8192, 1]⟩
abbrev S1024 : Shape := ⟨1, ![1024]⟩
abbrev S1024x5888 : Shape := ⟨2, ![1024, 5888]⟩
abbrev S1x8192x5888 : Shape := ⟨3, ![1, 8192, 5888]⟩
abbrev S1x8192x512 : Shape := ⟨3, ![1, 8192, 512]⟩
abbrev S1x8192x8x64 : Shape := ⟨4, ![1, 8192, 8, 64]⟩
abbrev S1x8192x8 : Shape := ⟨3, ![1, 8192, 8]⟩
abbrev S1x8192x8x1 : Shape := ⟨4, ![1, 8192, 8, 1]⟩
abbrev S64 : Shape := ⟨1, ![64]⟩
abbrev S1x1x1x64 : Shape := ⟨4, ![1, 1, 1, 64]⟩
abbrev S1x8192x1536 : Shape := ⟨3, ![1, 8192, 1536]⟩
abbrev S1x8192x2304 : Shape := ⟨3, ![1, 8192, 2304]⟩
abbrev S1x8192x2048 : Shape := ⟨3, ![1, 8192, 2048]⟩

abbrev nBuf : Space → Nat
  | .hbm => 95
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1x6144, .f32⟩
  | .hbm, ⟨2, _⟩ => ⟨S1x1024, .f32⟩
  | .hbm, ⟨3, _⟩ => ⟨S1x1024x5888, .f32⟩
  | .hbm, ⟨4, _⟩ => ⟨S1x64, .f32⟩
  | .hbm, ⟨5, _⟩ => ⟨S1x64, .f32⟩
  | .hbm, ⟨6, _⟩ => ⟨S1x8192x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x8192x1024, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | .hbm, ⟨26, _⟩ => ⟨S1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S1x8192x1024, .f32⟩
  | .hbm, ⟨37, _⟩ => ⟨S1024x5888, .f32⟩
  | .hbm, ⟨38, _⟩ => ⟨S1x8192x5888, .f32⟩
  | .hbm, ⟨39, _⟩ => ⟨S1x8192x512, .f32⟩
  | .hbm, ⟨40, _⟩ => ⟨S1x8192x8x64, .f32⟩
  | .hbm, ⟨41, _⟩ => ⟨S1x8192x512, .f32⟩
  | .hbm, ⟨42, _⟩ => ⟨S1x8192x8x64, .f32⟩
  | .hbm, ⟨43, _⟩ => ⟨S1x8192x512, .f32⟩
  | .hbm, ⟨44, _⟩ => ⟨S1x8192x8x64, .f32⟩
  | .hbm, ⟨45, _⟩ => ⟨S_, .f32⟩
  | .hbm, ⟨46, _⟩ => ⟨S1x8192x8, .f32⟩
  | .hbm, ⟨47, _⟩ => ⟨S1x8192x8x1, .f32⟩
  | .hbm, ⟨48, _⟩ => ⟨S_, .f32⟩
  | .hbm, ⟨49, _⟩ => ⟨S1x8192x8x1, .f32⟩
  | .hbm, ⟨50, _⟩ => ⟨S1x8192x8x1, .f32⟩
  | .hbm, ⟨51, _⟩ => ⟨S_, .f32⟩
  | .hbm, ⟨52, _⟩ => ⟨S1x8192x8x1, .f32⟩
  | .hbm, ⟨53, _⟩ => ⟨S1x8192x8x1, .f32⟩
  | .hbm, ⟨54, _⟩ => ⟨S1x8192x8x1, .f32⟩
  | .hbm, ⟨55, _⟩ => ⟨S1x8192x8x64, .f32⟩
  | .hbm, ⟨56, _⟩ => ⟨S1x8192x8x64, .f32⟩
  | .hbm, ⟨57, _⟩ => ⟨S64, .f32⟩
  | .hbm, ⟨58, _⟩ => ⟨S1x1x1x64, .f32⟩
  | .hbm, ⟨59, _⟩ => ⟨S1x8192x8x64, .f32⟩
  | .hbm, ⟨60, _⟩ => ⟨S1x8192x8x64, .f32⟩
  | .hbm, ⟨61, _⟩ => ⟨S1x8192x512, .f32⟩
  | .hbm, ⟨62, _⟩ => ⟨S1x8192x8x64, .f32⟩
  | .hbm, ⟨63, _⟩ => ⟨S_, .f32⟩
  | .hbm, ⟨64, _⟩ => ⟨S1x8192x8, .f32⟩
  | .hbm, ⟨65, _⟩ => ⟨S1x8192x8x1, .f32⟩
  | .hbm, ⟨66, _⟩ => ⟨S_, .f32⟩
  | .hbm, ⟨67, _⟩ => ⟨S1x8192x8x1, .f32⟩
  | .hbm, ⟨68, _⟩ => ⟨S1x8192x8x1, .f32⟩
  | .hbm, ⟨69, _⟩ => ⟨S_, .f32⟩
  | .hbm, ⟨70, _⟩ => ⟨S1x8192x8x1, .f32⟩
  | .hbm, ⟨71, _⟩ => ⟨S1x8192x8x1, .f32⟩
  | .hbm, ⟨72, _⟩ => ⟨S1x8192x8x1, .f32⟩
  | .hbm, ⟨73, _⟩ => ⟨S1x8192x8x64, .f32⟩
  | .hbm, ⟨74, _⟩ => ⟨S1x8192x8x64, .f32⟩
  | .hbm, ⟨75, _⟩ => ⟨S64, .f32⟩
  | .hbm, ⟨76, _⟩ => ⟨S1x1x1x64, .f32⟩
  | .hbm, ⟨77, _⟩ => ⟨S1x8192x8x64, .f32⟩
  | .hbm, ⟨78, _⟩ => ⟨S1x8192x8x64, .f32⟩
  | .hbm, ⟨79, _⟩ => ⟨S1x8192x512, .f32⟩
  | .hbm, ⟨80, _⟩ => ⟨S_, .f32⟩
  | .hbm, ⟨81, _⟩ => ⟨S1x8192x512, .f32⟩
  | .hbm, ⟨82, _⟩ => ⟨S1x8192x512, .f32⟩
  | .hbm, ⟨83, _⟩ => ⟨S1x8192x1536, .f32⟩
  | .hbm, ⟨84, _⟩ => ⟨S1x8192x1536, .bf16⟩
  | .hbm, ⟨85, _⟩ => ⟨S1x8192x2304, .f32⟩
  | .hbm, ⟨86, _⟩ => ⟨S1x8192x2048, .f32⟩
  | .hbm, ⟨87, _⟩ => ⟨S1x8192x2048, .f32⟩
  | .hbm, ⟨88, _⟩ => ⟨S1x8192x2048, .f32⟩
  | .hbm, ⟨89, _⟩ => ⟨S_, .f32⟩
  | .hbm, ⟨90, _⟩ => ⟨S1x8192x2048, .f32⟩
  | .hbm, ⟨91, _⟩ => ⟨S1x8192x2048, .f32⟩
  | .hbm, ⟨92, _⟩ => ⟨S_, .f32⟩
  | .hbm, ⟨93, _⟩ => ⟨S1x8192x2048, .f32⟩
  | .hbm, ⟨94, _⟩ => ⟨S1x8192x2048, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S6144 : Shape := ⟨1, ![6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 12
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1024x6144, .f32⟩
  | .hbm, ⟨18, _⟩ => ⟨S16x6144, .f32⟩
  | .hbm, ⟨19, _⟩ => ⟨S6144, .f32⟩
  | .hbm, ⟨20, _⟩ => ⟨S1x6144, .f32⟩
  | .hbm, ⟨21, _⟩ => ⟨S16x6144, .f32⟩
  | .hbm, ⟨22, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel5.lean ====
abbrev S32x256x1024 : Shape := ⟨3, ![32, 256, 1024]⟩
abbrev S1x1x6144 : Shape := ⟨3, ![1, 1, 6144]⟩
abbrev S1x8192x512 : Shape := ⟨3, ![1, 8192, 512]⟩
abbrev S1x8192x2304 : Shape := ⟨3, ![1, 8192, 2304]⟩
abbrev S1x8192x2048 : Shape := ⟨3, ![1, 8192, 2048]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x8192x1024 : Shape := ⟨3, ![1, 8192, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x512x512 : Shape := ⟨3, ![1, 512, 512]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩
abbrev S1x1x1024 : Shape := ⟨3, ![1, 1, 1024]⟩
abbrev S1024x704 : Shape := ⟨2, ![1024, 704]⟩
abbrev S256x704 : Shape := ⟨2, ![256, 704]⟩
abbrev S704x1024 : Shape := ⟨2, ![704, 1024]⟩

abbrev nBuf : Space → Nat
  | .hbm => 34
  | .vmem => 29
  | .smem => 0
  | _ => 0

abbrev bufTy : (tb : Table) → Fin (tcTables nBuf tb) → BufTy
  | .hbm, ⟨0, _⟩ => ⟨S32x256x1024, .f32⟩
  | .hbm, ⟨1, _⟩ => ⟨S1x1x6144, .f32⟩
  | .hbm, ⟨2, _⟩ => ⟨S1x8192x512, .f32⟩
  | .hbm, ⟨3, _⟩ => ⟨S1x8192x512, .f32⟩
  | .hbm, ⟨4, _⟩ => ⟨S1x8192x512, .f32⟩
  | .hbm, ⟨5, _⟩ => ⟨S1x8192x2304, .f32⟩
  | .hbm, ⟨6, _⟩ => ⟨S1x8192x512, .bf16⟩
  | .hbm, ⟨7, _⟩ => ⟨S1x8192x2048, .f32⟩
  | .hbm, ⟨8, _⟩ => ⟨S1x512, .f32⟩
  | .hbm, ⟨9, _⟩ => ⟨S1x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S1x8192x1024, .f32⟩
  | .hbm, ⟨17, _⟩ => ⟨S512, .f32⟩
  | .hbm, ⟨18, _⟩ => ⟨S512, .f32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1024x5632, .f32⟩
  | .hbm, ⟨27, _⟩ => ⟨S1024x5632, .bf16⟩
  | .hbm, ⟨28, _⟩ => ⟨S2816x1024, .f32⟩
  | .hbm, ⟨29, _⟩ => ⟨S2816x1024, .bf16⟩
  | .hbm, ⟨30, _⟩ => ⟨S1x512, .f32⟩
  | .hbm, ⟨31, _⟩ => ⟨S1x512, .f32⟩
  | .hbm, ⟨32, _⟩ => ⟨S1x1024, .f32⟩
  | .hbm, ⟨33, _⟩ => ⟨S1x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x1x6144, .f32⟩
  | .local _ .vmem, ⟨19, _⟩ => ⟨S1x512, .f32⟩
  | .local _ .vmem, ⟨20, _⟩ => ⟨S1x512, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1024x5632, .bf16⟩
  | .local _ .vmem, ⟨26, _⟩ => ⟨S2816x1024, .bf16⟩
  | .local _ .vmem, ⟨27, _⟩ => ⟨S1x512x1024, .f32⟩
  | .local _ .vmem, ⟨28, _⟩ => ⟨S1x512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S32x256x1024 : Shape := ⟨3, ![32, 256, 1024]⟩
abbrev S1x1x6144 : Shape := ⟨3, ![1, 1, 6144]⟩
abbrev S1x8192x512 : Shape := ⟨3, ![1, 8192, 512]⟩
abbrev S1x8192x2304 : Shape := ⟨3, ![1, 8192, 2304]⟩
abbrev S1x8192x2048 : Shape := ⟨3, ![1, 8192, 2048]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x8192x1024 : Shape := ⟨3, ![1, 8192, 1024]⟩
abbrev S1x1x1024 : Shape := ⟨3, ![1, 1, 1024]⟩
abbrev S1x8192x8x64 : Shape := ⟨4, ![1, 8192, 8, 64]⟩
abbrev S_ : Shape := ⟨0, ![]⟩
abbrev S1x8192x8 : Shape := ⟨3, ![1, 8192, 8]⟩
abbrev S1x8192x8x1 : Shape := ⟨4, ![1, 8192, 8, 1]⟩
abbrev S512 : Shape := ⟨1, ![512]⟩
abbrev S1x1x512 : Shape := ⟨3, ![1, 1, 512]⟩
abbrev S512x1024 : Shape := ⟨2, ![512, 1024]⟩
abbrev S1024x1024 : Shape := ⟨2, ![1024, 1024]⟩
abbrev S1x8192 : Shape := ⟨2, ![1, 8192]⟩
abbrev S1x8192x1 : Shape := ⟨3, ![1, 8192, 1]⟩
abbrev S1024 : Shape := ⟨1, ![1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S2816x1024 : Shape := ⟨2, ![2816, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1x6144, .f32⟩
  | .hbm, ⟨2, _⟩ => ⟨S1x8192x512, .f32⟩
  | .hbm, ⟨3, _⟩ => ⟨S1x8192x512, .f32⟩
  | .hbm, ⟨4, _⟩ => ⟨S1x8192x512, .f32⟩
  | .hbm, ⟨5, _⟩ => ⟨S1x8192x2304, .f32⟩
  | .hbm, ⟨6, _⟩ => ⟨S1x8192x512, .bf16⟩
  | .hbm, ⟨7, _⟩ => ⟨S1x8192x2048, .f32⟩
  | .hbm, ⟨8, _⟩ => ⟨S1x512, .f32⟩
  | .hbm, ⟨9, _⟩ => ⟨S1x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S1x8192x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S1x1x1024, .f32⟩
  | .hbm, ⟨23, _⟩ => ⟨S1x8192x512, .f32⟩
  | .hbm, ⟨24, _⟩ => ⟨S1x8192x512, .f32⟩
  | .hbm, ⟨25, _⟩ => ⟨S1x8192x512, .f32⟩
  | .hbm, ⟨26, _⟩ => ⟨S1x8192x8x64, .f32⟩
  | .hbm, ⟨27, _⟩ => ⟨S_, .f32⟩
  | .hbm, ⟨28, _⟩ => ⟨S1x8192x8, .f32⟩
  | .hbm, ⟨29, _⟩ => ⟨S1x8192x8x1, .f32⟩
  | .hbm, ⟨30, _⟩ => ⟨S_, .f32⟩
  | .hbm, ⟨31, _⟩ => ⟨S1x8192x8x1, .f32⟩
  | .hbm, ⟨32, _⟩ => ⟨S1x8192x8x1, .f32⟩
  | .hbm, ⟨33, _⟩ => ⟨S1x8192x8x64, .f32⟩
  | .hbm, ⟨34, _⟩ => ⟨S1x8192x8x64, .f32⟩
  | .hbm, ⟨35, _⟩ => ⟨S1x8192x8x64, .f32⟩
  | .hbm, ⟨36, _⟩ => ⟨S_, .f32⟩
  | .hbm, ⟨37, _⟩ => ⟨S1x8192x8, .f32⟩
  | .hbm, ⟨38, _⟩ => ⟨S1x8192x8x1, .f32⟩
  | .hbm, ⟨39, _⟩ => ⟨S_, .f32⟩
  | .hbm, ⟨40, _⟩ => ⟨S1x8192x8x1, .f32⟩
  | .hbm, ⟨41, _⟩ => ⟨S1x8192x8x1, .f32⟩
  | .hbm, ⟨42, _⟩ => ⟨S1x8192x8x64, .f32⟩
  | .hbm, ⟨43, _⟩ => ⟨S1x8192x8x64, .f32⟩
  | .hbm, ⟨44, _⟩ => ⟨S_, .f32⟩
  | .hbm, ⟨45, _⟩ => ⟨S1x8192x8x1, .f32⟩
  | .hbm, ⟨46, _⟩ => ⟨S1x8192x8x1, .f32⟩
  | .hbm, ⟨47, _⟩ => ⟨S1x8192x8x1, .f32⟩
  | .hbm, ⟨48, _⟩ => ⟨S1x8192x8x64, .f32⟩
  | .hbm, ⟨49, _⟩ => ⟨S1x8192x8x64, .f32⟩
  | .hbm, ⟨50, _⟩ => ⟨S1x8192x512, .f32⟩
  | .hbm, ⟨51, _⟩ => ⟨S512, .f32⟩
  | .hbm, ⟨52, _⟩ => ⟨S1x1x512, .f32⟩
  | .hbm, ⟨53, _⟩ => ⟨S1x8192x512, .f32⟩
  | .hbm, ⟨54, _⟩ => ⟨S1x8192x512, .f32⟩
  | .hbm, ⟨55, _⟩ => ⟨S512, .f32⟩
  | .hbm, ⟨56, _⟩ => ⟨S1x1x512, .f32⟩
  | .hbm, ⟨57, _⟩ => ⟨S1x8192x512, .f32⟩
  | .hbm, ⟨58, _⟩ => ⟨S1x8192x512, .f32⟩
  | .hbm, ⟨59, _⟩ => ⟨S1x8192x512, .f32⟩
  | .hbm, ⟨60, _⟩ => ⟨S1x8192x512, .f32⟩
  | .hbm, ⟨61, _⟩ => ⟨S1x8192x512, .f32⟩
  | .hbm, ⟨62, _⟩ => ⟨S1x8192x512, .f32⟩
  | .hbm, ⟨63, _⟩ => ⟨S_, .f32⟩
  | .hbm, ⟨64, _⟩ => ⟨S1x8192x512, .f32⟩
  | .hbm, ⟨65, _⟩ => ⟨S1x8192x512, .f32⟩
  | .hbm, ⟨66, _⟩ => ⟨S_, .f32⟩
  | .hbm, ⟨67, _⟩ => ⟨S1x8192x512, .f32⟩
  | .hbm, ⟨68, _⟩ => ⟨S1x8192x512, .f32⟩
  | .hbm, ⟨69, _⟩ => ⟨S1x8192x512, .f32⟩
  | .hbm, ⟨70, _⟩ => ⟨S1x8192x1024, .f32⟩
  | .hbm, ⟨71, _⟩ => ⟨S1x8192x1024, .f32⟩
  | .hbm, ⟨72, _⟩ => ⟨S1x8192x512, .f32⟩
  | .hbm, ⟨73, _⟩ => ⟨S512x1024, .f32⟩
  | .hbm, ⟨74, _⟩ => ⟨S1x8192x1024, .f32⟩
  | .hbm, ⟨75, _⟩ => ⟨S1x8192x1024, .f32⟩
  | .hbm, ⟨76, _⟩ => ⟨S512x1024, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1024x1024, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S_, .f32⟩
  | .hbm, ⟨87, _⟩ => ⟨S1x8192, .f32⟩
  | .hbm, ⟨88, _⟩ => ⟨S1x8192x1, .f32⟩
  | .hbm, ⟨89, _⟩ => ⟨S_, .f32⟩
  | .hbm, ⟨90, _⟩ => ⟨S1x8192x1, .f32⟩
  | .hbm, ⟨91, _⟩ => ⟨S1x8192x1, .f32⟩
  | .hbm, ⟨92, _⟩ => ⟨S_, .f32⟩
  | .hbm, ⟨93, _⟩ => ⟨S1x8192x1, .f32⟩
  | .hbm, ⟨94, _⟩ => ⟨S1x8192x1, .f32⟩
  | .hbm, ⟨95, _⟩ => ⟨S1x8192x1, .f32⟩
  | .hbm, ⟨96, _⟩ => ⟨S1x8192x1024, .f32⟩
  | .hbm, ⟨97, _⟩ => ⟨S1x8192x1024, .f32⟩
  | .hbm, ⟨98, _⟩ => ⟨S1024, .f32⟩
  | .hbm, ⟨99, _⟩ => ⟨S1x1x1024, .f32⟩
  | .hbm, ⟨100, _⟩ => ⟨S1x8192x1024, .f32⟩
  | .hbm, ⟨101, _⟩ => ⟨S1x8192x1024, .f32⟩
  | .hbm, ⟨102, _⟩ => ⟨S_, .f32⟩
  | .hbm, ⟨103, _⟩ => ⟨S1x1x1024, .f32⟩
  | .hbm, ⟨104, _⟩ => ⟨S1x1x1024, .f32⟩
  | .hbm, ⟨105, _⟩ => ⟨S1x8192x1024, .f32⟩
  | .hbm, ⟨106, _⟩ => ⟨S1x8192x1024, .f32⟩
  | .hbm, ⟨107, _⟩ => ⟨S1x8192x1024, .f32⟩
  | .hbm, ⟨108, _⟩ => ⟨S1x8192x1024, .f32⟩
  | .hbm, ⟨109, _⟩ => ⟨S1024x5632, .f32⟩
  | .hbm, ⟨110, _⟩ => ⟨S1x8192x5632, .f32⟩
  | .hbm, ⟨111, _⟩ => ⟨S1x8192x2816, .f32⟩
  | .hbm, ⟨112, _⟩ => ⟨S1x8192x2816, .f32⟩
  | .hbm, ⟨113, _⟩ => ⟨S1x8192x2816, .f32⟩
  | .hbm, ⟨114, _⟩ => ⟨S1x8192x2816, .f32⟩
  | .hbm, ⟨115, _⟩ => ⟨S_, .f32⟩
  | .hbm, ⟨116, _⟩ => ⟨S1x8192x2816, .f32⟩
  | .hbm, ⟨117, _⟩ => ⟨S1x8192x2816, .f32⟩
  | .hbm, ⟨118, _⟩ => ⟨S_, .f32⟩
  | .hbm, ⟨119, _⟩ => ⟨S1x8192x2816, .f32⟩
  | .hbm, ⟨120, _⟩ => ⟨S1x8192x2816, .f32⟩
  | .hbm, ⟨121, _⟩ => ⟨S1x8192x2816, .f32⟩
  | .hbm, ⟨122, _⟩ => ⟨S1x8192x2816, .f32⟩
  | .hbm, ⟨123, _⟩ => ⟨S2816x1024, .f32⟩
  | .hbm, ⟨124, _⟩ => ⟨S1x8192x1024, .f32⟩
  | .hbm, ⟨125, _⟩ => ⟨S1x8192x1024, .f32⟩
  | .hbm, ⟨126, _⟩ => ⟨S1x8192x1024, .f32⟩
  | .hbm, ⟨127, _⟩ => ⟨S1x8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_cst_7 : Ref sig .tc := ⟨.hbm, 89, rfl⟩
abbrev main_v65 : Ref sig .tc := ⟨.hbm, 90, rfl⟩
abbrev main_v66 : Ref sig .tc := ⟨.hbm, 91, rfl⟩
abbrev main_cst_8 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_9 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x1x6144 : Shape := ⟨3, ![8, 1, 6144]⟩
abbrev S1x1024 : Shape := ⟨2, ![1, 1024]⟩
abbrev S1x1024x5888 : Shape := ⟨3, ![1, 1024, 5888]⟩
abbrev S1x64 : Shape := ⟨2, ![1, 64]⟩
abbrev S4096x128 : Shape := ⟨2, ![4096, 128]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x512 : Shape := ⟨2, ![2, 512]⟩
abbrev S1024 : Shape := ⟨1, ![1024]⟩
abbrev S1024x5888 : Shape := ⟨2, ![1024, 5888]⟩
abbrev S8x4096x1536 : Shape := ⟨3, ![8, 4096, 1536]⟩
abbrev S8x4096x2304 : Shape := ⟨3, ![8, 4096, 2304]⟩
abbrev S8x4096x2048 : Shape := ⟨3, ![8, 4096, 2048]⟩
abbrev S1x512x1024 : Shape := ⟨3, ![1, 512, 1024]⟩
abbrev S1x1x6144 : Shape := ⟨3, ![1, 1, 6144]⟩
abbrev S512x128 : Shape := ⟨2, ![512, 128]⟩
abbrev S1x512x1536 : Shape := ⟨3, ![1, 512, 1536]⟩
abbrev S1x512x2304 : Shape := ⟨3, ![1, 512, 2304]⟩
abbrev S1x512x2048 : Shape := ⟨3, ![1, 512, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x512 : Shape := ⟨2, ![1024, 512]⟩
abbrev S256x512 : Shape := ⟨2, ![256, 512]⟩
abbrev S256x128 : Shape := ⟨2, ![256, 128]⟩
abbrev S1x256x512 : Shape := ⟨3, ![1, 256, 512]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 26
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1x1024, .f32⟩
  | .hbm, ⟨3, _⟩ => ⟨S1x1024x5888, .f32⟩
  | .hbm, ⟨4, _⟩ => ⟨S1x64, .f32⟩
  | .hbm, ⟨5, _⟩ => ⟨S1x64, .f32⟩
  | .hbm, ⟨6, _⟩ => ⟨S4096x128, .f32⟩
  | .hbm, ⟨7, _⟩ => ⟨S4096x128, .f32⟩
  | .hbm, ⟨8, _⟩ => ⟨S64, .f32⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S64, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x512, .f32⟩
  | .hbm, ⟨17, _⟩ => ⟨S1x512, .f32⟩
  | .hbm, ⟨18, _⟩ => ⟨S2x512, .f32⟩
  | .hbm, ⟨19, _⟩ => ⟨S1024, .f32⟩
  | .hbm, ⟨20, _⟩ => ⟨S1024x5888, .f32⟩
  | .hbm, ⟨21, _⟩ => ⟨S1024x5888, .bf16⟩
  | .hbm, ⟨22, _⟩ => ⟨S1x1024, .f32⟩
  | .hbm, ⟨23, _⟩ => ⟨S8x4096x1536, .bf16⟩
  | .hbm, ⟨24, _⟩ => ⟨S8x4096x2304, .f32⟩
  | .hbm, ⟨25, _⟩ => ⟨S8x4096x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5888, .bf16⟩
  | .local _ .vmem, ⟨6, _⟩ => ⟨S2x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x1536, .bf16⟩
  | .local _ .vmem, ⟨12, _⟩ => ⟨S1x512x1536, .bf16⟩
  | .local _ .vmem, ⟨13, _⟩ => ⟨S1x512x2304, .f32⟩
  | .local _ .vmem, ⟨14, _⟩ => ⟨S1x512x2304, .f32⟩
  | .local _ .vmem, ⟨15, _⟩ => ⟨S1x512x2048, .f32⟩
  | .local _ .vmem, ⟨16, _⟩ => ⟨S1x512x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5888 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S8x4096x1024 : Shape := ⟨3, ![8, 4096, 1024]⟩
abbrev S8x1x6144 : Shape := ⟨3, ![8, 1, 6144]⟩
abbrev S1x1024 : Shape := ⟨2, ![1, 1024]⟩
abbrev S1x1024x5888 : Shape := ⟨3, ![1, 1024, 5888]⟩
abbrev S1x64 : Shape := ⟨2, ![1, 64]⟩
abbrev S4096x128 : Shape := ⟨2, ![4096, 128]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x5888 : Shape := ⟨2, ![1024, 5888]⟩
abbrev S8x4096x5888 : Shape := ⟨3, ![8, 4096, 5888]⟩
abbrev S8x4096x512 : Shape := ⟨3, ![8, 4096, 512]⟩
abbrev S64 : Shape := ⟨1, ![64]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x16x32 : Shape := ⟨4, ![8, 4096, 16, 32]⟩
abbrev S8x4096x16x16 : Shape := ⟨4, ![8, 4096, 16, 16]⟩
abbrev S8x4096x4x128 : Shape := ⟨4, ![8, 4096, 4, 128]⟩
abbrev S1x4096x1x128 : Shape := ⟨4, ![1, 4096, 1, 128]⟩
abbrev S8x4096x1536 : Shape := ⟨3, ![8, 4096, 1536]⟩
abbrev S8x4096x2304 : Shape := ⟨3, ![8, 4096, 2304]⟩
abbrev S8x4096x2048 : Shape := ⟨3, ![8, 4096, 2048]⟩

abbrev nBuf : Space → Nat
  | .hbm => 124
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1x1024, .f32⟩
  | .hbm, ⟨3, _⟩ => ⟨S1x1024x5888, .f32⟩
  | .hbm, ⟨4, _⟩ => ⟨S1x64, .f32⟩
  | .hbm, ⟨5, _⟩ => ⟨S1x64, .f32⟩
  | .hbm, ⟨6, _⟩ => ⟨S4096x128, .f32⟩
  | .hbm, ⟨7, _⟩ => ⟨S4096x128, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S1024x5888, .f32⟩
  | .hbm, ⟨39, _⟩ => ⟨S8x4096x5888, .f32⟩
  | .hbm, ⟨40, _⟩ => ⟨S8x4096x512, .f32⟩
  | .hbm, ⟨41, _⟩ => ⟨S64, .f32⟩
  | .hbm, ⟨42, _⟩ => ⟨S8x4096x8x64, .f32⟩
  | .hbm, ⟨43, _⟩ => ⟨S8x4096x8x64, .f32⟩
  | .hbm, ⟨44, _⟩ => ⟨S_, .f32⟩
  | .hbm, ⟨45, _⟩ => ⟨S8x4096x8, .f32⟩
  | .hbm, ⟨46, _⟩ => ⟨S8x4096x8x1, .f32⟩
  | .hbm, ⟨47, _⟩ => ⟨S_, .f32⟩
  | .hbm, ⟨48, _⟩ => ⟨S8x4096x8x1, .f32⟩
  | .hbm, ⟨49, _⟩ => ⟨S8x4096x8x1, .f32⟩
  | .hbm, ⟨50, _⟩ => ⟨S_, .f32⟩
  | .hbm, ⟨51, _⟩ => ⟨S8x4096x8x1, .f32⟩
  | .hbm, ⟨52, _⟩ => ⟨S8x4096x8x1, .f32⟩
  | .hbm, ⟨53, _⟩ => ⟨S8x4096x8x1, .f32⟩
  | .hbm, ⟨54, _⟩ => ⟨S8x4096x8x64, .f32⟩
  | .hbm, ⟨55, _⟩ => ⟨S8x4096x8x64, .f32⟩
  | .hbm, ⟨56, _⟩ => ⟨S1x1x1x64, .f32⟩
  | .hbm, ⟨57, _⟩ => ⟨S8x4096x8x64, .f32⟩
  | .hbm, ⟨58, _⟩ => ⟨S8x4096x8x64, .f32⟩
  | .hbm, ⟨59, _⟩ => ⟨S8x4096x512, .f32⟩
  | .hbm, ⟨60, _⟩ => ⟨S8x4096x16x32, .f32⟩
  | .hbm, ⟨61, _⟩ => ⟨S8x4096x16x16, .f32⟩
  | .hbm, ⟨62, _⟩ => ⟨S8x4096x16x16, .f32⟩
  | .hbm, ⟨63, _⟩ => ⟨S8x4096x16x32, .f32⟩
  | .hbm, ⟨64, _⟩ => ⟨S8x4096x4x128, .f32⟩
  | .hbm, ⟨65, _⟩ => ⟨S8x4096x4x128, .f32⟩
  | .hbm, ⟨66, _⟩ => ⟨S1x4096x1x128, .f32⟩
  | .hbm, ⟨67, _⟩ => ⟨S8x4096x4x128, .f32⟩
  | .hbm, ⟨68, _⟩ => ⟨S8x4096x4x128, .f32⟩
  | .hbm, ⟨69, _⟩ => ⟨S1x4096x1x128, .f32⟩
  | .hbm, ⟨70, _⟩ => ⟨S8x4096x4x128, .f32⟩
  | .hbm, ⟨71, _⟩ => ⟨S8x4096x4x128, .f32⟩
  | .hbm, ⟨72, _⟩ => ⟨S8x4096x4x128, .f32⟩
  | .hbm, ⟨73, _⟩ => ⟨S8x4096x512, .f32⟩
  | .hbm, ⟨74, _⟩ => ⟨S8x4096x512, .f32⟩
  | .hbm, ⟨75, _⟩ => ⟨S64, .f32⟩
  | .hbm, ⟨76, _⟩ => ⟨S8x4096x8x64, .f32⟩
  | .hbm, ⟨77, _⟩ => ⟨S8x4096x8x64, .f32⟩
  | .hbm, ⟨78, _⟩ => ⟨S_, .f32⟩
  | .hbm, ⟨79, _⟩ => ⟨S8x4096x8, .f32⟩
  | .hbm, ⟨80, _⟩ => ⟨S8x4096x8x1, .f32⟩
  | .hbm, ⟨81, _⟩ => ⟨S_, .f32⟩
  | .hbm, ⟨82, _⟩ => ⟨S8x4096x8x1, .f32⟩
  | .hbm, ⟨83, _⟩ => ⟨S8x4096x8x1, .f32⟩
  | .hbm, ⟨84, _⟩ => ⟨S_, .f32⟩
  | .hbm, ⟨85, _⟩ => ⟨S8x4096x8x1, .f32⟩
  | .hbm, ⟨86, _⟩ => ⟨S8x4096x8x1, .f32⟩
  | .hbm, ⟨87, _⟩ => ⟨S8x4096x8x1, .f32⟩
  | .hbm, ⟨88, _⟩ => ⟨S8x4096x8x64, .f32⟩
  | .hbm, ⟨89, _⟩ => ⟨S8x4096x8x64, .f32⟩
  | .hbm, ⟨90, _⟩ => ⟨S1x1x1x64, .f32⟩
  | .hbm, ⟨91, _⟩ => ⟨S8x4096x8x64, .f32⟩
  | .hbm, ⟨92, _⟩ => ⟨S8x4096x8x64, .f32⟩
  | .hbm, ⟨93, _⟩ => ⟨S8x4096x512, .f32⟩
  | .hbm, ⟨94, _⟩ => ⟨S8x4096x16x32, .f32⟩
  | .hbm, ⟨95, _⟩ => ⟨S8x4096x16x16, .f32⟩
  | .hbm, ⟨96, _⟩ => ⟨S8x4096x16x16, .f32⟩
  | .hbm, ⟨97, _⟩ => ⟨S8x4096x16x32, .f32⟩
  | .hbm, ⟨98, _⟩ => ⟨S8x4096x4x128, .f32⟩
  | .hbm, ⟨99, _⟩ => ⟨S8x4096x4x128, .f32⟩
  | .hbm, ⟨100, _⟩ => ⟨S1x4096x1x128, .f32⟩
  | .hbm, ⟨101, _⟩ => ⟨S8x4096x4x128, .f32⟩
  | .hbm, ⟨102, _⟩ => ⟨S8x4096x4x128, .f32⟩
  | .hbm, ⟨103, _⟩ => ⟨S1x4096x1x128, .f32⟩
  | .hbm, ⟨104, _⟩ => ⟨S8x4096x4x128, .f32⟩
  | .hbm, ⟨105, _⟩ => ⟨S8x4096x4x128, .f32⟩
  | .hbm, ⟨106, _⟩ => ⟨S8x4096x4x128, .f32⟩
  | .hbm, ⟨107, _⟩ => ⟨S8x4096x512, .f32⟩
  | .hbm, ⟨108, _⟩ => ⟨S8x4096x512, .f32⟩
  | .hbm, ⟨109, _⟩ => ⟨S_, .f32⟩
  | .hbm, ⟨110, _⟩ => ⟨S8x4096x512, .f32⟩
  | .hbm, ⟨111, _⟩ => ⟨S8x4096x512, .f32⟩
  | .hbm, ⟨112, _⟩ => ⟨S8x4096x1536, .f32⟩
  | .hbm, ⟨113, _⟩ => ⟨S8x4096x1536, .bf16⟩
  | .hbm, ⟨114, _⟩ => ⟨S8x4096x2304, .f32⟩
  | .hbm, ⟨115, _⟩ => ⟨S8x4096x2048, .f32⟩
  | .hbm, ⟨116, _⟩ => ⟨S8x4096x2048, .f32⟩
  | .hbm, ⟨117, _⟩ => ⟨S8x4096x2048, .f32⟩
  | .hbm, ⟨118, _⟩ => ⟨S_, .f32⟩
  | .hbm, ⟨119, _⟩ => ⟨S8x4096x2048, .f32⟩
  | .hbm, ⟨120, _⟩ => ⟨S8x4096x2048, .f32⟩
  | .hbm, ⟨121, _⟩ => ⟨S_, .f32⟩
  | .hbm, ⟨122, _⟩ => ⟨S8x4096x2048, .f32⟩
  | .hbm, ⟨123, _⟩ => ⟨S8x4096x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_6 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_9 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_10 : Ref sig .tc := ⟨.hbm, 118, rfl⟩
abbrev main_v99 : Ref sig .tc := ⟨.hbm, 119, rfl⟩
abbrev main_v100 : Ref sig .tc := ⟨.hbm, 120, rfl⟩
abbrev main_cst_11 : Ref sig .tc := ⟨.hbm, 121, rfl⟩
abbrev main_v101 : Ref sig .tc := ⟨.hbm, 122, rfl⟩
abbrev main_v102 : Ref sig .tc := ⟨.hbm, 123, rfl⟩

abbrev nD : Nat := 1
abbrev τ : Topo := Topo.v7x

variable {F : FTy → Type} [FloatOps F]
-- ==== Proof.Softmax.lean ====
/- The mathematics of a softmax taken chunk by chunk, over the real numbers inside the extended reals: a running pair
   (largest score so far, sums weighted by two to the power of score minus that largest score) always holds the plain
   sums divided by two to the running score, so the final quotient does not depend on the running scores. -/
module

public import Idealize.ShloMosaic.Lib.Pointwise
public import Idealize.ShloMosaic.PureOps.Ideal.Laws

@[expose] public section

noncomputable section

namespace Cert.Attn

open Idealize.ShloMosaic

/-- A sum of real numbers taken in the extended reals is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of finitely many real numbers (at least one), taken from minus infinity, is a real number. -/
theorem fold_max_coe {n : ℕ} (hn : 0 < n) (f : Fin n → ℝ) :
    ∃ r : ℝ, (Finset.univ : Finset (Fin n)).fold max (⊥ : EReal) (fun j => ((f j : ℝ) : EReal)) = (r : EReal) := by
  have hs : ∀ s : Finset (Fin n), s.Nonempty → ∃ r : ℝ, s.fold max (⊥ : EReal) (fun j => ((f j : ℝ) : EReal)) = (r : EReal) := by
    intro s hne
    induction hne using Finset.Nonempty.cons_induction with
    | singleton a => exact ⟨f a, by simp⟩
    | cons a s ha hs ih =>
      obtain ⟨r, hr⟩ := ih
      refine ⟨max (f a) r, ?_⟩
      rw [Finset.fold_cons, hr]
      exact (Monotone.map_max (f := fun x : ℝ => (x : EReal)) (fun _ _ h => EReal.coe_le_coe_iff.mpr h)).symm
  exact hs _ ⟨⟨0, hn⟩, Finset.mem_univ _⟩

/-- Two to a difference of real numbers. -/
theorem exp2_sub_coe (a b : ℝ) : Ideal.exp2 ((a : EReal) - (b : EReal)) = (((2 : ℝ) ^ (-b) * (2 : ℝ) ^ a : ℝ) : EReal) := by
  rw [← EReal.coe_sub, Ideal.exp2_coe, ← Real.rpow_add (by norm_num : (0 : ℝ) < 2)]
  congr 1
  show (2 : ℝ) ^ (a - b) = _
  congr 1; ring

/-- The first chunk's weighted sum: two to minus the running score times the plain sum. -/
theorem first_sum {n : ℕ} (σ ν : Fin n → ℝ) (μ : ℝ) :
    ∑ j, Ideal.exp2 ((σ j : EReal) - (μ : EReal)) * ((ν j : ℝ) : EReal)
      = (((2 : ℝ) ^ (-μ) * ∑ j, (2 : ℝ) ^ (σ j) * ν j : ℝ) : EReal) := by
  simp only [exp2_sub_coe, ← EReal.coe_mul]
  rw [coe_sum, Finset.mul_sum]
  congr 1
  exact Finset.sum_congr rfl fun j _ => by ring

/-- One further chunk: the old sums are scaled to the new running score and the chunk's weighted sum is added. -/
theorem step_sum {n : ℕ} (σ ν : Fin n → ℝ) (μ μ' A : ℝ) :
    Ideal.exp2 ((μ : EReal) - (μ' : EReal)) * (((2 : ℝ) ^ (-μ) * A : ℝ) : EReal)
        + ∑ j, Ideal.exp2 ((σ j : EReal) - (μ' : EReal)) * ((ν j : ℝ) : EReal)
      = (((2 : ℝ) ^ (-μ') * (A + ∑ j, (2 : ℝ) ^ (σ j) * ν j) : ℝ) : EReal) := by
  rw [first_sum, exp2_sub_coe, ← EReal.coe_mul, ← EReal.coe_add]
  congr 1
  have h : (2 : ℝ) ^ μ * (2 : ℝ) ^ (-μ) = 1 := by
    rw [← Real.rpow_add (by norm_num : (0 : ℝ) < 2)]; simp
  calc (2 : ℝ) ^ (-μ') * 2 ^ μ * (2 ^ (-μ) * A) + 2 ^ (-μ') * ∑ j, (2 : ℝ) ^ (σ j) * ν j
      = (2 : ℝ) ^ (-μ') * ((2 ^ μ * 2 ^ (-μ)) * A) + 2 ^ (-μ') * ∑ j, (2 : ℝ) ^ (σ j) * ν j := by ring
    _ = _ := by rw [h]; ring

/-- The quotient of two sums carried at one running score is the quotient of the plain sums. -/
theorem div_carried (μ A B : ℝ) (hB : B ≠ 0) :
    Ideal.div (((2 : ℝ) ^ (-μ) * A : ℝ) : EReal) (((2 : ℝ) ^ (-μ) * B : ℝ) : EReal) = ((A / B : ℝ) : EReal) := by
  have h2 : (2 : ℝ) ^ (-μ) ≠ 0 := (Real.rpow_pos_of_pos (by norm_num) _).ne'
  rw [Ideal.div_coe (mul_ne_zero h2 hB), ← EReal.coe_mul]
  congr 1
  field_simp

/-- A quotient of real numbers, the divisor not zero. -/
theorem div_coe_coe (A B : ℝ) (hB : B ≠ 0) : Ideal.div (A : EReal) (B : EReal) = ((A / B : ℝ) : EReal) := by
  rw [Ideal.div_coe hB, ← EReal.coe_mul]
  congr 1
  field_simp

/-- A finite extended real is the real number it reads as. -/
theorem coe_of_abs_lt {x : EReal} (h : max x (-x) < ⊤) : ∃ r : ℝ, x = (r : EReal) := by
  induction x using EReal.rec with
  | bot => simp at h
  | top => simp at h
  | coe r => exact ⟨r, rfl⟩

/-! ## What one head's attention is -/

/-- The score of a query against a key under one of the two maps of a head: the product over the map's 64 lanes. -/
def score (q k : Fin 128 → ℝ) (p : Fin 2) : ℝ :=
  ∑ d : Fin 64, q ⟨64 * p.val + d.val, by omega⟩ * k ⟨64 * p.val + d.val, by omega⟩

/-- The softmax (to the base two) of a query's scores against the first `n` keys, averaged over the values. -/
def attend (n : ℕ) (q : Fin 128 → ℝ) (K V : ℕ → Fin 128 → ℝ) (p : Fin 2) (e : Fin 128) : ℝ :=
  (∑ t ∈ Finset.range n, (2 : ℝ) ^ score q (K t) p * V t e) / ∑ t ∈ Finset.range n, (2 : ℝ) ^ score q (K t) p

/-- The differential attention of a head: the first map's average less `lam` times the second's. -/
def diffAttend (n : ℕ) (lam : EReal) (q : Fin 128 → ℝ) (K V : ℕ → Fin 128 → ℝ) (e : Fin 128) : EReal :=
  ((attend n q K V 0 e : ℝ) : EReal) - lam * ((attend n q K V 1 e : ℝ) : EReal)

/-- The scalar the second map is weighted with, from the four vectors it is learned as. -/
def lamOf (a b c d : Fin 64 → EReal) : EReal :=
  Ideal.exp (∑ i, a i * b i) - Ideal.exp (∑ i, c i * d i) + Ideal.ofBits .f32 0x3E4CCCCD#32

/-- A row of 128 values divided by its root mean square, times the weights, times the constant 0.8. -/
def rmsOut (u w : Fin 128 → EReal) (e : Fin 128) : EReal :=
  u e * Ideal.rsqrt (Ideal.div (∑ i, u i * u i) (Ideal.ofBits .f32 0x43000000#32) + Ideal.ofBits .f32 0x358637BD#32) * w e
    * Ideal.ofBits .f32 0x3F4CCCCD#32

/-- Sum of 128 lanes of which the upper 64 are masked to zero. -/
theorem sum_low (a b : Fin 128 → EReal) :
    ∑ l : Fin 128, (if l.val < 64 then a l else 0) * b l = ∑ d : Fin 64, a ⟨d.val, by omega⟩ * b ⟨d.val, by omega⟩ := by
  rw [show (∑ l : Fin 128, (if l.val < 64 then a l else 0) * b l) = ∑ l : Fin (64 + 64), (if l.val < 64 then a l else 0) * b l from rfl,
    Fin.sum_univ_add]
  have h2 : ∑ i : Fin 64, (if (Fin.natAdd 64 i : Fin (64 + 64)).val < 64 then a (Fin.natAdd 64 i) else 0) * b (Fin.natAdd 64 i) = 0 :=
    Finset.sum_eq_zero fun i _ => by rw [if_neg (by simp), zero_mul]
  rw [h2, add_zero]
  refine Finset.sum_congr rfl fun i _ => ?_
  rw [if_pos (by simp)]; rfl

/-- Sum of 128 lanes of which the lower 64 are masked to zero. -/
theorem sum_high (a b : Fin 128 → EReal) :
    ∑ l : Fin 128, (if 64 ≤ l.val then a l else 0) * b l = ∑ d : Fin 64, a ⟨64 + d.val, by omega⟩ * b ⟨64 + d.val, by omega⟩ := by
  rw [show (∑ l : Fin 128, (if 64 ≤ l.val then a l else 0) * b l) = ∑ l : Fin (64 + 64), (if 64 ≤ l.val then a l else 0) * b l from rfl,
    Fin.sum_univ_add]
  have h2 : ∑ i : Fin 64, (if 64 ≤ (Fin.castAdd 64 i : Fin (64 + 64)).val then a (Fin.castAdd 64 i) else 0) * b (Fin.castAdd 64 i) = 0 :=
    Finset.sum_eq_zero fun i _ => by rw [if_neg (by simp), zero_mul]
  rw [h2, zero_add]
  refine Finset.sum_congr rfl fun i _ => ?_
  rw [if_pos (by simp)]; rfl

end Cert.Attn

end
-- ==== Proof.Block.lean ====
/- What one grid point of the attention computes: its eight chunks of keys, walked with a running largest score and
   running weighted sums, end at the two softmax averages of each query row, their difference, and its norm. -/
module

public import proofs.«01_k».proof.Proof.Gen.KernelIdeal.Frame
public import proofs.«01_k».proof.Proof.Softmax

@[expose] public section

set_option maxRecDepth 16384

noncomputable section

namespace Cert.Attn

open Idealize.ShloMosaic Cert.KernelIdeal Cert.KernelIdeal.Gen

/-- Scores of the 1024 stacked query rows against 512 keys. -/
def sc (q : FVec Ideal S1024x128 .bf16) (k : FVec Ideal S1x512x128 .bf16) : FVec Ideal S1024x512 .f32 :=
  matmul dot_S1024x128_S512x128_S1024x512_1_1_0_0_n_n none q (shapeCast S512x128 k shapeCasts_S1x512x128_S512x128) (constant S1024x512 .f32 0x00000000#32)

/-- Scores of the stacked query rows against the 256 cached keys. -/
def sc0 (q : FVec Ideal S1024x128 .bf16) (k : FVec Ideal S1x256x128 .bf16) : FVec Ideal S1024x256 .f32 :=
  matmul dot_S1024x128_S256x128_S1024x256_1_1_0_0_n_n none q (shapeCast S256x128 k shapeCasts_S1x256x128_S256x128) (constant S1024x256 .f32 0x00000000#32)

/-- The running largest score after the cached keys. -/
def mx0 (s : FVec Ideal S1024x256 .f32) : FVec Ideal S1024x1 .f32 :=
  shapeCast S1024x1 (multiReduction .maximumf [1] S1024 s 0xFF800000#32 reduces_S1024x256_S1024 (.inl rfl) rfl) shapeCasts_S1024_S1024x1

/-- The running largest score after a chunk of 512 keys. -/
def mx (m : FVec Ideal S1024x1 .f32) (s : FVec Ideal S1024x512 .f32) : FVec Ideal S1024x1 .f32 :=
  maximumf m (shapeCast S1024x1 (multiReduction .maximumf [1] S1024 s 0xFF800000#32 reduces_S1024x512_S1024 (.inl rfl) rfl) shapeCasts_S1024_S1024x1)

/-- The weighted sums after the cached keys. -/
def acc0 (m : FVec Ideal S1024x1 .f32) (s : FVec Ideal S1024x256 .f32) (v : FVec Ideal S1x256x128 .bf16) : FVec Ideal S1024x256 .f32 :=
  matmul dot_S1024x256_S256x256_S1024x256_1_0_0_1_n_n none (truncf .bf16 (exp2 (subf s (broadcastTo S1024x256 m broadcasts_S1024x1_S1024x256))) bitsLt_bf16_f32)
    (concatenate S256x256 1 [⟨S256x128, shapeCast S256x128 v shapeCasts_S1x256x128_S256x128⟩, ⟨S256x128, broadcast S256x128 (Scalar.ofBits .bf16 0x3F80#16)⟩] concatenates_S256x128_S256x128_S256x256_d1)
    (constant S1024x256 .f32 0x00000000#32)

/-- The weighted sums after a chunk of 512 keys: the old ones scaled to the new running score `m'`, plus the chunk's. -/
def acc (m m' : FVec Ideal S1024x1 .f32) (a : FVec Ideal S1024x256 .f32) (s : FVec Ideal S1024x512 .f32) (v : FVec Ideal S1x512x128 .bf16) : FVec Ideal S1024x256 .f32 :=
  addf (mulf (broadcastTo S1024x256 (exp2 (subf m m')) broadcasts_S1024x1_S1024x256) a)
    (matmul dot_S1024x512_S512x256_S1024x256_1_0_0_1_n_n none (truncf .bf16 (exp2 (subf s (broadcastTo S1024x512 m' broadcasts_S1024x1_S1024x512))) bitsLt_bf16_f32)
      (concatenate S512x256 1 [⟨S512x128, shapeCast S512x128 v shapeCasts_S1x512x128_S512x128⟩, ⟨S512x128, broadcast S512x128 (Scalar.ofBits .bf16 0x3F80#16)⟩] concatenates_S512x128_S512x128_S512x256_d1)
      (constant S1024x256 .f32 0x00000000#32))

/-- The 512 keys (or values) of chunk `n` of a head's 4096. -/
def chunk (x : FVec Ideal S1x4096x128 .bf16) : ℕ → FVec Ideal S1x512x128 .bf16
  | 0 => View.ld (Val := Elt Ideal) (e' := .bf16) x r0_3
  | 1 => View.ld (Val := Elt Ideal) (e' := .bf16) x r0_4
  | 2 => View.ld (Val := Elt Ideal) (e' := .bf16) x r0_5
  | 3 => View.ld (Val := Elt Ideal) (e' := .bf16) x r0_6
  | 4 => View.ld (Val := Elt Ideal) (e' := .bf16) x r0_7
  | 5 => View.ld (Val := Elt Ideal) (e' := .bf16) x r0_8
  | 6 => View.ld (Val := Elt Ideal) (e' := .bf16) x r0_9
  | _ => View.ld (Val := Elt Ideal) (e' := .bf16) x r0_10

/-- The running largest score after the cached keys and `n` chunks. -/
def mxs (q : FVec Ideal S1024x128 .bf16) (k : FVec Ideal S1x4096x128 .bf16) (ck : FVec Ideal S1x256x128 .bf16) : ℕ → FVec Ideal S1024x1 .f32
  | 0 => mx0 (sc0 q ck)
  | n + 1 => mx (mxs q k ck n) (sc q (chunk k n))

/-- The running weighted sums after the cached keys and `n` chunks. -/
def accs (q : FVec Ideal S1024x128 .bf16) (k v : FVec Ideal S1x4096x128 .bf16) (ck cv : FVec Ideal S1x256x128 .bf16) : ℕ → FVec Ideal S1024x256 .f32
  | 0 => acc0 (mx0 (sc0 q ck)) (sc0 q ck) cv
  | n + 1 => acc (mxs q k ck n) (mxs q k ck (n + 1)) (accs q k v ck cv n) (sc q (chunk k n)) (chunk v n)

/-- The difference of the two softmax averages, from the final sums. -/
def diffOf (lam : FVec Ideal S1x1 .f32) (a : FVec Ideal S1024x256 .f32) : FVec Ideal S512x128 .f32 :=
  have o : FVec Ideal S1024x128 .f32 := divf (extractStridedSlice S1024x128 ![0, 0] a slices_S1024x256_o0_0_S1024x128)
    (extractStridedSlice S1024x128 ![0, 128] a slices_S1024x256_o0_128_S1024x128)
  subf (extractStridedSlice S512x128 ![0, 0] o slices_S1024x128_o0_0_S512x128)
    (mulf (broadcastTo S512x128 lam broadcasts_S1x1_S512x128) (extractStridedSlice S512x128 ![512, 0] o slices_S1024x128_o512_0_S512x128))

/-- Each row divided by its root mean square, times the weights, times 0.8. -/
def normOf (u : FVec Ideal S512x128 .f32) (w : FVec Ideal S1x128 .f32) : FVec Ideal S1x512x128 .bf16 :=
  shapeCast S1x512x128 (truncf .bf16 (mulf (mulf (mulf u (broadcastTo S512x128 (rsqrt (addf (divf
      (shapeCast S512x1 (multiReduction .add [1] S512 (mulf u u) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
      (broadcastTo S512x128 (shapeCast S1x128 w shapeCasts_S1x128_S1x128) broadcasts_S1x128_S512x128))
      (broadcast S512x128 (Scalar.ofBits .f32 0x3F4CCCCD#32))) bitsLt_bf16_f32) shapeCasts_S512x128_S1x512x128

/-- The block a grid point leaves is the eight-chunk walk followed by the difference and the norm. -/
theorem out_eq (x0 : FVec Ideal S1x512x128 .bf16) (x1 x2 : FVec Ideal S1x4096x128 .bf16) (x3 x4 : FVec Ideal S1x256x128 .bf16)
    (x5 : FVec Ideal S4x64 .f32) (x6 : FVec Ideal S1x128 .f32) :
    out0_7 (F := Ideal) x0 x1 x2 x3 x4 x5 x6
      = normOf (diffOf (k0_pay2 (F := Ideal) x5) (accs (k0_pay3 x0) x1 x2 x3 x4 8)) x6 := by
  have h : out0_7 (F := Ideal) x0 x1 x2 x3 x4 x5 x6 = View.canon (Val := Elt Ideal) (e := .bf16) [⟨r0_1, normOf (diffOf (k0_pay2 (View.ld (Val := Elt Ideal) (e' := .f32) x5 r0_0))
      (accs (k0_pay3 (View.ld (Val := Elt Ideal) (e' := .bf16) x0 r0_1)) x1 x2 (View.ld (Val := Elt Ideal) (e' := .bf16) x3 r0_2) (View.ld (Val := Elt Ideal) (e' := .bf16) x4 r0_2) 8)) (View.ld (Val := Elt Ideal) (e' := .f32) x6 r0_11)⟩] := rfl
  rw [h, View.canon_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl), View.ld_unit_zero (by funext a; fin_cases a <;> rfl)]

/-- Bits of minus infinity. -/
theorem ofBits_neg_inf : Ideal.ofBits .f32 0xFF800000#32 = ⊥ := by
  simp [Ideal.ofBits, Ideal.ieee]

theorem mx0_apply (s : FVec Ideal S1024x256 .f32) (r : Fin 1024) :
    mx0 s (ix2 r 0) = Finset.univ.fold max ⊥ fun j : Fin 256 => s (ix2 r j) := by
  pointwise [mx0]
  rw [ofBits_neg_inf]

theorem mx_apply (m : FVec Ideal S1024x1 .f32) (s : FVec Ideal S1024x512 .f32) (r : Fin 1024) :
    mx m s (ix2 r 0) = max (m (ix2 r 0)) (Finset.univ.fold max ⊥ fun j : Fin 512 => s (ix2 r j)) := by
  pointwise [mx]
  rw [ofBits_neg_inf]

theorem acc0_apply (m : FVec Ideal S1024x1 .f32) (s : FVec Ideal S1024x256 .f32)
    (v : FVec Ideal S1x256x128 .bf16) (r : Fin 1024) (e : Fin 256) :
    acc0 m s v (ix2 r e)
      = ∑ j : Fin 256, Ideal.exp2 (s (ix2 r j) - m (ix2 r 0)) * (if h : e.val < 128 then v (ix3 0 j ⟨e.val, h⟩) else 1) := by
  pointwise [acc0]
  rfl

theorem acc_apply (m m' : FVec Ideal S1024x1 .f32) (a : FVec Ideal S1024x256 .f32) (s : FVec Ideal S1024x512 .f32)
    (v : FVec Ideal S1x512x128 .bf16) (r : Fin 1024) (e : Fin 256) :
    acc m m' a s v (ix2 r e) = Ideal.exp2 (m (ix2 r 0) - m' (ix2 r 0)) * a (ix2 r e)
      + ∑ j : Fin 512, Ideal.exp2 (s (ix2 r j) - m' (ix2 r 0)) * (if h : e.val < 128 then v (ix3 0 j ⟨e.val, h⟩) else 1) := by
  pointwise [acc]
  rfl

theorem sc_apply (q : FVec Ideal S1024x128 .bf16) (k : FVec Ideal S1x512x128 .bf16) (r : Fin 1024) (j : Fin 512) :
    sc q k (ix2 r j) = ∑ d : Fin 128, q (ix2 r d) * k (ix3 0 j d) := by
  pointwise [sc]

theorem sc0_apply (q : FVec Ideal S1024x128 .bf16) (k : FVec Ideal S1x256x128 .bf16) (r : Fin 1024) (j : Fin 256) :
    sc0 q k (ix2 r j) = ∑ d : Fin 128, q (ix2 r d) * k (ix3 0 j d) := by
  pointwise [sc0]

theorem q_apply (x : FVec Ideal S1x512x128 .bf16) (r : Fin 1024) (l : Fin 128) :
    k0_pay3 x (ix2 r l) = if h : r.val < 512 then (if l.val < 64 then x (ix3 0 ⟨r.val, h⟩ l) else 0)
      else (if 64 ≤ l.val then x (ix3 0 ⟨r.val - 512, by omega⟩ l) else 0) := by
  pointwise [k0_pay3]
  have h1 : IntOp.cmpi CmpIPredicate.slt (BitVec.ofNat 32 l.val) 64#32 = BitVec.ofBool (decide (l.val < 64)) := by
    revert l; decide
  have h2 : IntOp.cmpi CmpIPredicate.sge (BitVec.ofNat 32 l.val) 64#32 = BitVec.ofBool (decide (64 ≤ l.val)) := by
    revert l; decide
  rw [h1, h2]
  by_cases h3 : l.val < 64
  · have h4 : ¬ 64 ≤ l.val := by omega
    simp [h3, h4, Scalar.select]
  · have h4 : 64 ≤ l.val := by omega
    simp [h3, h4, Scalar.select]

theorem lam_apply (x : FVec Ideal S4x64 .f32) :
    k0_pay2 (F := Ideal) x (ix2 0 0) = lamOf (fun i => x (ix2 0 i)) (fun i => x (ix2 1 i)) (fun i => x (ix2 2 i)) (fun i => x (ix2 3 i)) := by
  pointwise [k0_pay2, lamOf]

theorem diffOf_apply (lam : FVec Ideal S1x1 .f32) (a : FVec Ideal S1024x256 .f32) (i : Fin 512) (e : Fin 128) :
    diffOf lam a (ix2 i e) = Ideal.div (a (ix2 ⟨i.val, by omega⟩ ⟨e.val, by omega⟩)) (a (ix2 ⟨i.val, by omega⟩ ⟨128 + e.val, by omega⟩))
      - lam (ix2 0 0) * Ideal.div (a (ix2 ⟨512 + i.val, by omega⟩ ⟨e.val, by omega⟩)) (a (ix2 ⟨512 + i.val, by omega⟩ ⟨128 + e.val, by omega⟩)) := by
  pointwise [diffOf]

theorem normOf_apply (u : FVec Ideal S512x128 .f32) (w : FVec Ideal S1x128 .f32) (i : Fin 512) (e : Fin 128) :
    normOf u w (ix3 0 i e) = rmsOut (fun e => u (ix2 i e)) (fun e => w (ix2 0 e)) e := by
  pointwise [normOf, rmsOut]

theorem chunk_apply (x : FVec Ideal S1x4096x128 .bf16) (n : Fin 8) (j : Fin 512) (l : Fin 128) :
    chunk x n.val (ix3 0 j l) = x (ix3 0 ⟨512 * n.val + j.val, by omega⟩ l) := by
  fin_cases n <;> (show x _ = x _; refine congrArg x ?_) <;> (funext a; fin_cases a <;> (apply Fin.ext; simp [Rect.emb, Rect.unit, ix3]))

end Cert.Attn

end
-- ==== Proof.Walk.lean ====
/- The eight-chunk walk of one grid point, over real inputs: after every chunk the running sums are the plain sums over
   the keys met so far divided by two to the running score, so the block the point leaves is the differential attention
   of its queries over all 4352 keys, normed. -/
module

public import proofs.«01_k».proof.Proof.Block

@[expose] public section

set_option maxRecDepth 16384

noncomputable section

namespace Cert.Attn

open Idealize.ShloMosaic Cert.KernelIdeal Cert.KernelIdeal.Gen

/-- A value row with ones appended: the sums over the ones are the softmax's denominators. -/
def aug (v : Fin 128 → ℝ) (e : Fin 256) : ℝ := if h : e.val < 128 then v ⟨e.val, h⟩ else 1

/-- The plain sums of a row over the first `n` keys. -/
def plain (σ : ℕ → ℝ) (V : ℕ → Fin 128 → ℝ) (n : ℕ) (e : Fin 256) : ℝ := ∑ t ∈ Finset.range n, (2 : ℝ) ^ σ t * aug (V t) e

/-- The running pair after `n` keys: some real running score per row, and the plain sums divided by two to it. -/
def Inv (m : FVec Ideal S1024x1 .f32) (a : FVec Ideal S1024x256 .f32) (σ : Fin 1024 → ℕ → ℝ) (V : ℕ → Fin 128 → ℝ) (n : ℕ) : Prop :=
  ∀ r : Fin 1024, ∃ μ : ℝ, m (ix2 r 0) = (μ : EReal) ∧ ∀ e, a (ix2 r e) = (((2 : ℝ) ^ (-μ) * plain (σ r) V n e : ℝ) : EReal)

/-- A value row with ones appended, as it is read in the extended reals. -/
theorem aug_coe {n : ℕ} (v : (⟨3, ![1, n, 128]⟩ : Shape).Idx → EReal) (j : Fin n) (w : Fin 128 → ℝ) (hv : ∀ e, v (ix3 0 j e) = ((w e : ℝ) : EReal))
    (e : Fin 256) : (if h : e.val < 128 then v (ix3 0 j ⟨e.val, h⟩) else 1) = ((aug w e : ℝ) : EReal) := by
  unfold aug
  by_cases h : e.val < 128
  · simp [h, hv]
  · simp [h]

/-- After the cached keys the running pair holds their sums. -/
theorem inv_first (s : FVec Ideal S1024x256 .f32) (v : FVec Ideal S1x256x128 .bf16) (σ : Fin 1024 → ℕ → ℝ) (V : ℕ → Fin 128 → ℝ)
    (hs : ∀ r (j : Fin 256), s (ix2 r j) = ((σ r j.val : ℝ) : EReal)) (hv : ∀ (j : Fin 256) e, v (ix3 0 j e) = ((V j.val e : ℝ) : EReal)) :
    Inv (mx0 s) (acc0 (mx0 s) s v) σ V 256 := by
  intro r
  obtain ⟨μ, hμ⟩ := fold_max_coe (n := 256) (by norm_num) fun j => σ r j.val
  have hm : mx0 s (ix2 r 0) = (μ : EReal) := by
    rw [mx0_apply, ← hμ]; exact congrArg (fun f => Finset.univ.fold max ⊥ f) (funext fun j => hs r j)
  refine ⟨μ, hm, fun e => ?_⟩
  rw [acc0_apply, hm]
  rw [Finset.sum_congr rfl fun j _ => by rw [hs r j, aug_coe v j (V j.val) (hv j) e], first_sum]
  rw [plain, Finset.sum_range]

/-- One chunk of 512 keys carries the running pair on. -/
theorem inv_step (n : ℕ) (m : FVec Ideal S1024x1 .f32) (a : FVec Ideal S1024x256 .f32) (s : FVec Ideal S1024x512 .f32)
    (v : FVec Ideal S1x512x128 .bf16) (σ : Fin 1024 → ℕ → ℝ) (V : ℕ → Fin 128 → ℝ) (h : Inv m a σ V n)
    (hs : ∀ r (j : Fin 512), s (ix2 r j) = ((σ r (n + j.val) : ℝ) : EReal))
    (hv : ∀ (j : Fin 512) e, v (ix3 0 j e) = ((V (n + j.val) e : ℝ) : EReal)) :
    Inv (mx m s) (acc m (mx m s) a s v) σ V (n + 512) := by
  intro r
  obtain ⟨μ, hμ, ha⟩ := h r
  obtain ⟨μ₁, hμ₁⟩ := fold_max_coe (n := 512) (by norm_num) fun j => σ r (n + j.val)
  have hm : mx m s (ix2 r 0) = ((max μ μ₁ : ℝ) : EReal) := by
    rw [mx_apply, hμ, show (fun j : Fin 512 => s (ix2 r j)) = fun j => ((σ r (n + j.val) : ℝ) : EReal) from funext fun j => hs r j, hμ₁]
    exact (Monotone.map_max (f := fun x : ℝ => (x : EReal)) (fun _ _ h => EReal.coe_le_coe_iff.mpr h)).symm
  refine ⟨_, hm, fun e => ?_⟩
  rw [acc_apply, hm, hμ, ha e]
  rw [Finset.sum_congr rfl fun j _ => by rw [hs r j, aug_coe v j (V (n + j.val)) (hv j) e], step_sum]
  rw [plain, plain, Finset.sum_range_add, Finset.sum_range (n := 512)]

/-- The query row a row of the stacked block stands for, and the map it is masked to. -/
def rowScore (qq : Fin 512 → Fin 128 → ℝ) (K : ℕ → Fin 128 → ℝ) (r : Fin 1024) (t : ℕ) : ℝ :=
  if h : r.val < 512 then score (qq ⟨r.val, h⟩) (K t) 0 else score (qq ⟨r.val - 512, by omega⟩) (K t) 1

/-- A masked row's product with a key over 128 lanes is its map's score. -/
theorem masked_dot (x : FVec Ideal S1x512x128 .bf16) (qq : Fin 512 → Fin 128 → ℝ) (hq : ∀ i l, x (ix3 0 i l) = ((qq i l : ℝ) : EReal))
    (K : ℕ → Fin 128 → ℝ) (t : ℕ) (k : Fin 128 → EReal) (hk : ∀ l, k l = ((K t l : ℝ) : EReal)) (r : Fin 1024) :
    ∑ d : Fin 128, k0_pay3 (F := Ideal) x (ix2 r d) * k d = ((rowScore qq K r t : ℝ) : EReal) := by
  unfold rowScore score
  by_cases h : r.val < 512
  · rw [dif_pos h, ← coe_sum]
    simp only [q_apply, dif_pos h]
    rw [sum_low (fun l => x (ix3 0 ⟨r.val, h⟩ l)) k]
    refine Finset.sum_congr rfl fun d _ => ?_
    rw [hq, hk, EReal.coe_mul]
    simp
  · rw [dif_neg h, ← coe_sum]
    simp only [q_apply, dif_neg h]
    rw [sum_high (fun l => x (ix3 0 ⟨r.val - 512, by omega⟩ l)) k]
    refine Finset.sum_congr rfl fun d _ => ?_
    rw [hq, hk, EReal.coe_mul]
    simp

section Block

variable (x0 : FVec Ideal S1x512x128 .bf16) (x1 x2 : FVec Ideal S1x4096x128 .bf16) (x3 x4 : FVec Ideal S1x256x128 .bf16)
  (qq : Fin 512 → Fin 128 → ℝ) (K V : ℕ → Fin 128 → ℝ)
  (h0 : ∀ i l, x0 (ix3 0 i l) = ((qq i l : ℝ) : EReal))
  (h1 : ∀ (j : Fin 4096) l, x1 (ix3 0 j l) = ((K (256 + j.val) l : ℝ) : EReal))
  (h2 : ∀ (j : Fin 4096) l, x2 (ix3 0 j l) = ((V (256 + j.val) l : ℝ) : EReal))
  (h3 : ∀ (j : Fin 256) l, x3 (ix3 0 j l) = ((K j.val l : ℝ) : EReal))
  (h4 : ∀ (j : Fin 256) l, x4 (ix3 0 j l) = ((V j.val l : ℝ) : EReal))

include h0 h1 h2 h3 h4 in
/-- After `n` of the eight chunks the running pair holds the sums over the cached keys and those chunks. -/
theorem inv_walk (n : ℕ) (hn : n ≤ 8) :
    Inv (mxs (k0_pay3 x0) x1 x3 n) (accs (k0_pay3 x0) x1 x2 x3 x4 n) (rowScore qq K) V (256 + 512 * n) := by
  induction n with
  | zero =>
    exact inv_first _ _ _ _ (fun r j => by
      rw [sc0_apply]; exact masked_dot x0 qq h0 K j.val (fun d => x3 (ix3 0 j d)) (fun l => h3 j l) r) h4
  | succ n ih =>
    have hj : ∀ j : Fin 512, 256 + (512 * n + j.val) = 256 + 512 * n + j.val := fun j => by omega
    exact inv_step (256 + 512 * n) _ _ _ _ _ _ (ih (by omega)) (fun r j => by
      rw [sc_apply]
      refine masked_dot x0 qq h0 K _ (fun d => chunk x1 n (ix3 0 j d)) (fun l => ?_) r
      rw [chunk_apply x1 ⟨n, by omega⟩ j l, h1, hj]) (fun j e => by
      rw [chunk_apply x2 ⟨n, by omega⟩ j e, h2, hj])

/-- Two to a real power is positive, so a softmax's denominator is not zero. -/
theorem den_ne (n : ℕ) (hn : 0 < n) (σ : ℕ → ℝ) : ∑ t ∈ Finset.range n, (2 : ℝ) ^ σ t ≠ 0 :=
  (Finset.sum_pos (fun _ _ => Real.rpow_pos_of_pos (by norm_num) _) ⟨0, Finset.mem_range.mpr hn⟩).ne'

include h0 h1 h2 h3 h4 in
/-- A row's first 128 final sums over its last 128 are the softmax average of its map. -/
theorem quot_walk (p : Fin 2) (i : Fin 512) (e : Fin 128) (r : Fin 1024) (hr : r.val = 512 * p.val + i.val) (ea eb : Fin 256)
    (hea : ea.val = e.val) (heb : eb.val = 128 + e.val) :
    Ideal.div (accs (k0_pay3 x0) x1 x2 x3 x4 8 (ix2 r ea)) (accs (k0_pay3 x0) x1 x2 x3 x4 8 (ix2 r eb))
      = ((attend 4352 (qq i) K V p e : ℝ) : EReal) := by
  obtain ⟨μ, -, ha⟩ := inv_walk x0 x1 x2 x3 x4 qq K V h0 h1 h2 h3 h4 8 le_rfl r
  have hs : ∀ t, rowScore qq K r t = score (qq i) (K t) p := by
    intro t
    unfold rowScore
    fin_cases p
    · have h : r.val < 512 := by simp at hr; omega
      rw [dif_pos h]; congr 2; apply Fin.ext; simpa using hr
    · have h : ¬ r.val < 512 := by simp at hr; omega
      rw [dif_neg h]; congr 2; apply Fin.ext; simp at hr; simp [hr]
  have hA : plain (rowScore qq K r) V (256 + 512 * 8) ea = ∑ t ∈ Finset.range 4352, (2 : ℝ) ^ score (qq i) (K t) p * V t e := by
    unfold plain aug
    refine Finset.sum_congr rfl fun t _ => ?_
    rw [hs, dif_pos (by omega : ea.val < 128)]; congr 2; exact Fin.ext hea
  have hB : plain (rowScore qq K r) V (256 + 512 * 8) eb = ∑ t ∈ Finset.range 4352, (2 : ℝ) ^ score (qq i) (K t) p := by
    unfold plain aug
    refine Finset.sum_congr rfl fun t _ => ?_
    rw [hs, dif_neg (by omega : ¬ eb.val < 128), mul_one]
  rw [ha, ha, hA, hB, div_carried _ _ _ (den_ne 4352 (by norm_num) _)]
  rfl

include h0 h1 h2 h3 h4 in
/-- The block a grid point leaves: each query's differential attention over the 4352 keys, normed. -/
theorem out_apply (x5 : FVec Ideal S4x64 .f32) (x6 : FVec Ideal S1x128 .f32) (i : Fin 512) (e : Fin 128) :
    out0_7 (F := Ideal) x0 x1 x2 x3 x4 x5 x6 (ix3 0 i e)
      = rmsOut (diffAttend 4352 (lamOf (fun i => x5 (ix2 0 i)) (fun i => x5 (ix2 1 i)) (fun i => x5 (ix2 2 i)) (fun i => x5 (ix2 3 i))) (qq i) K V)
          (fun e => x6 (ix2 0 e)) e := by
  have hd : (fun d => diffOf (k0_pay2 (F := Ideal) x5) (accs (k0_pay3 x0) x1 x2 x3 x4 8) (ix2 i d))
      = diffAttend 4352 (lamOf (fun i => x5 (ix2 0 i)) (fun i => x5 (ix2 1 i)) (fun i => x5 (ix2 2 i)) (fun i => x5 (ix2 3 i))) (qq i) K V := by
    funext d
    rw [diffOf_apply, lam_apply,
      quot_walk x0 x1 x2 x3 x4 qq K V h0 h1 h2 h3 h4 0 i d _ (by simp) _ _ rfl rfl,
      quot_walk x0 x1 x2 x3 x4 qq K V h0 h1 h2 h3 h4 1 i d _ (by simp) _ _ rfl rfl, diffAttend]
  rw [out_eq, normOf_apply, hd]

end Block

end Cert.Attn

end
-- ==== Proof.Spec.lean ====
/- The closed form of the attention's result, over the arrays it is given: what both programs are shown to leave. -/
module

public import proofs.«01_k».proof.Proof.Softmax

@[expose] public section

noncomputable section

namespace Cert.Attn

open Idealize.ShloMosaic

section Spec

variable (x : FVec Ideal ⟨3, ![8, 4096, 1536]⟩ .bf16) (k : FVec Ideal ⟨6, ![8, 1, 256, 4, 2, 64]⟩ .f32) (v : FVec Ideal ⟨5, ![8, 1, 256, 4, 128]⟩ .f32)
  (a b c d : FVec Ideal ⟨2, ![1, 64]⟩ .f32) (w : FVec Ideal ⟨2, ![1, 128]⟩ .f32)

/-- A token's query of a head, as real numbers. -/
def queryAt (bt : Fin 8) (h : Fin 4) (t : Fin 4096) (l : Fin 128) : ℝ := (x (ix3 bt t ⟨128 * h.val + l.val, by omega⟩)).toReal

/-- A head's keys: the 256 cached ones, then the batch's own 4096. -/
def keyAt (bt : Fin 8) (h : Fin 4) (t : ℕ) (l : Fin 128) : ℝ :=
  if ht : t < 256 then (k (ix6 bt 0 ⟨t, ht⟩ h ⟨l.val / 64, by omega⟩ ⟨l.val % 64, by omega⟩)).toReal
  else if ht' : t < 4352 then (x (ix3 bt ⟨t - 256, by omega⟩ ⟨512 + 128 * h.val + l.val, by omega⟩)).toReal else 0

/-- A head's values: the 256 cached ones, then the batch's own 4096. -/
def valueAt (bt : Fin 8) (h : Fin 4) (t : ℕ) (l : Fin 128) : ℝ :=
  if ht : t < 256 then (v (ix5 bt 0 ⟨t, ht⟩ h l)).toReal
  else if ht' : t < 4352 then (x (ix3 bt ⟨t - 256, by omega⟩ ⟨1024 + 128 * h.val + l.val, by omega⟩)).toReal else 0

/-- The weight of the second map. -/
def lamAt : EReal := lamOf (fun i => a (ix2 0 i)) (fun i => b (ix2 0 i)) (fun i => c (ix2 0 i)) (fun i => d (ix2 0 i))

/-- One entry of the result: batch, token, head, and channel within the head. -/
def entry (bt : Fin 8) (t : Fin 4096) (h : Fin 4) (e : Fin 128) : EReal :=
  rmsOut (diffAttend 4352 (lamAt a b c d) (queryAt x bt h t) (keyAt x k bt h) (valueAt x v bt h)) (fun e => w (ix2 0 e)) e

/-- The whole result. -/
def result : FVec Ideal ⟨3, ![8, 4096, 512]⟩ .bf16 := fun i =>
  entry x k v a b c d w (i 0) (i 1) ⟨(i 2).val / 128, by have := (i 2).isLt; simp at this; omega⟩ ⟨(i 2).val % 128, by omega⟩

end Spec

/-- The launch buffers hold real numbers: the queries, keys and values, and the cached keys and values. -/
def Finite (x : FVec Ideal ⟨3, ![8, 4096, 1536]⟩ .bf16) (k : FVec Ideal ⟨6, ![8, 1, 256, 4, 2, 64]⟩ .f32) (v : FVec Ideal ⟨5, ![8, 1, 256, 4, 128]⟩ .f32) : Prop :=
  (∀ i, ((x i).toReal : EReal) = x i) ∧ (∀ i, ((k i).toReal : EReal) = k i) ∧ (∀ i, ((v i).toReal : EReal) = v i)

end Cert.Attn

end
-- ==== Proof.Array.lean ====
/- What the attention call's result array holds: at every token and channel, the differential attention of that token's
   query over the 256 cached and the 4096 own keys of its batch and head, normed. -/
module

public import proofs.«01_k».proof.Proof.Gen.KernelIdeal.Value
public import proofs.«01_k».proof.Proof.Walk
public import proofs.«01_k».proof.Proof.Spec
public import Idealize.ShloMosaic.Lib.Pipeline.ValueKit.Geometry

@[expose] public section

set_option maxRecDepth 16384

noncomputable section

namespace Cert.Attn

open Idealize.ShloMosaic Cert.KernelIdeal Cert.KernelIdeal.Gen

variable (m : (ℓ : Loc nD τ sig) → Buf (Elt Ideal) ℓ)

/-! ## What the host's reshapes leave -/

/-- The cached keys, their head axes joined. -/
def keysOf (k : FVec Ideal S8x1x256x4x2x64 .f32) : FVec Ideal S8x256x512 .bf16 :=
  truncf .bf16 (shapeCast S8x256x512 (shapeCast S8x256x4x2x64 k shapeCasts_S8x1x256x4x2x64_S8x256x4x2x64) shapeCasts_S8x256x4x2x64_S8x256x512) bitsLt_bf16_f32

/-- The cached values, their head axes joined. -/
def valuesOf (v : FVec Ideal S8x1x256x4x128 .f32) : FVec Ideal S8x256x512 .bf16 :=
  truncf .bf16 (shapeCast S8x256x512 (shapeCast S8x256x4x128 v shapeCasts_S8x1x256x4x128_S8x256x4x128) shapeCasts_S8x256x4x128_S8x256x512) bitsLt_bf16_f32

/-- The four vectors stacked. -/
def lamsOf (a b c d : FVec Ideal S1x64 .f32) : FVec Ideal S4x64 .f32 :=
  concatenate S4x64 0 [⟨S1x64, broadcastInDim S1x64 ![1] bcast_S64_S1x64_1 (shapeCast S64 a shapeCasts_S1x64_S64)⟩,
    ⟨S1x64, broadcastInDim S1x64 ![1] bcast_S64_S1x64_1 (shapeCast S64 b shapeCasts_S1x64_S64)⟩,
    ⟨S1x64, broadcastInDim S1x64 ![1] bcast_S64_S1x64_1 (shapeCast S64 c shapeCasts_S1x64_S64)⟩,
    ⟨S1x64, broadcastInDim S1x64 ![1] bcast_S64_S1x64_1 (shapeCast S64 d shapeCasts_S1x64_S64)⟩] concatenates_S1x64_S1x64_S1x64_S1x64_S4x64_d0

theorem keysOf_apply (k : FVec Ideal S8x1x256x4x2x64 .f32) (bt : Fin 8) (j : Fin 256) (h : Fin 4) (l : Fin 128) :
    keysOf k (ix3 bt j ⟨128 * h.val + l.val, by omega⟩) = k (ix6 bt 0 j h ⟨l.val / 64, by omega⟩ ⟨l.val % 64, by omega⟩) := by
  pointwise [keysOf]
  congr 2 <;> apply Fin.ext <;> simp <;> omega

theorem valuesOf_apply (v : FVec Ideal S8x1x256x4x128 .f32) (bt : Fin 8) (j : Fin 256) (h : Fin 4) (l : Fin 128) :
    valuesOf v (ix3 bt j ⟨128 * h.val + l.val, by omega⟩) = v (ix5 bt 0 j h l) := by
  pointwise [valuesOf]

theorem lamsOf_apply (a b c d : FVec Ideal S1x64 .f32) (i : Fin 64) :
    lamsOf a b c d (ix2 0 i) = a (ix2 0 i) ∧ lamsOf a b c d (ix2 1 i) = b (ix2 0 i)
      ∧ lamsOf a b c d (ix2 2 i) = c (ix2 0 i) ∧ lamsOf a b c d (ix2 3 i) = d (ix2 0 i) := by
  refine ⟨?_, ?_, ?_, ?_⟩ <;> pointwise [lamsOf]

/-- The cached keys as the call finds them. -/
theorem V_keys (c : Dev nD) : V m c main_v2 = keysOf (m (c.tc.loc main_arg1)) := by
  unfold_abbrev_sides
  after_results
  rfl

/-- The cached values as the call finds them. -/
theorem V_values (c : Dev nD) : V m c main_v5 = valuesOf (m (c.tc.loc main_arg2)) := by
  unfold_abbrev_sides
  after_results
  rfl

/-- The four vectors as the call finds them. -/
theorem V_lams (c : Dev nD) : V m c main_v14
    = lamsOf (m (c.tc.loc main_arg3)) (m (c.tc.loc main_arg4)) (m (c.tc.loc main_arg5)) (m (c.tc.loc main_arg6)) := by
  unfold_abbrev_sides
  after_results
  rfl

/-- The weights of the norm as the call finds them. -/
theorem V_weights (c : Dev nD) : V m c main_v16 = shapeCast S1x128 (shapeCast S128 (m (c.tc.loc main_arg7) : FVec Ideal S1x128 .f32) shapeCasts_S1x128_S128) shapeCasts_S128_S1x128 := by
  unfold_abbrev_sides
  after_results
  rfl

theorem weights_apply (w : FVec Ideal S1x128 .f32) (e : Fin 128) :
    shapeCast S1x128 (shapeCast S128 w shapeCasts_S1x128_S128) shapeCasts_S128_S1x128 (ix2 0 e) = w (ix2 0 e) := by
  pointwise []

/-! ## The windows' blocks -/

/-- The batch a grid point works on. -/
def gb (t : Fin cfg0.N) : Fin 8 := grid0.coords t 0
/-- The head a grid point works on. -/
def gh (t : Fin cfg0.N) : Fin 4 := grid0.coords t 1
/-- The tile of 512 queries a grid point works on. -/
def gt (t : Fin cfg0.N) : Fin 8 := grid0.coords t 2

theorem index_0 : ∀ t : Fin cfg0.N, win0_0.index t = ![(gb t).val, (gt t).val, (gh t).val] :=
  (by decide +kernel : ∀ t : Fin grid0.N, win0_0.index t = ![(gb t).val, (gt t).val, (gh t).val])
theorem index_1 : ∀ t : Fin cfg0.N, win0_1.index t = ![(gb t).val, 0, 4 + (gh t).val] :=
  (by decide +kernel : ∀ t : Fin grid0.N, win0_1.index t = ![(gb t).val, 0, 4 + (gh t).val])
theorem index_2 : ∀ t : Fin cfg0.N, win0_2.index t = ![(gb t).val, 0, 8 + (gh t).val] :=
  (by decide +kernel : ∀ t : Fin grid0.N, win0_2.index t = ![(gb t).val, 0, 8 + (gh t).val])
theorem index_3 : ∀ t : Fin cfg0.N, win0_3.index t = ![(gb t).val, 0, (gh t).val] :=
  (by decide +kernel : ∀ t : Fin grid0.N, win0_3.index t = ![(gb t).val, 0, (gh t).val])
theorem index_4 : ∀ t : Fin cfg0.N, win0_4.index t = ![(gb t).val, 0, (gh t).val] :=
  (by decide +kernel : ∀ t : Fin grid0.N, win0_4.index t = ![(gb t).val, 0, (gh t).val])
theorem index_5 : ∀ t : Fin cfg0.N, win0_5.index t = ![0, 0] :=
  (by decide +kernel : ∀ t : Fin grid0.N, win0_5.index t = ![0, 0])
theorem index_6 : ∀ t : Fin cfg0.N, win0_6.index t = ![0, 0] :=
  (by decide +kernel : ∀ t : Fin grid0.N, win0_6.index t = ![0, 0])
theorem index_7 : ∀ t : Fin cfg0.N, win0_7.index t = ![(gb t).val, (gt t).val, (gh t).val] :=
  (by decide +kernel : ∀ t : Fin grid0.N, win0_7.index t = ![(gb t).val, (gt t).val, (gh t).val])

theorem covers_7 : (cfg0.win 7).Covers := by decide +kernel

theorem blk_0 (c : Dev nD) (t : Fin cfg0.N) (i : Fin 512) (l : Fin 128) :
    (iblk m c 0 t : FVec Ideal S1x512x128 .bf16) (ix3 0 i l) = (m (c.tc.loc main_arg0) : FVec Ideal S8x4096x1536 .bf16) (ix3 (gb t) ⟨512 * (gt t).val + i.val, by omega⟩ ⟨128 * (gh t).val + l.val, by omega⟩) := by
  blk_simp [iblk]
  refine (congrFun (V_main_arg0 m c) _).trans (congrArg (m (c.tc.loc main_arg0)) ?_)
  blk_ext [index_0]

theorem blk_1 (c : Dev nD) (t : Fin cfg0.N) (j : Fin 4096) (l : Fin 128) :
    (iblk m c 1 t : FVec Ideal S1x4096x128 .bf16) (ix3 0 j l) = (m (c.tc.loc main_arg0) : FVec Ideal S8x4096x1536 .bf16) (ix3 (gb t) j ⟨512 + 128 * (gh t).val + l.val, by omega⟩) := by
  blk_simp [iblk]
  refine (congrFun (V_main_arg0 m c) _).trans (congrArg (m (c.tc.loc main_arg0)) ?_)
  blk_ext [index_1]

theorem blk_2 (c : Dev nD) (t : Fin cfg0.N) (j : Fin 4096) (l : Fin 128) :
    (iblk m c 2 t : FVec Ideal S1x4096x128 .bf16) (ix3 0 j l) = (m (c.tc.loc main_arg0) : FVec Ideal S8x4096x1536 .bf16) (ix3 (gb t) j ⟨1024 + 128 * (gh t).val + l.val, by omega⟩) := by
  blk_simp [iblk]
  refine (congrFun (V_main_arg0 m c) _).trans (congrArg (m (c.tc.loc main_arg0)) ?_)
  blk_ext [index_2]

theorem blk_3 (c : Dev nD) (t : Fin cfg0.N) (j : Fin 256) (l : Fin 128) :
    (iblk m c 3 t : FVec Ideal S1x256x128 .bf16) (ix3 0 j l) = (keysOf (m (c.tc.loc main_arg1)) : FVec Ideal S8x256x512 .bf16) (ix3 (gb t) j ⟨128 * (gh t).val + l.val, by omega⟩) := by
  blk_simp [iblk]
  refine (congrFun (V_keys m c) _).trans (congrArg (keysOf (m (c.tc.loc main_arg1))) ?_)
  blk_ext [index_3]

theorem blk_4 (c : Dev nD) (t : Fin cfg0.N) (j : Fin 256) (l : Fin 128) :
    (iblk m c 4 t : FVec Ideal S1x256x128 .bf16) (ix3 0 j l) = (valuesOf (m (c.tc.loc main_arg2)) : FVec Ideal S8x256x512 .bf16) (ix3 (gb t) j ⟨128 * (gh t).val + l.val, by omega⟩) := by
  blk_simp [iblk]
  refine (congrFun (V_values m c) _).trans (congrArg (valuesOf (m (c.tc.loc main_arg2))) ?_)
  blk_ext [index_4]

theorem blk_5 (c : Dev nD) (t : Fin cfg0.N) (r : Fin 4) (i : Fin 64) :
    (iblk m c 5 t : FVec Ideal S4x64 .f32) (ix2 r i) = (lamsOf (m (c.tc.loc main_arg3)) (m (c.tc.loc main_arg4)) (m (c.tc.loc main_arg5)) (m (c.tc.loc main_arg6)) : FVec Ideal S4x64 .f32) (ix2 r i) := by
  blk_simp [iblk]
  refine (congrFun (V_lams m c) _).trans (congrArg (lamsOf _ _ _ _) ?_)
  blk_ext [index_5]

theorem blk_6 (c : Dev nD) (t : Fin cfg0.N) (e : Fin 128) :
    (iblk m c 6 t : FVec Ideal S1x128 .f32) (ix2 0 e) = (m (c.tc.loc main_arg7) : FVec Ideal S1x128 .f32) (ix2 0 e) := by
  rw [← weights_apply (m (c.tc.loc main_arg7)) e]
  blk_simp [iblk]
  refine (congrFun (V_weights m c) _).trans (congrArg (shapeCast S1x128 _ _) ?_)
  blk_ext [index_6]

/-- What a grid point leaves at an entry of its block. -/
theorem point_eq (c : Dev nD) (hf : Finite (m (c.tc.loc main_arg0)) (m (c.tc.loc main_arg1)) (m (c.tc.loc main_arg2)))
    (t : Fin cfg0.N) (i : Fin 512) (e : Fin 128) :
    out0_7 (F := Ideal) (iblk m c 0 t) (iblk m c 1 t) (iblk m c 2 t) (iblk m c 3 t) (iblk m c 4 t) (iblk m c 5 t) (iblk m c 6 t) (ix3 0 i e)
      = entry (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (gb t) ⟨512 * (gt t).val + i.val, by omega⟩ (gh t) e := by
  obtain ⟨hx, hk, hv⟩ := hf
  have h0 : ∀ i l, (iblk m c 0 t : FVec Ideal S1x512x128 .bf16) (ix3 0 i l)
      = ((queryAt (m (c.tc.loc main_arg0)) (gb t) (gh t) ⟨512 * (gt t).val + i.val, by omega⟩ l : ℝ) : EReal) := fun i l => by
    rw [blk_0, queryAt, hx]
  have h1 : ∀ (j : Fin 4096) l, (iblk m c 1 t : FVec Ideal S1x4096x128 .bf16) (ix3 0 j l)
      = ((keyAt (m (c.tc.loc main_arg0)) (m (c.tc.loc main_arg1)) (gb t) (gh t) (256 + j.val) l : ℝ) : EReal) := fun j l => by
    rw [blk_1, keyAt, dif_neg (by omega), dif_pos (by omega), hx]
    congr 2; apply Fin.ext; simp
  have h2 : ∀ (j : Fin 4096) l, (iblk m c 2 t : FVec Ideal S1x4096x128 .bf16) (ix3 0 j l)
      = ((valueAt (m (c.tc.loc main_arg0)) (m (c.tc.loc main_arg2)) (gb t) (gh t) (256 + j.val) l : ℝ) : EReal) := fun j l => by
    rw [blk_2, valueAt, dif_neg (by omega), dif_pos (by omega), hx]
    congr 2; apply Fin.ext; simp
  have h3 : ∀ (j : Fin 256) l, (iblk m c 3 t : FVec Ideal S1x256x128 .bf16) (ix3 0 j l)
      = ((keyAt (m (c.tc.loc main_arg0)) (m (c.tc.loc main_arg1)) (gb t) (gh t) j.val l : ℝ) : EReal) := fun j l => by
    rw [blk_3, keysOf_apply, keyAt, dif_pos j.isLt, hk]
  have h4 : ∀ (j : Fin 256) l, (iblk m c 4 t : FVec Ideal S1x256x128 .bf16) (ix3 0 j l)
      = ((valueAt (m (c.tc.loc main_arg0)) (m (c.tc.loc main_arg2)) (gb t) (gh t) j.val l : ℝ) : EReal) := fun j l => by
    rw [blk_4, valuesOf_apply, valueAt, dif_pos j.isLt, hv]
  rw [out_apply _ _ _ _ _ _ _ _ h0 h1 h2 h3 h4, entry, lamAt]
  simp only [blk_5, blk_6, (lamsOf_apply _ _ _ _ _).1, (lamsOf_apply _ _ _ _ _).2.1, (lamsOf_apply _ _ _ _ _).2.2.1, (lamsOf_apply _ _ _ _ _).2.2.2]

/-- The result array after the run, at every entry. -/
theorem arr_eq (c : Dev nD) (hf : Finite (m (c.tc.loc main_arg0)) (m (c.tc.loc main_arg1)) (m (c.tc.loc main_arg2))) :
    (dats m 0 c).arrAt 7 cfg0.N = result (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) := by
  refine (dats m 0 c).arrAt_eq_of_covers 7 _ covers_7 fun t _ y => ?_
  blk_simp
  rw [after0_7]
  obtain ⟨i, e, rfl⟩ : ∃ (i : Fin 512) (e : Fin 128), y = ix3 0 i e := by
    refine ⟨y 1, y 2, ?_⟩
    funext a
    match a with
    | ⟨0, _⟩ => exact Subsingleton.elim (α := Fin 1) _ _
    | ⟨1, _⟩ => rfl
    | ⟨2, _⟩ => rfl
  rw [point_eq m c hf t i e]
  have e0 : ((win0_7.blk t).view.emb (ix3 0 i e) 0).val = (gb t).val := by blk_simp [index_7]; simp
  have e1 : ((win0_7.blk t).view.emb (ix3 0 i e) 1).val = 512 * (gt t).val + i.val := by blk_simp [index_7]; simp; omega
  have e2 : ((win0_7.blk t).view.emb (ix3 0 i e) 2).val = 128 * (gh t).val + e.val := by blk_simp [index_7]; simp; omega
  unfold result
  congr 1
  · exact Fin.ext e0.symm
  · exact Fin.ext e1.symm
  · apply Fin.ext; show _ = _ / 128; rw [e2]; omega
  · apply Fin.ext; show _ = _ % 128; rw [e2]; omega

end Cert.Attn

end
-- ==== Proof.Ref.lean ====
/- What the reference's result holds: the same differential attention, normed. The reference takes the softmax to the base
   e of scores it has scaled by log 2 over the kernel's, and subtracts the two maps' weights before it averages the values. -/
module

public import proofs.«01_k».proof.Proof.Gen.ReferenceIdeal.Read
public import Idealize.ShloMosaic.Lib.Pointwise
public import proofs.«01_k».proof.Proof.Spec

@[expose] public section

set_option maxRecDepth 16384

noncomputable section

namespace Cert.AttnRef

open Idealize.ShloMosaic Cert.Attn Cert.ReferenceIdeal Cert.ReferenceIdeal.Read

section
variable (x : FVec Ideal S8x4096x1536 .bf16) (k : FVec Ideal S8x1x256x4x2x64 .f32) (v : FVec Ideal S8x1x256x4x128 .f32)
  (a b c d : FVec Ideal S1x64 .f32) (w : FVec Ideal S1x128 .f32)

/-- The largest score of a row, if its scores are real numbers, is a real number. -/
theorem max_real (bt : Fin 8) (t : Fin 4096) (h : Fin 4) (p : Fin 2) (hs : ∀ i, ∃ r : ℝ, (val_main_v29 (F := Ideal) x k i : EReal) = (r : EReal)) :
    ∃ r : ℝ, (val_main_v32 (F := Ideal) x k (ix4 bt h p t) : EReal) = (r : EReal) := by
  have h1 : (val_main_v32 (F := Ideal) x k (ix4 bt h p t) : EReal) = max (Ideal.ofBits .f32 0xFF800000#32) (val_main_v30 (F := Ideal) x k (ix4 bt h p t)) := by
    rw [val_main_v32_apply, val_main_v31_apply]; rfl
  have hb : Ideal.ofBits .f32 0xFF800000#32 = ⊥ := by simp [Ideal.ofBits, Ideal.ieee]
  rw [h1, hb, max_eq_right bot_le]
  unfold val_main_v30
  generalize val_main_v29 (F := Ideal) x k = y at hs
  rw [Host.reduce_eq_fold_single (FloatOps.maximumf (F := Ideal) (φ := .f32)) y _ _ (by decide) _ _]
  choose f hf using hs
  obtain ⟨r, hr⟩ := fold_max_coe (n := 4352) (by norm_num) (fun j => f ((by decide : S8x4x2x4096x4352.Reduces [4] S8x4x2x4096).lift (ix4 bt h p t) j))
  refine ⟨r, Eq.trans ?_ hr⟩
  have hy : y = fun i => ((f i : ℝ) : EReal) := funext hf
  subst hy
  exact congrArg (fun z : EReal => Finset.univ.fold max z fun j : Fin 4352 =>
    ((f ((by decide : S8x4x2x4096x4352.Reduces [4] S8x4x2x4096).lift (ix4 bt h p t) j) : ℝ) : EReal)) hb

theorem q_apply (bt : Fin 8) (t : Fin 4096) (h : Fin 4) (p : Fin 2) (e : Fin 64) :
    (val_main_v8 (F := Ideal) x (ix5 bt t h p e) : EReal) = x (ix3 bt t ⟨128 * h.val + (64 * p.val + e.val), by omega⟩)
      * (Ideal.ofBits .f32 0x41000000#32 * Ideal.log (Ideal.ofBits .f32 0x40000000#32)) := by
  pointwise [val_main_v8, val_main_v7, val_main_v6, val_main_v5, val_main_v4, val_main_v1, val_main_v0, val_main_cst, val_main_cst_0]
  congr 3; apply Fin.ext; simp; omega

theorem k_apply (bt : Fin 8) (t : Fin 4352) (h : Fin 4) (p : Fin 2) (e : Fin 64) :
    (val_main_v11 (F := Ideal) x k (ix5 bt t h p e) : EReal) = if ht : t.val < 256 then k (ix6 bt 0 ⟨t.val, ht⟩ h p e)
      else x (ix3 bt ⟨t.val - 256, by omega⟩ ⟨512 + 128 * h.val + (64 * p.val + e.val), by omega⟩) := by
  pointwise [val_main_v11, val_main_v9, val_main_v10, val_main_v2, val_main_v0]
  refine dite_congr rfl (fun _ => rfl) fun _ => ?_
  congr 2; apply Fin.ext; simp; omega

theorem v_apply (bt : Fin 8) (t : Fin 4352) (h : Fin 4) (e : Fin 128) :
    (val_main_v14 (F := Ideal) x v (ix4 bt t h e) : EReal) = if ht : t.val < 256 then v (ix5 bt 0 ⟨t.val, ht⟩ h e)
      else x (ix3 bt ⟨t.val - 256, by omega⟩ ⟨1024 + 128 * h.val + e.val, by omega⟩) := by
  pointwise [val_main_v14, val_main_v12, val_main_v13, val_main_v3, val_main_v0]
  refine dite_congr rfl (fun _ => rfl) fun _ => ?_
  congr 2; apply Fin.ext; simp; omega

/-- The second map's weight. -/
theorem lam_apply (i : S_.Idx) : (val_main_v26 (F := Ideal) a b c d i : EReal) = lamAt a b c d := by
  unfold lamAt lamOf
  pointwise [val_main_v26, val_main_v25, val_main_v24, val_main_v19, val_main_v23, val_main_v18, val_main_v17, val_main_v22, val_main_v15, val_main_v16, val_main_v20, val_main_v21, val_main_cst_1, val_main_cst_2, val_main_cst_3]

theorem s_apply (bt : Fin 8) (t : Fin 4096) (h : Fin 4) (p : Fin 2) (j : Fin 4352) :
    (val_main_v29 (F := Ideal) x k (ix5 bt h p t j) : EReal)
      = (∑ e : Fin 64, val_main_v8 (F := Ideal) x (ix5 bt t h p e) * val_main_v11 (F := Ideal) x k (ix5 bt j h p e)) * Ideal.ofBits .f32 0x3E000000#32 := by
  pointwise [val_main_v29, val_main_v28, val_main_cst_4, val_main_v27]

theorem p_apply (bt : Fin 8) (t : Fin 4096) (h : Fin 4) (p : Fin 2) (j : Fin 4352) :
    (val_main_v40 (F := Ideal) x k (ix5 bt h p t j) : EReal)
      = Ideal.div (Ideal.exp (val_main_v29 (F := Ideal) x k (ix5 bt h p t j) - val_main_v32 (F := Ideal) x k (ix4 bt h p t)))
          (∑ i : Fin 4352, Ideal.exp (val_main_v29 (F := Ideal) x k (ix5 bt h p t i) - val_main_v32 (F := Ideal) x k (ix4 bt h p t))) := by
  pointwise [val_main_v40, val_main_v39, val_main_v38, val_main_v37, val_main_v36, val_main_v35, val_main_v34, val_main_v33, val_main_cst_7]

theorem d_apply (bt : Fin 8) (t : Fin 4096) (h : Fin 4) (j : Fin 4352) :
    (val_main_v47 (F := Ideal) x k a b c d (ix4 bt h t j) : EReal)
      = val_main_v40 (F := Ideal) x k (ix5 bt h 0 t j) - lamAt a b c d * val_main_v40 (F := Ideal) x k (ix5 bt h 1 t j) := by
  rw [val_main_v47_apply, val_main_v46_apply, val_main_v45_apply, val_main_v44_apply, val_main_v43_apply, val_main_v42_apply, val_main_v41_apply, lam_apply]
  have hb := bt.isLt
  have hh := h.isLt
  have ht := t.isLt
  have hj := j.isLt
  have e1 : idx_main_v41 (idx_main_v42 (ix4 bt h t j)) = ix5 bt h 0 t j := by
    funext a; apply Fin.ext
    match a with
    | ⟨0, _⟩ => show (((bt.val * 4 + h.val) * 4096 + t.val) * 4352 + j.val) / 71303168 = bt.val; omega
    | ⟨1, _⟩ => show (((bt.val * 4 + h.val) * 4096 + t.val) * 4352 + j.val) / 17825792 % 4 = h.val; omega
    | ⟨2, _⟩ => rfl
    | ⟨3, _⟩ => show (((bt.val * 4 + h.val) * 4096 + t.val) * 4352 + j.val) / 4352 % 4096 = t.val; omega
    | ⟨4, _⟩ => show (((bt.val * 4 + h.val) * 4096 + t.val) * 4352 + j.val) % 4352 = j.val; omega
  have e2 : idx_main_v43 (idx_main_v44 (ix4 bt h t j)) = ix5 bt h 1 t j := by
    funext a; apply Fin.ext
    match a with
    | ⟨0, _⟩ => show (((bt.val * 4 + h.val) * 4096 + t.val) * 4352 + j.val) / 71303168 = bt.val; omega
    | ⟨1, _⟩ => show (((bt.val * 4 + h.val) * 4096 + t.val) * 4352 + j.val) / 17825792 % 4 = h.val; omega
    | ⟨2, _⟩ => rfl
    | ⟨3, _⟩ => show (((bt.val * 4 + h.val) * 4096 + t.val) * 4352 + j.val) / 4352 % 4096 = t.val; omega
    | ⟨4, _⟩ => show (((bt.val * 4 + h.val) * 4096 + t.val) * 4352 + j.val) % 4352 = j.val; omega
  rw [e1, e2]
  rfl

theorem u_apply (bt : Fin 8) (t : Fin 4096) (h : Fin 4) (e : Fin 128) :
    (val_main_v49 (F := Ideal) x k v a b c d (ix4 bt t h e) : EReal) = ∑ j : Fin 4352, val_main_v14 (F := Ideal) x v (ix4 bt j h e) * val_main_v47 (F := Ideal) x k a b c d (ix4 bt h t j) := by
  rw [val_main_v49_apply, val_main_v48_apply]
  refine Finset.sum_congr rfl fun j _ => ?_
  have e1 : lidx_main_v48 (idx_main_v49 (ix4 bt t h e)) j = ix4 bt j h e := by
    funext a; match a with | ⟨0, _⟩ => rfl | ⟨1, _⟩ => rfl | ⟨2, _⟩ => rfl | ⟨3, _⟩ => rfl
  have e2 : ridx_main_v48 (idx_main_v49 (ix4 bt t h e)) j = ix4 bt h t j := by
    funext a; match a with | ⟨0, _⟩ => rfl | ⟨1, _⟩ => rfl | ⟨2, _⟩ => rfl | ⟨3, _⟩ => rfl
  rw [e1, e2]

theorem o_apply (bt : Fin 8) (t : Fin 4096) (h : Fin 4) (e : Fin 128) :
    (val_main_v67 (F := Ideal) x k v a b c d w (ix3 bt t ⟨128 * h.val + e.val, by omega⟩) : EReal)
      = rmsOut (fun e => val_main_v49 (F := Ideal) x k v a b c d (ix4 bt t h e)) (fun e => w (ix2 0 e)) e := by
  unfold rmsOut
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_8, val_main_cst_9, val_main_cst_10, val_main_cst_11]

/-! ## Over real inputs -/

theorem ofBits_two : Ideal.ofBits .f32 0x40000000#32 = ((2 : ℝ) : EReal) := by simp [Ideal.ofBits, Ideal.ieee]; rw [← EReal.coe_mul]; norm_num
theorem ofBits_eight : Ideal.ofBits .f32 0x41000000#32 = ((8 : ℝ) : EReal) := by simp [Ideal.ofBits, Ideal.ieee]; rw [← EReal.coe_mul]; norm_num
theorem ofBits_eighth : Ideal.ofBits .f32 0x3E000000#32 = ((1 / 8 : ℝ) : EReal) := by simp [Ideal.ofBits, Ideal.ieee]; rw [← EReal.coe_mul]; norm_num
theorem ofBits_fifth : ∃ r : ℝ, Ideal.ofBits .f32 0x3E4CCCCD#32 = (r : EReal) := by
  simp only [Ideal.ofBits, Ideal.ieee]
  rw [if_neg (by decide), if_neg (by decide)]
  exact ⟨_, rfl⟩

variable (hf : Finite x k v)

include hf in
theorem q_real (bt : Fin 8) (t : Fin 4096) (h : Fin 4) (p : Fin 2) (e : Fin 64) :
    (val_main_v8 (F := Ideal) x (ix5 bt t h p e) : EReal)
      = ((queryAt x bt h t ⟨64 * p.val + e.val, by omega⟩ * (8 * Real.log 2) : ℝ) : EReal) := by
  rw [q_apply, ofBits_two, ofBits_eight, Ideal.log_coe, if_neg (by norm_num), queryAt, EReal.coe_mul, hf.1, EReal.coe_mul]

include hf in
theorem k_real (bt : Fin 8) (t : Fin 4352) (h : Fin 4) (p : Fin 2) (e : Fin 64) :
    (val_main_v11 (F := Ideal) x k (ix5 bt t h p e) : EReal)
      = ((keyAt x k bt h t.val ⟨64 * p.val + e.val, by omega⟩ : ℝ) : EReal) := by
  rw [k_apply, keyAt]
  by_cases ht : t.val < 256
  · rw [dif_pos ht, dif_pos ht, hf.2.1]
    congr 2 <;> apply Fin.ext <;> simp <;> omega
  · rw [dif_neg ht, dif_neg ht, dif_pos t.isLt, hf.1]

include hf in
theorem v_real (bt : Fin 8) (t : Fin 4352) (h : Fin 4) (e : Fin 128) :
    (val_main_v14 (F := Ideal) x v (ix4 bt t h e) : EReal) = ((valueAt x v bt h t.val e : ℝ) : EReal) := by
  rw [v_apply, valueAt]
  by_cases ht : t.val < 256
  · rw [dif_pos ht, dif_pos ht, hf.2.2]
  · rw [dif_neg ht, dif_neg ht, dif_pos t.isLt, hf.1]

include hf in
/-- The reference's score is the kernel's times log 2. -/
theorem s_real (bt : Fin 8) (t : Fin 4096) (h : Fin 4) (p : Fin 2) (j : Fin 4352) :
    (val_main_v29 (F := Ideal) x k (ix5 bt h p t j) : EReal)
      = ((Real.log 2 * score (queryAt x bt h t) (keyAt x k bt h j.val) p : ℝ) : EReal) := by
  rw [s_apply, Finset.sum_congr rfl fun e _ => by rw [q_real x k v hf, k_real x k v hf, ← EReal.coe_mul], coe_sum, ofBits_eighth, ← EReal.coe_mul]
  congr 1
  rw [score, Finset.mul_sum, Finset.sum_mul]
  exact Finset.sum_congr rfl fun e _ => by ring

/-- e to a difference of log 2 multiples. -/
theorem exp_sub_coe (s μ : ℝ) : Ideal.exp (((Real.log 2 * s : ℝ) : EReal) - (μ : EReal)) = ((Real.exp (-μ) * (2 : ℝ) ^ s : ℝ) : EReal) := by
  rw [← EReal.coe_sub, Ideal.exp_coe]
  congr 1
  rw [Real.rpow_def_of_pos (by norm_num), ← Real.exp_add]
  congr 1; ring

include hf in
/-- A softmax weight of the reference: two to the score over the sum of them. -/
theorem p_real (bt : Fin 8) (t : Fin 4096) (h : Fin 4) (p : Fin 2) (j : Fin 4352) :
    (val_main_v40 (F := Ideal) x k (ix5 bt h p t j) : EReal)
      = (((2 : ℝ) ^ score (queryAt x bt h t) (keyAt x k bt h j.val) p
          / ∑ i ∈ Finset.range 4352, (2 : ℝ) ^ score (queryAt x bt h t) (keyAt x k bt h i) p : ℝ) : EReal) := by
  have hall : ∀ i, ∃ r : ℝ, (val_main_v29 (F := Ideal) x k i : EReal) = (r : EReal) := fun i => by
    rw [eq_ix5 i]; exact ⟨_, s_real x k v hf _ _ _ _ _⟩
  obtain ⟨μ, hμ⟩ := max_real x k bt t h p hall
  rw [p_apply, hμ, s_real x k v hf, exp_sub_coe]
  rw [Finset.sum_congr rfl fun i _ => by rw [s_real x k v hf, exp_sub_coe], coe_sum, ← Finset.mul_sum, Finset.sum_range]
  have hpos : 0 < ∑ i : Fin 4352, (2 : ℝ) ^ score (queryAt x bt h t) (keyAt x k bt h i.val) p :=
    Finset.sum_pos (fun _ _ => Real.rpow_pos_of_pos (by norm_num) _) ⟨⟨0, by norm_num⟩, Finset.mem_univ _⟩
  have he := Real.exp_ne_zero (-μ)
  rw [div_coe_coe _ _ (mul_ne_zero he hpos.ne')]
  exact congrArg (fun r : ℝ => (r : EReal)) (mul_div_mul_left _ _ he)

include hf in
/-- A channel of the reference before the norm is the differential attention. -/
theorem u_real (ℓ : ℝ) (hl : lamAt a b c d = (ℓ : EReal)) (bt : Fin 8) (t : Fin 4096) (h : Fin 4) (e : Fin 128) :
    (val_main_v49 (F := Ideal) x k v a b c d (ix4 bt t h e) : EReal)
      = diffAttend 4352 (lamAt a b c d) (queryAt x bt h t) (keyAt x k bt h) (valueAt x v bt h) e := by
  rw [u_apply, Finset.sum_congr rfl fun j _ => by
    rw [d_apply, v_real x k v hf, p_real x k v hf, p_real x k v hf, hl, ← EReal.coe_mul, ← EReal.coe_sub, ← EReal.coe_mul], coe_sum]
  rw [diffAttend, hl, ← EReal.coe_mul, ← EReal.coe_sub]
  refine congrArg (fun r : ℝ => (r : EReal)) ?_
  unfold attend
  rw [Finset.sum_range (f := fun t_1 => (2 : ℝ) ^ score (queryAt x bt h t) (keyAt x k bt h t_1) 0 * valueAt x v bt h t_1 e),
    Finset.sum_range (f := fun t_1 => (2 : ℝ) ^ score (queryAt x bt h t) (keyAt x k bt h t_1) 1 * valueAt x v bt h t_1 e),
    Finset.sum_div, Finset.sum_div, Finset.mul_sum, ← Finset.sum_sub_distrib]
  exact Finset.sum_congr rfl fun j _ => by ring

/-- The second map's weight is a real number when the four vectors are. -/
theorem lam_real (ha : ∀ i, ((a i).toReal : EReal) = a i) (hb : ∀ i, ((b i).toReal : EReal) = b i)
    (hc : ∀ i, ((c i).toReal : EReal) = c i) (hd : ∀ i, ((d i).toReal : EReal) = d i) : ∃ ℓ : ℝ, lamAt a b c d = (ℓ : EReal) := by
  obtain ⟨r, hr⟩ := ofBits_fifth
  refine ⟨Real.exp (∑ i : Fin 64, (a (ix2 0 i)).toReal * (b (ix2 0 i)).toReal) - Real.exp (∑ i : Fin 64, (c (ix2 0 i)).toReal * (d (ix2 0 i)).toReal) + r, ?_⟩
  rw [lamAt, lamOf, hr]
  have e1 : ∑ i : Fin 64, a (ix2 0 i) * b (ix2 0 i) = ((∑ i : Fin 64, (a (ix2 0 i)).toReal * (b (ix2 0 i)).toReal : ℝ) : EReal) := by
    rw [← coe_sum]; exact Finset.sum_congr rfl fun i _ => by rw [EReal.coe_mul, ha, hb]
  have e2 : ∑ i : Fin 64, c (ix2 0 i) * d (ix2 0 i) = ((∑ i : Fin 64, (c (ix2 0 i)).toReal * (d (ix2 0 i)).toReal : ℝ) : EReal) := by
    rw [← coe_sum]; exact Finset.sum_congr rfl fun i _ => by rw [EReal.coe_mul, hc, hd]
  rw [e1, e2, Ideal.exp_coe, Ideal.exp_coe, ← EReal.coe_sub, ← EReal.coe_add]

include hf in
/-- The reference's result is the closed form. -/
theorem result_eq (ha : ∀ i, ((a i).toReal : EReal) = a i) (hb : ∀ i, ((b i).toReal : EReal) = b i)
    (hc : ∀ i, ((c i).toReal : EReal) = c i) (hd : ∀ i, ((d i).toReal : EReal) = d i) :
    val_main_v67 (F := Ideal) x k v a b c d w = result x k v a b c d w := by
  obtain ⟨ℓ, hl⟩ := lam_real a b c d ha hb hc hd
  funext i
  have h2 : (i 2).val < 512 := (i 2).isLt
  have hi : i = ix3 (i 0) (i 1) ⟨128 * ((i 2).val / 128) + (i 2).val % 128, by omega⟩ := by
    funext z
    match z with
    | ⟨0, _⟩ => rfl
    | ⟨1, _⟩ => rfl
    | ⟨2, _⟩ => apply Fin.ext; show (i 2).val = 128 * ((i 2).val / 128) + (i 2).val % 128; omega
  have ho := o_apply x k v a b c d w (i 0) (i 1) ⟨(i 2).val / 128, by omega⟩ ⟨(i 2).val % 128, by omega⟩
  rw [funext fun e => u_real x k v a b c d hf ℓ hl (i 0) (i 1) ⟨(i 2).val / 128, by omega⟩ e] at ho
  exact (congrArg (val_main_v67 (F := Ideal) x k v a b c d w) hi).trans ho

end

end Cert.AttnRef

end
-- ==== Proof.PostStages.lean ====
/- What one grid point of the merge and feed-forward call computes, stage by stage: its 512 tokens are taken as two halves of
   256, and each half goes through the same stages. -/
module

public import proofs.«01_k».proof.Proof.Gen.Kernel2Ideal.Frame
public import proofs.«01_k».proof.Proof.Softmax

@[expose] public section

set_option maxRecDepth 16384

noncomputable section

namespace Cert.Post

open Idealize.ShloMosaic Cert.Kernel2Ideal Cert.Kernel2Ideal.Gen

/-- Which of 128 lanes belong to the first of two heads of 64. -/
def first : IVec S256x128 1 :=
  cmpi .slt (iota .tc S256x128 32 [1] iota_S256x128_d1_w32) (broadcast S256x128 64#32)

/-- One sum per row, repeated over 128 lanes. -/
def spread (y : FVec Ideal S256x128 .f32) : FVec Ideal S256x128 .f32 :=
  broadcastTo S256x128 (shapeCast S256x1 (shapeCast S256x1 (multiReduction .add [1] S256 y 0x00000000#32 reduces_S256x128_S256 (.inl rfl) rfl)
    shapeCasts_S256_S256x1) shapeCasts_S256x1_S256x1) broadcasts_S256x1_S256x128

/-- Each lane's head sum, of 128 lanes holding two heads. -/
def headSum (y : FVec Ideal S256x128 .f32) : FVec Ideal S256x128 .f32 :=
  select first (spread (select first y (broadcast S256x128 (Scalar.ofBits (F := Ideal) .f32 0x00000000#32))))
    (spread (select first (broadcast S256x128 (Scalar.ofBits (F := Ideal) .f32 0x00000000#32)) y))

/-- Each lane's head sum, of 512 lanes holding eight heads. -/
def headSums (y : FVec Ideal S256x512 .f32) : FVec Ideal S256x512 .f32 :=
  concatenate S256x512 1 [⟨S256x128, headSum (extractStridedSlice S256x128 ![0, 0] y slices_S256x512_o0_0_S256x128)⟩,
    ⟨S256x128, headSum (extractStridedSlice S256x128 ![0, 128] y slices_S256x512_o0_128_S256x128)⟩,
    ⟨S256x128, headSum (extractStridedSlice S256x128 ![0, 256] y slices_S256x512_o0_256_S256x128)⟩,
    ⟨S256x128, headSum (extractStridedSlice S256x128 ![0, 384] y slices_S256x512_o0_384_S256x128)⟩]
    concatenates_S256x128_S256x128_S256x128_S256x128_S256x512_d1

/-- Less its head's mean. -/
def centre (y : FVec Ideal S256x512 .f32) : FVec Ideal S256x512 .f32 :=
  subf y (mulf (headSums y) (broadcast S256x512 (Scalar.ofBits (F := Ideal) .f32 0x3C800000#32)))

/-- Divided by its head's root mean square. -/
def scaled (y : FVec Ideal S256x512 .f32) : FVec Ideal S256x512 .f32 :=
  mulf y (rsqrt (addf (mulf (headSums (mulf y y)) (broadcast S256x512 (Scalar.ofBits (F := Ideal) .f32 0x3C800000#32)))
    (broadcast S256x512 (Scalar.ofBits (F := Ideal) .f32 0x3A27C5AC#32))))

/-- The two scans' sum. -/
def both (yf yb : FVec Ideal S1x256x512 .f32) : FVec Ideal S256x512 .f32 :=
  addf (shapeCast S256x512 yf shapeCasts_S1x256x512_S256x512) (shapeCast S256x512 yb shapeCasts_S1x256x512_S256x512)

/-- The gated scan: the normed sum of the two scans with weights and bias, plus the bonus times the value, times the gate. -/
def scanOut (yf yb bs v g : FVec Ideal S1x256x512 .f32) (lw lb : FVec Ideal S1x512 .f32) : FVec Ideal S256x512 .f32 :=
  mulf (addf (addf (mulf (scaled (centre (both yf yb))) (broadcastTo S256x512 (shapeCast S1x512 lw shapeCasts_S1x512_S1x512) broadcasts_S1x512_S256x512))
      (broadcastTo S256x512 (shapeCast S1x512 lb shapeCasts_S1x512_S1x512) broadcasts_S1x512_S256x512))
      (mulf (shapeCast S256x512 bs shapeCasts_S1x256x512_S256x512) (shapeCast S256x512 v shapeCasts_S1x256x512_S256x512)))
    (divf (broadcast S256x512 (Scalar.ofBits (F := Ideal) .f32 0x3F800000#32))
      (addf (broadcast S256x512 (Scalar.ofBits (F := Ideal) .f32 0x3F800000#32))
        (exp (subf (broadcast S256x512 (Scalar.ofBits (F := Ideal) .f32 0x00000000#32)) (shapeCast S256x512 g shapeCasts_S1x256x512_S256x512)))))

/-- One branch's projection times its gate. -/
def branch (g : FVec Ideal S1x256x1024 .f32) (o : FVec Ideal S256x512 .bf16) (w : FVec Ideal S512x1024 .bf16) : FVec Ideal S256x1024 .f32 :=
  mulf (shapeCast S256x1024 g shapeCasts_S1x256x1024_S256x1024)
    (matmul dot_S256x512_S512x1024_S256x1024_1_0_0_1_n_n none o (shapeCast S512x1024 w shapeCasts_S512x1024_S512x1024) (constant S256x1024 .f32 0x00000000#32))

/-- The two branches' gated sum. -/
def merge (ga gr : FVec Ideal S1x256x1024 .f32) (oa : FVec Ideal S1x256x512 .bf16) (o : FVec Ideal S256x512 .f32) (wa wr : FVec Ideal S512x1024 .bf16) :
    FVec Ideal S256x1024 .f32 :=
  addf (branch ga (shapeCast S256x512 oa shapeCasts_S1x256x512_S256x512) wa) (branch gr (truncf .bf16 o bitsLt_bf16_f32) wr)

/-- The tokens after the first residual. -/
def resid (x : FVec Ideal S1x256x1024 .f32) (g1 : FVec Ideal S1x1x1024 .f32) (mg : FVec Ideal S256x1024 .f32) (wo : FVec Ideal S1024x1024 .bf16) :
    FVec Ideal S256x1024 .f32 :=
  addf (shapeCast S256x1024 x shapeCasts_S1x256x1024_S256x1024)
    (mulf (broadcastTo S256x1024 (shapeCast S1x1024 g1 shapeCasts_S1x1x1024_S1x1024) broadcasts_S1x1024_S256x1024)
      (matmul dot_S256x1024_S1024x1024_S256x1024_1_0_0_1_n_n none (truncf .bf16 mg bitsLt_bf16_f32) (shapeCast S1024x1024 wo shapeCasts_S1024x1024_S1024x1024)
        (constant S256x1024 .f32 0x00000000#32)))

/-- The tokens normed and modulated. -/
def normed (y : FVec Ideal S256x1024 .f32) (n2 : FVec Ideal S1x1024 .f32) (s2 h2 : FVec Ideal S1x1x1024 .f32) : FVec Ideal S256x1024 .bf16 :=
  truncf .bf16 (addf (mulf (mulf (mulf y (broadcastTo S256x1024 (rsqrt (addf (divf (shapeCast S256x1 (multiReduction .add [1] S256 (mulf y y) 0x00000000#32
      reduces_S256x1024_S256 (.inl rfl) rfl) shapeCasts_S256_S256x1) (broadcast S256x1 (Scalar.ofBits (F := Ideal) .f32 0x44800000#32)))
      (broadcast S256x1 (Scalar.ofBits (F := Ideal) .f32 0x358637BD#32)))) broadcasts_S256x1_S256x1024))
      (broadcastTo S256x1024 (shapeCast S1x1024 n2 shapeCasts_S1x1024_S1x1024) broadcasts_S1x1024_S256x1024))
      (broadcastTo S256x1024 (addf (broadcast S1x1024 (Scalar.ofBits (F := Ideal) .f32 0x3F800000#32)) (shapeCast S1x1024 s2 shapeCasts_S1x1x1024_S1x1024)) broadcasts_S1x1024_S256x1024))
    (broadcastTo S256x1024 (shapeCast S1x1024 h2 shapeCasts_S1x1x1024_S1x1024) broadcasts_S1x1024_S256x1024)) bitsLt_bf16_f32

/-- One of the feed-forward's two inner products, at 704 of its columns. -/
def inner (h : FVec Ideal S256x1024 .bf16) (w : FVec Ideal S1024x704 .bf16) : FVec Ideal S256x704 .f32 :=
  matmul dot_S256x1024_S1024x704_S256x704_1_0_0_1_n_n none h (shapeCast S1024x704 w shapeCasts_S1024x704_S1024x704) (constant S256x704 .f32 0x00000000#32)

/-- The gated activation of 704 columns. -/
def gated (u g : FVec Ideal S256x704 .f32) : FVec Ideal S256x704 .bf16 :=
  truncf .bf16 (mulf (mulf u (divf (broadcast S256x704 (Scalar.ofBits (F := Ideal) .f32 0x3F800000#32))
    (addf (broadcast S256x704 (Scalar.ofBits (F := Ideal) .f32 0x3F800000#32)) (exp (subf (broadcast S256x704 (Scalar.ofBits (F := Ideal) .f32 0x00000000#32)) u))))) g) bitsLt_bf16_f32

/-- What 704 inner columns add to the feed-forward. -/
def part (h : FVec Ideal S256x1024 .bf16) (wu wg : FVec Ideal S1024x704 .bf16) (wd : FVec Ideal S704x1024 .bf16) : FVec Ideal S256x1024 .f32 :=
  matmul dot_S256x704_S704x1024_S256x1024_1_0_0_1_n_n none (gated (inner h wu) (inner h wg)) (shapeCast S704x1024 wd shapeCasts_S704x1024_S704x1024)
    (constant S256x1024 .f32 0x00000000#32)

/-- The columns of the first inner weights that chunk `n` uses. -/
def upCols (w : FVec Ideal S1024x5632 .bf16) : ℕ → FVec Ideal S1024x704 .bf16
  | 0 => View.ld (Val := Elt Ideal) (e' := .bf16) w (Rect.unit (s := S1024x5632) ![0, 0] S1024x704.size inb_S1024x5632_S1024x704_0_0)
  | 1 => View.ld (Val := Elt Ideal) (e' := .bf16) w (Rect.unit (s := S1024x5632) ![0, 704] S1024x704.size inb_S1024x5632_S1024x704_0_704)
  | 2 => View.ld (Val := Elt Ideal) (e' := .bf16) w (Rect.unit (s := S1024x5632) ![0, 1408] S1024x704.size inb_S1024x5632_S1024x704_0_1408)
  | _ => View.ld (Val := Elt Ideal) (e' := .bf16) w (Rect.unit (s := S1024x5632) ![0, 2112] S1024x704.size inb_S1024x5632_S1024x704_0_2112)

/-- The columns of the gate's inner weights that chunk `n` uses. -/
def gateCols (w : FVec Ideal S1024x5632 .bf16) : ℕ → FVec Ideal S1024x704 .bf16
  | 0 => View.ld (Val := Elt Ideal) (e' := .bf16) w (Rect.unit (s := S1024x5632) ![0, 2816] S1024x704.size inb_S1024x5632_S1024x704_0_2816)
  | 1 => View.ld (Val := Elt Ideal) (e' := .bf16) w (Rect.unit (s := S1024x5632) ![0, 3520] S1024x704.size inb_S1024x5632_S1024x704_0_3520)
  | 2 => View.ld (Val := Elt Ideal) (e' := .bf16) w (Rect.unit (s := S1024x5632) ![0, 4224] S1024x704.size inb_S1024x5632_S1024x704_0_4224)
  | _ => View.ld (Val := Elt Ideal) (e' := .bf16) w (Rect.unit (s := S1024x5632) ![0, 4928] S1024x704.size inb_S1024x5632_S1024x704_0_4928)

/-- The rows of the outer weights that chunk `n` uses. -/
def downRows (w : FVec Ideal S2816x1024 .bf16) : ℕ → FVec Ideal S704x1024 .bf16
  | 0 => View.ld (Val := Elt Ideal) (e' := .bf16) w (Rect.unit (s := S2816x1024) ![0, 0] S704x1024.size inb_S2816x1024_S704x1024_0_0)
  | 1 => View.ld (Val := Elt Ideal) (e' := .bf16) w (Rect.unit (s := S2816x1024) ![704, 0] S704x1024.size inb_S2816x1024_S704x1024_704_0)
  | 2 => View.ld (Val := Elt Ideal) (e' := .bf16) w (Rect.unit (s := S2816x1024) ![1408, 0] S704x1024.size inb_S2816x1024_S704x1024_1408_0)
  | _ => View.ld (Val := Elt Ideal) (e' := .bf16) w (Rect.unit (s := S2816x1024) ![2112, 0] S704x1024.size inb_S2816x1024_S704x1024_2112_0)

/-- What chunk `n` adds to the feed-forward. -/
def chunkPart (h : FVec Ideal S256x1024 .bf16) (wi : FVec Ideal S1024x5632 .bf16) (wd : FVec Ideal S2816x1024 .bf16) (n : ℕ) : FVec Ideal S256x1024 .f32 :=
  part h (upCols wi n) (gateCols wi n) (downRows wd n)

/-- The feed-forward, its four chunks added in order. -/
def feed (h : FVec Ideal S256x1024 .bf16) (wi : FVec Ideal S1024x5632 .bf16) (wd : FVec Ideal S2816x1024 .bf16) : FVec Ideal S256x1024 .f32 :=
  addf (addf (addf (chunkPart h wi wd 0) (chunkPart h wi wd 1)) (chunkPart h wi wd 2)) (chunkPart h wi wd 3)

/-- The tokens after the second residual. -/
def final (y : FVec Ideal S256x1024 .f32) (f : FVec Ideal S256x1024 .f32) (g2 : FVec Ideal S1x1x1024 .f32) : FVec Ideal S1x256x1024 .f32 :=
  shapeCast S1x256x1024 (addf y (mulf (broadcastTo S256x1024 (shapeCast S1x1024 g2 shapeCasts_S1x1x1024_S1x1024) broadcasts_S1x1024_S256x1024) f))
    shapeCasts_S256x1024_S1x256x1024

/-- The 1024 modulation columns beginning at `2048`, `3072`, `4096` and `5120`. -/
def modCols (md : FVec Ideal S1x1x6144 .f32) : ℕ → FVec Ideal S1x1x1024 .f32
  | 2 => View.ld (Val := Elt Ideal) (e' := .f32) md (Rect.unit (s := S1x1x6144) ![0, 0, 2048] S1x1x1024.size inb_S1x1x6144_S1x1x1024_0_0_2048)
  | 3 => View.ld (Val := Elt Ideal) (e' := .f32) md (Rect.unit (s := S1x1x6144) ![0, 0, 3072] S1x1x1024.size inb_S1x1x6144_S1x1x1024_0_0_3072)
  | 4 => View.ld (Val := Elt Ideal) (e' := .f32) md (Rect.unit (s := S1x1x6144) ![0, 0, 4096] S1x1x1024.size inb_S1x1x6144_S1x1x1024_0_0_4096)
  | _ => View.ld (Val := Elt Ideal) (e' := .f32) md (Rect.unit (s := S1x1x6144) ![0, 0, 5120] S1x1x1024.size inb_S1x1x6144_S1x1x1024_0_0_5120)

/-- 256 tokens' residual stream, from the merge of the two branches. -/
def stream (x ga gr : FVec Ideal S1x256x1024 .f32) (yf yb bs v g : FVec Ideal S1x256x512 .f32) (oa : FVec Ideal S1x256x512 .bf16)
    (md : FVec Ideal S1x1x6144 .f32) (lw lb : FVec Ideal S1x512 .f32) (wa wr : FVec Ideal S512x1024 .bf16) (wo : FVec Ideal S1024x1024 .bf16) :
    FVec Ideal S256x1024 .f32 :=
  resid x (modCols md 2) (merge ga gr oa (scanOut yf yb bs v g lw lb) wa wr) wo

/-- 256 tokens' result, from their residual stream. -/
def finish (y : FVec Ideal S256x1024 .f32) (md : FVec Ideal S1x1x6144 .f32) (n2 : FVec Ideal S1x1024 .f32)
    (wi : FVec Ideal S1024x5632 .bf16) (wd : FVec Ideal S2816x1024 .bf16) : FVec Ideal S1x256x1024 .f32 :=
  final y (feed (normed y n2 (modCols md 4) (modCols md 3)) wi wd) (modCols md 5)

/-- 256 tokens' result. -/
def half (x ga gr : FVec Ideal S1x256x1024 .f32) (yf yb bs v g : FVec Ideal S1x256x512 .f32) (oa : FVec Ideal S1x256x512 .bf16)
    (md : FVec Ideal S1x1x6144 .f32) (lw lb : FVec Ideal S1x512 .f32) (wa wr : FVec Ideal S512x1024 .bf16) (wo : FVec Ideal S1024x1024 .bf16)
    (n2 : FVec Ideal S1x1024 .f32) (wi : FVec Ideal S1024x5632 .bf16) (wd : FVec Ideal S2816x1024 .bf16) : FVec Ideal S1x256x1024 .f32 :=
  finish (stream x ga gr yf yb bs v g oa md lw lb wa wr wo) md n2 wi wd

end Cert.Post

end
-- ==== Proof.PostBlock.lean ====
/- What the merge and feed-forward call leaves in its result block at a grid point: the two halves' results, each from its own
   256 rows of the blocks read. -/
module

public import proofs.«01_k».proof.Proof.PostStages

@[expose] public section

set_option maxRecDepth 16384

noncomputable section

namespace Cert.Post

open Idealize.ShloMosaic Cert.Kernel2Ideal Cert.Kernel2Ideal.Gen

variable (m : (ℓ : Loc nD τ sig) → Buf (Elt Ideal) ℓ)

/-- Half `i`'s rows of a block 1024 wide. -/
def wide (x : FVec Ideal S1x512x1024 .f32) : ℕ → FVec Ideal S1x256x1024 .f32
  | 0 => View.ld (Val := Elt Ideal) (e' := .f32) x (Rect.unit (s := S1x512x1024) ![0, 0, 0] S1x256x1024.size inb_S1x512x1024_S1x256x1024_0_0_0)
  | _ => View.ld (Val := Elt Ideal) (e' := .f32) x (Rect.unit (s := S1x512x1024) ![0, 256, 0] S1x256x1024.size inb_S1x512x1024_S1x256x1024_0_256_0)

/-- Half `i`'s rows of a block 512 wide. -/
def rows (x : FVec Ideal S1x512x512 .f32) : ℕ → FVec Ideal S1x256x512 .f32
  | 0 => View.ld (Val := Elt Ideal) (e' := .f32) x (Rect.unit (s := S1x512x512) ![0, 0, 0] S1x256x512.size inb_S1x512x512_S1x256x512_0_0_0)
  | _ => View.ld (Val := Elt Ideal) (e' := .f32) x (Rect.unit (s := S1x512x512) ![0, 256, 0] S1x256x512.size inb_S1x512x512_S1x256x512_0_256_0)

/-- Half `i`'s rows of the attention's block. -/
def attn (x : FVec Ideal S1x512x512 .bf16) : ℕ → FVec Ideal S1x256x512 .bf16
  | 0 => View.ld (Val := Elt Ideal) (e' := .bf16) x (Rect.unit (s := S1x512x512) ![0, 0, 0] S1x256x512.size inb_S1x512x512_S1x256x512_0_0_0)
  | _ => View.ld (Val := Elt Ideal) (e' := .bf16) x (Rect.unit (s := S1x512x512) ![0, 256, 0] S1x256x512.size inb_S1x512x512_S1x256x512_0_256_0)

/-- What half `i` of a grid point's tokens ends as, from the blocks read. -/
def halfOf (x0 : FVec Ideal S1x512x1024 .f32) (x1 x2 x3 x4 x5 : FVec Ideal S1x512x512 .f32) (x6 : FVec Ideal S1x512x512 .bf16) (x7 x8 : FVec Ideal S1x512x1024 .f32)
    (x9 : FVec Ideal S1x1x6144 .f32) (x10 x11 : FVec Ideal S1x512 .f32) (x12 x13 : FVec Ideal S512x1024 .bf16) (x14 : FVec Ideal S1024x1024 .bf16) (x15 : FVec Ideal S1x1024 .f32)
    (x16 : FVec Ideal S1024x5632 .bf16) (x17 : FVec Ideal S2816x1024 .bf16) (i : ℕ) : FVec Ideal S1x256x1024 .f32 :=
  half (wide x0 i) (wide x7 i) (wide x8 i) (rows x1 i) (rows x2 i) (rows x3 i) (rows x4 i) (rows x5 i) (attn x6 i) x9 x10 x11 x12 x13 x14 x15 x16 x17

theorem zeros2 : (![0, 0] : Fin 2 → Nat) = fun _ => 0 := funext fun a => by fin_cases a <;> rfl

/-- The result block of grid point `t` is its two halves' results. -/
theorem outs_eq (c : Dev nD) (t : Fin cfg0.N) : outsAt0 m c t
    = View.canon (Val := Elt Ideal) (e := .f32)
      [⟨Rect.unit (s := S1x512x1024) ![0, 256, 0] S1x256x1024.size inb_S1x512x1024_S1x256x1024_0_256_0,
          halfOf (iblk m c 0 t) (iblk m c 1 t) (iblk m c 2 t) (iblk m c 3 t) (X0_4 m c t) (X0_5 m c t) (iblk m c 6 t) (iblk m c 7 t) (iblk m c 8 t) (iblk m c 9 t)
            (iblk m c 10 t) (iblk m c 11 t) (iblk m c 12 t) (iblk m c 13 t) (iblk m c 14 t) (iblk m c 15 t) (iblk m c 16 t) (iblk m c 17 t) 1⟩,
        ⟨Rect.unit (s := S1x512x1024) ![0, 0, 0] S1x256x1024.size inb_S1x512x1024_S1x256x1024_0_0_0,
          halfOf (iblk m c 0 t) (iblk m c 1 t) (iblk m c 2 t) (iblk m c 3 t) (X0_4 m c t) (X0_5 m c t) (iblk m c 6 t) (iblk m c 7 t) (iblk m c 8 t) (iblk m c 9 t)
            (iblk m c 10 t) (iblk m c 11 t) (iblk m c 12 t) (iblk m c 13 t) (iblk m c 14 t) (iblk m c 15 t) (iblk m c 16 t) (iblk m c 17 t) 0⟩] := by
  unfold outsAt0 out0_A_18
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x512) zeros2, View.ld_unit_zero (S := S512x1024) zeros2,
    View.ld_unit_zero (S := S1024x1024) zeros2, View.ld_unit_zero (S := S1x1024) zeros2]
  rfl

end Cert.Post

end
-- ==== Proof.PostSpec.lean ====
/- The merge and feed-forward of one token, as functions of that token's rows: the scans' norm in each head, the gate, the
   merge with the attention, the first residual, the norm, the gated feed-forward and the second residual. -/
module

public import proofs.«01_k».proof.Proof.Softmax

@[expose] public section

set_option maxRecDepth 16384

noncomputable section

namespace Cert.Post

open Idealize.ShloMosaic

/-- The sum over the 64 channels of a channel's head. -/
def headOf (z : Fin 512 → EReal) (c : Fin 512) : EReal := ∑ d : Fin 64, z ⟨64 * (c.val / 64) + d.val, by omega⟩

/-- Less its head's mean. -/
def lessMean (z : Fin 512 → EReal) (c : Fin 512) : EReal := z c - headOf z c * ((1 / 64 : ℝ) : EReal)

/-- Divided by its head's root mean square. -/
def unitHead (z : Fin 512 → EReal) (c : Fin 512) : EReal :=
  z c * Ideal.rsqrt (headOf (fun k => z k * z k) c * ((1 / 64 : ℝ) : EReal) + Ideal.ofBits .f32 0x3A27C5AC#32)

/-- A channel of the gated scan. -/
def scanRow (yf yb bs v g lw lb : Fin 512 → EReal) (c : Fin 512) : EReal :=
  (unitHead (lessMean fun k => yf k + yb k) c * lw c + lb c + bs c * v c) * Ideal.logistic (g c)

/-- A channel of the gated merge of attention and scan. -/
def mergeRow (ga gr : Fin 1024 → EReal) (oa o : Fin 512 → EReal) (wa wr : Fin 512 → Fin 1024 → EReal) (c : Fin 1024) : EReal :=
  ga c * (∑ j, oa j * wa j c) + gr c * (∑ j, o j * wr j c)

/-- A channel of the residual stream after the merge. -/
def residRow (x g1 mg : Fin 1024 → EReal) (wo : Fin 1024 → Fin 1024 → EReal) (c : Fin 1024) : EReal :=
  x c + g1 c * ∑ j, mg j * wo j c

/-- A channel of the normed and modulated stream. -/
def normRow (y n2 s2 h2 : Fin 1024 → EReal) (c : Fin 1024) : EReal :=
  y c * Ideal.rsqrt (Ideal.div (∑ j, y j * y j) (Ideal.ofBits .f32 0x44800000#32) + Ideal.ofBits .f32 0x358637BD#32) * n2 c * (1 + s2 c) + h2 c

/-- The gated activation of inner column `j`. -/
def actRow (h : Fin 1024 → EReal) (wi : Fin 1024 → Fin 5632 → EReal) (j : Fin 2816) : EReal :=
  (∑ i, h i * wi i ⟨j.val, by omega⟩) * Ideal.logistic (∑ i, h i * wi i ⟨j.val, by omega⟩) * ∑ i, h i * wi i ⟨2816 + j.val, by omega⟩

/-- A channel of the result, from the residual stream and its norm. -/
def endRow (y g2 h : Fin 1024 → EReal) (wi : Fin 1024 → Fin 5632 → EReal) (wd : Fin 2816 → Fin 1024 → EReal) (c : Fin 1024) : EReal :=
  y c + g2 c * ∑ j, actRow h wi j * wd j c

/-- A token's residual stream, from its rows. -/
def tokenStream (x g1 ga gr : Fin 1024 → EReal) (yf yb bs v g oa lw lb : Fin 512 → EReal) (wa wr : Fin 512 → Fin 1024 → EReal)
    (wo : Fin 1024 → Fin 1024 → EReal) : Fin 1024 → EReal :=
  residRow x g1 (mergeRow ga gr oa (scanRow yf yb bs v g lw lb) wa wr) wo

/-- A token's result, from its residual stream. -/
def tokenEnd (y h2 s2 g2 n2 : Fin 1024 → EReal) (wi : Fin 1024 → Fin 5632 → EReal) (wd : Fin 2816 → Fin 1024 → EReal) : Fin 1024 → EReal :=
  endRow y g2 (normRow y n2 s2 h2) wi wd

theorem ofBits_zero : Ideal.ofBits .f32 0x00000000#32 = 0 := by simp [Ideal.ofBits, Ideal.ieee]
theorem ofBits_one : Ideal.ofBits .f32 0x3F800000#32 = 1 := by
  have : Ideal.ofBits .f32 0x3F800000#32 = ((1 : ℝ) : EReal) := by simp [Ideal.ofBits, Ideal.ieee]; rw [← EReal.coe_mul]; norm_num
  rw [this]; rfl
theorem ofBits_sixtyfourth : Ideal.ofBits .f32 0x3C800000#32 = ((1 / 64 : ℝ) : EReal) := by
  simp [Ideal.ofBits, Ideal.ieee]; rw [← EReal.coe_mul]; norm_num
theorem ofBits_sixtyfour : Ideal.ofBits .f32 0x42800000#32 = ((64 : ℝ) : EReal) := by
  simp [Ideal.ofBits, Ideal.ieee]; rw [← EReal.coe_mul]; norm_num

/-- A sum over 2816 columns taken in four runs of 704. -/
theorem sum_runs (f : Fin 2816 → EReal) :
    (∑ j, f j) = (∑ j : Fin 704, f ⟨704 * 0 + j.val, by omega⟩) + (∑ j : Fin 704, f ⟨704 * 1 + j.val, by omega⟩)
      + (∑ j : Fin 704, f ⟨704 * 2 + j.val, by omega⟩) + ∑ j : Fin 704, f ⟨704 * 3 + j.val, by omega⟩ := by
  have h (n : ℕ) (g : Fin (704 + n) → EReal) : (∑ j, g j) = (∑ j : Fin 704, g (Fin.castAdd n j)) + ∑ j : Fin n, g (Fin.natAdd 704 j) := Fin.sum_univ_add g
  rw [show (∑ j, f j) = ∑ j : Fin (704 + (704 + (704 + 704))), f j from rfl, h, h, h, ← add_assoc, ← add_assoc]
  refine congrArg₂ _ (congrArg₂ _ (congrArg₂ _ ?_ ?_) ?_) ?_ <;>
    exact Finset.sum_congr rfl fun j _ => congrArg f (Fin.ext (by simp <;> omega))

section Arrays

variable {B T : ℕ} (x0 : FVec Ideal ⟨3, ![B, T, 1024]⟩ .f32) (x1 : FVec Ideal ⟨3, ![B, 1, 6144]⟩ .f32) (x2 x3 x4 : FVec Ideal ⟨3, ![B, T, 512]⟩ .f32)
  (x5 : FVec Ideal ⟨3, ![B, T, 2304]⟩ .f32) (x6 : FVec Ideal ⟨3, ![B, T, 512]⟩ .bf16) (x7 : FVec Ideal ⟨3, ![B, T, 2048]⟩ .f32)
  (x8 x9 : FVec Ideal ⟨2, ![1, 512]⟩ .f32) (x10 x11 : FVec Ideal ⟨3, ![1, 512, 1024]⟩ .f32) (x12 : FVec Ideal ⟨3, ![1, 1024, 1024]⟩ .f32)
  (x13 : FVec Ideal ⟨2, ![1, 1024]⟩ .f32) (x14 : FVec Ideal ⟨3, ![1, 1024, 5632]⟩ .f32) (x15 : FVec Ideal ⟨3, ![1, 2816, 1024]⟩ .f32)

/-- The residual stream of token `t` of batch `bt`, from the whole arrays: `B` batches of `T` tokens. -/
def postStream (bt : Fin B) (t : Fin T) : Fin 1024 → EReal :=
  tokenStream (fun k => x0 (ix3 bt t k)) (fun k => x1 (ix3 bt 0 ⟨2048 + k.val, by omega⟩)) (fun k => x7 (ix3 bt t ⟨k.val, by omega⟩)) (fun k => x7 (ix3 bt t ⟨1024 + k.val, by omega⟩))
    (fun k => x2 (ix3 bt t k)) (fun k => x3 (ix3 bt t k)) (fun k => x4 (ix3 bt t k)) (fun k => x5 (ix3 bt t ⟨1024 + k.val, by omega⟩)) (fun k => x5 (ix3 bt t ⟨1536 + k.val, by omega⟩))
    (fun k => x6 (ix3 bt t k)) (fun k => x8 (ix2 0 k)) (fun k => x9 (ix2 0 k)) (fun j k => x10 (ix3 0 j k)) (fun j k => x11 (ix3 0 j k)) (fun j k => x12 (ix3 0 j k))

/-- One entry of the result: batch, token, channel. -/
def postEntry (bt : Fin B) (t : Fin T) (c : Fin 1024) : EReal :=
  tokenEnd (postStream x0 x1 x2 x3 x4 x5 x6 x7 x8 x9 x10 x11 x12 bt t) (fun k => x1 (ix3 bt 0 ⟨3072 + k.val, by omega⟩)) (fun k => x1 (ix3 bt 0 ⟨4096 + k.val, by omega⟩))
    (fun k => x1 (ix3 bt 0 ⟨5120 + k.val, by omega⟩)) (fun k => x13 (ix2 0 k)) (fun i k => x14 (ix3 0 i k)) (fun j k => x15 (ix3 0 j k)) c

/-- The whole result. -/
def postResult : FVec Ideal ⟨3, ![B, T, 1024]⟩ .f32 := fun i =>
  postEntry x0 x1 x2 x3 x4 x5 x6 x7 x8 x9 x10 x11 x12 x13 x14 x15 (i 0) (i 1) (i 2)

end Arrays

end Cert.Post

end
-- ==== Proof.PostRows.lean ====
/- Each stage of a half of a grid point, read at one token: it is the one-token function of that token's rows. -/
module

public import proofs.«01_k».proof.Proof.PostBlock
public import proofs.«01_k».proof.Proof.PostSpec

@[expose] public section

set_option maxRecDepth 16384

noncomputable section

namespace Cert.Post

open Idealize.ShloMosaic Cert.Kernel2Ideal Cert.Kernel2Ideal.Gen

theorem first_apply (r : Fin 256) (l : Fin 128) : first (ix2 r l) = BitVec.ofBool (decide (l.val < 64)) := by
  have h1 : IntOp.cmpi CmpIPredicate.slt (BitVec.ofNat 32 l.val) 64#32 = BitVec.ofBool (decide (l.val < 64)) := by
    revert l; decide
  pointwise [first]
  exact h1

theorem spread_apply (y : FVec Ideal S256x128 .f32) (r : Fin 256) (l : Fin 128) : spread y (ix2 r l) = ∑ k : Fin 128, y (ix2 r k) := by
  pointwise [spread]

theorem headSum_apply (y : FVec Ideal S256x128 .f32) (r : Fin 256) (l : Fin 128) :
    headSum y (ix2 r l) = ∑ d : Fin 64, y (ix2 r ⟨64 * (l.val / 64) + d.val, by omega⟩) := by
  have e1 (k : Fin 128) : select first y (broadcast S256x128 (Scalar.ofBits (F := Ideal) .f32 0x00000000#32)) (ix2 r k) = if k.val < 64 then y (ix2 r k) else 0 := by
    show Scalar.select (first (ix2 r k)) _ _ = _
    rw [first_apply]
    by_cases h : k.val < 64 <;> simp [h, Scalar.select, broadcast, ofBits_zero]
  have e2 (k : Fin 128) : select first (broadcast S256x128 (Scalar.ofBits (F := Ideal) .f32 0x00000000#32)) y (ix2 r k) = if 64 ≤ k.val then y (ix2 r k) else 0 := by
    show Scalar.select (first (ix2 r k)) _ _ = _
    rw [first_apply]
    by_cases h : k.val < 64
    · have h' : ¬ 64 ≤ k.val := by omega
      simp [h, h', Scalar.select, broadcast, ofBits_zero]
    · have h' : 64 ≤ k.val := by omega
      have h'' : ¬ k.val < 64 := h
      rw [if_pos h', decide_eq_false h'']
      rfl
  show Scalar.select (first (ix2 r l)) (spread _ (ix2 r l)) (spread _ (ix2 r l)) = _
  rw [first_apply, spread_apply, spread_apply, Finset.sum_congr rfl fun k _ => e1 k, Finset.sum_congr rfl fun k _ => e2 k]
  have s1 := Cert.Attn.sum_low (fun k => y (ix2 r k)) fun _ => 1
  have s2 := Cert.Attn.sum_high (fun k => y (ix2 r k)) fun _ => 1
  simp only [mul_one] at s1 s2
  rw [s1, s2]
  by_cases h : l.val < 64
  · have h0 : l.val / 64 = 0 := by omega
    simp [h, h0, Scalar.select]
  · have h0 : l.val / 64 = 1 := by omega
    simp [h, h0, Scalar.select]

theorem headSums_apply (y : FVec Ideal S256x512 .f32) (r : Fin 256) (c : Fin 512) :
    headSums y (ix2 r c) = headOf (fun k => y (ix2 r k)) c := by
  pointwise [headSums]
  have e (o : ℕ) (ho : o + 128 ≤ 512) (hs : S256x512.Slices ![0, o] S256x128) (l : Fin 128) (hl : o + l.val = c.val) (h64 : o % 64 = 0) :
      headSum (extractStridedSlice S256x128 ![0, o] y hs) (ix2 r l) = headOf (fun k => y (ix2 r k)) c := by
    rw [headSum_apply, headOf]
    refine Finset.sum_congr rfl fun d _ => ?_
    have := d.isLt
    refine extractStridedSlice_apply ![0, o] y hs _ _ fun a => ?_
    match a with
    | ⟨0, _⟩ => show r.val = 0 + r.val; omega
    | ⟨1, _⟩ => show 64 * (c.val / 64) + d.val = o + (64 * (l.val / 64) + d.val); omega
  by_cases h0 : c.val < 128
  · rw [dif_pos h0]
    exact e 0 (by omega) slices_S256x512_o0_0_S256x128 ⟨c.val, h0⟩ (by simp) (by norm_num)
  rw [dif_neg h0]
  by_cases h1 : c.val - 128 < 128
  · rw [dif_pos h1]
    exact e 128 (by omega) slices_S256x512_o0_128_S256x128 ⟨c.val - 128, h1⟩ (by simp; omega) (by norm_num)
  rw [dif_neg h1]
  by_cases h2 : c.val - 128 - 128 < 128
  · rw [dif_pos h2]
    exact e 256 (by omega) slices_S256x512_o0_256_S256x128 ⟨c.val - 128 - 128, h2⟩ (by simp; omega) (by norm_num)
  rw [dif_neg h2]
  exact e 384 (by omega) slices_S256x512_o0_384_S256x128 ⟨c.val - 128 - 128 - 128, by omega⟩ (by simp; omega) (by norm_num)

theorem centre_apply (y : FVec Ideal S256x512 .f32) (r : Fin 256) (c : Fin 512) :
    centre y (ix2 r c) = lessMean (fun k => y (ix2 r k)) c := by
  pointwise [centre, lessMean]
  rw [headSums_apply, ofBits_sixtyfourth]

theorem scaled_apply (y : FVec Ideal S256x512 .f32) (r : Fin 256) (c : Fin 512) :
    scaled y (ix2 r c) = unitHead (fun k => y (ix2 r k)) c := by
  pointwise [scaled, unitHead]
  have h : (fun k => mulf y y (ix2 r k)) = fun k => y (ix2 r k) * y (ix2 r k) := rfl
  rw [headSums_apply, ofBits_sixtyfourth, h]

theorem scanOut_apply (yf yb bs v g : FVec Ideal S1x256x512 .f32) (lw lb : FVec Ideal S1x512 .f32) (r : Fin 256) (c : Fin 512) :
    scanOut yf yb bs v g lw lb (ix2 r c) = scanRow (fun k => yf (ix3 0 r k)) (fun k => yb (ix3 0 r k)) (fun k => bs (ix3 0 r k)) (fun k => v (ix3 0 r k))
      (fun k => g (ix3 0 r k)) (fun k => lw (ix2 0 k)) (fun k => lb (ix2 0 k)) c := by
  pointwise [scanOut, scanRow]
  have h : (fun k => centre (both yf yb) (ix2 r k)) = lessMean fun k => yf (ix3 0 r k) + yb (ix3 0 r k) := by
    funext k
    rw [centre_apply]
    refine congrArg (fun z => lessMean z k) (funext fun j => ?_)
    pointwise [both]
  rw [scaled_apply, h, zero_sub, Ideal.logistic]

theorem merge_apply (ga gr : FVec Ideal S1x256x1024 .f32) (oa : FVec Ideal S1x256x512 .bf16) (o : FVec Ideal S256x512 .f32) (wa wr : FVec Ideal S512x1024 .bf16)
    (r : Fin 256) (c : Fin 1024) :
    merge ga gr oa o wa wr (ix2 r c) = mergeRow (fun k => ga (ix3 0 r k)) (fun k => gr (ix3 0 r k)) (fun k => oa (ix3 0 r k)) (fun k => o (ix2 r k))
      (fun j k => wa (ix2 j k)) (fun j k => wr (ix2 j k)) c := by
  pointwise [merge, branch, mergeRow]

theorem resid_apply (x : FVec Ideal S1x256x1024 .f32) (g1 : FVec Ideal S1x1x1024 .f32) (mg : FVec Ideal S256x1024 .f32) (wo : FVec Ideal S1024x1024 .bf16)
    (r : Fin 256) (c : Fin 1024) :
    resid x g1 mg wo (ix2 r c) = residRow (fun k => x (ix3 0 r k)) (fun k => g1 (ix3 0 0 k)) (fun k => mg (ix2 r k)) (fun j k => wo (ix2 j k)) c := by
  pointwise [resid, residRow]

theorem normed_apply (y : FVec Ideal S256x1024 .f32) (n2 : FVec Ideal S1x1024 .f32) (s2 h2 : FVec Ideal S1x1x1024 .f32) (r : Fin 256) (c : Fin 1024) :
    normed y n2 s2 h2 (ix2 r c) = normRow (fun k => y (ix2 r k)) (fun k => n2 (ix2 0 k)) (fun k => s2 (ix3 0 0 k)) (fun k => h2 (ix3 0 0 k)) c := by
  unfold normRow
  rw [← ofBits_one]
  pointwise [normed]

theorem inner_apply (h : FVec Ideal S256x1024 .bf16) (w : FVec Ideal S1024x704 .bf16) (r : Fin 256) (j : Fin 704) :
    inner h w (ix2 r j) = ∑ i : Fin 1024, h (ix2 r i) * w (ix2 i j) := by
  pointwise [inner]

theorem gated_apply (u g : FVec Ideal S256x704 .f32) (r : Fin 256) (j : Fin 704) :
    gated u g (ix2 r j) = u (ix2 r j) * Ideal.logistic (u (ix2 r j)) * g (ix2 r j) := by
  pointwise [gated]
  rw [zero_sub, Ideal.logistic]

theorem part_apply (h : FVec Ideal S256x1024 .bf16) (wu wg : FVec Ideal S1024x704 .bf16) (wd : FVec Ideal S704x1024 .bf16) (r : Fin 256) (c : Fin 1024) :
    part h wu wg wd (ix2 r c) = ∑ j : Fin 704, gated (inner h wu) (inner h wg) (ix2 r j) * wd (ix2 j c) := by
  pointwise [part]

theorem upCols_apply (w : FVec Ideal S1024x5632 .bf16) (n : Fin 4) (i : Fin 1024) (j : Fin 704) :
    upCols w n.val (ix2 i j) = w (ix2 i ⟨704 * n.val + j.val, by omega⟩) := by
  fin_cases n <;> (show w _ = w _; refine congrArg w ?_) <;> (funext a; fin_cases a <;> (apply Fin.ext; simp [Rect.emb, Rect.unit, ix2]))

theorem gateCols_apply (w : FVec Ideal S1024x5632 .bf16) (n : Fin 4) (i : Fin 1024) (j : Fin 704) :
    gateCols w n.val (ix2 i j) = w (ix2 i ⟨2816 + (704 * n.val + j.val), by omega⟩) := by
  fin_cases n <;> (show w _ = w _; refine congrArg w ?_) <;> (funext a; fin_cases a <;> (apply Fin.ext; simp [Rect.emb, Rect.unit, ix2] <;> omega))

theorem downRows_apply (w : FVec Ideal S2816x1024 .bf16) (n : Fin 4) (j : Fin 704) (c : Fin 1024) :
    downRows w n.val (ix2 j c) = w (ix2 ⟨704 * n.val + j.val, by omega⟩ c) := by
  fin_cases n <;> (show w _ = w _; refine congrArg w ?_) <;> (funext a; fin_cases a <;> (apply Fin.ext; simp [Rect.emb, Rect.unit, ix2]))

theorem modCols_apply (w : FVec Ideal S1x1x6144 .f32) (n : Fin 4) (j : Fin 1024) :
    modCols w (2 + n.val) (ix3 0 0 j) = w (ix3 0 0 ⟨1024 * (2 + n.val) + j.val, by omega⟩) := by
  fin_cases n <;> (show w _ = w _; refine congrArg w ?_) <;> (funext a; fin_cases a <;> (apply Fin.ext; simp [Rect.emb, Rect.unit, ix3]))

theorem final_apply (y f : FVec Ideal S256x1024 .f32) (g2 : FVec Ideal S1x1x1024 .f32) (r : Fin 256) (c : Fin 1024) :
    final y f g2 (ix3 0 r c) = y (ix2 r c) + g2 (ix3 0 0 c) * f (ix2 r c) := by
  pointwise [final]

/-! ## A half's token -/

theorem wide_apply (x : FVec Ideal S1x512x1024 .f32) (i : Fin 2) (r : Fin 256) (c : Fin 1024) :
    wide x i.val (ix3 0 r c) = x (ix3 0 ⟨256 * i.val + r.val, by omega⟩ c) := by
  fin_cases i <;> (show x _ = x _; refine congrArg x ?_) <;> (funext a; fin_cases a <;> (apply Fin.ext; simp [Rect.emb, Rect.unit, ix3]))

theorem rows_apply (x : FVec Ideal S1x512x512 .f32) (i : Fin 2) (r : Fin 256) (c : Fin 512) :
    rows x i.val (ix3 0 r c) = x (ix3 0 ⟨256 * i.val + r.val, by omega⟩ c) := by
  fin_cases i <;> (show x _ = x _; refine congrArg x ?_) <;> (funext a; fin_cases a <;> (apply Fin.ext; simp [Rect.emb, Rect.unit, ix3]))

theorem attn_apply (x : FVec Ideal S1x512x512 .bf16) (i : Fin 2) (r : Fin 256) (c : Fin 512) :
    attn x i.val (ix3 0 r c) = x (ix3 0 ⟨256 * i.val + r.val, by omega⟩ c) := by
  fin_cases i <;> (show x _ = x _; refine congrArg x ?_) <;> (funext a; fin_cases a <;> (apply Fin.ext; simp [Rect.emb, Rect.unit, ix3]))

/-- What chunk `n` adds to the feed-forward at a token: its 704 inner columns' share. -/
theorem chunkPart_apply (h : FVec Ideal S256x1024 .bf16) (wi : FVec Ideal S1024x5632 .bf16) (wd : FVec Ideal S2816x1024 .bf16) (n : Fin 4)
    (r : Fin 256) (c : Fin 1024) :
    chunkPart h wi wd n.val (ix2 r c) = ∑ j : Fin 704, actRow (fun k => h (ix2 r k)) (fun i k => wi (ix2 i k)) ⟨704 * n.val + j.val, by omega⟩
      * wd (ix2 ⟨704 * n.val + j.val, by omega⟩ c) := by
  unfold chunkPart
  rw [part_apply]
  refine Finset.sum_congr rfl fun j _ => ?_
  rw [gated_apply, inner_apply, inner_apply, downRows_apply, actRow]
  simp only [upCols_apply, gateCols_apply]

/-- The feed-forward at a token: the sum over all 2816 inner columns. -/
theorem feed_apply (h : FVec Ideal S256x1024 .bf16) (wi : FVec Ideal S1024x5632 .bf16) (wd : FVec Ideal S2816x1024 .bf16) (r : Fin 256) (c : Fin 1024) :
    feed h wi wd (ix2 r c) = ∑ j : Fin 2816, actRow (fun k => h (ix2 r k)) (fun i k => wi (ix2 i k)) j * wd (ix2 j c) := by
  rw [sum_runs]
  exact congrArg₂ _ (congrArg₂ _ (congrArg₂ _ (chunkPart_apply h wi wd 0 r c) (chunkPart_apply h wi wd 1 r c)) (chunkPart_apply h wi wd 2 r c))
    (chunkPart_apply h wi wd 3 r c)

/-- The residual stream of a half at a token. -/
theorem stream_apply (x ga gr : FVec Ideal S1x256x1024 .f32) (yf yb bs v g : FVec Ideal S1x256x512 .f32) (oa : FVec Ideal S1x256x512 .bf16)
    (md : FVec Ideal S1x1x6144 .f32) (lw lb : FVec Ideal S1x512 .f32) (wa wr : FVec Ideal S512x1024 .bf16) (wo : FVec Ideal S1024x1024 .bf16) (r : Fin 256) (c : Fin 1024) :
    stream x ga gr yf yb bs v g oa md lw lb wa wr wo (ix2 r c)
      = tokenStream (fun k => x (ix3 0 r k)) (fun k => md (ix3 0 0 ⟨2048 + k.val, by omega⟩)) (fun k => ga (ix3 0 r k)) (fun k => gr (ix3 0 r k))
          (fun k => yf (ix3 0 r k)) (fun k => yb (ix3 0 r k)) (fun k => bs (ix3 0 r k)) (fun k => v (ix3 0 r k)) (fun k => g (ix3 0 r k)) (fun k => oa (ix3 0 r k))
          (fun k => lw (ix2 0 k)) (fun k => lb (ix2 0 k)) (fun j k => wa (ix2 j k)) (fun j k => wr (ix2 j k)) (fun j k => wo (ix2 j k)) c := by
  unfold stream tokenStream
  rw [resid_apply]
  simp only [merge_apply, scanOut_apply]
  rw [show (fun k => modCols md 2 (ix3 0 0 k)) = fun k : Fin 1024 => md (ix3 0 0 ⟨2048 + k.val, by omega⟩) from funext fun k => modCols_apply md 0 k]

/-- A half's result at a token. -/
theorem finish_apply (y : FVec Ideal S256x1024 .f32) (md : FVec Ideal S1x1x6144 .f32) (n2 : FVec Ideal S1x1024 .f32)
    (wi : FVec Ideal S1024x5632 .bf16) (wd : FVec Ideal S2816x1024 .bf16) (r : Fin 256) (c : Fin 1024) :
    finish y md n2 wi wd (ix3 0 r c)
      = tokenEnd (fun k => y (ix2 r k)) (fun k => md (ix3 0 0 ⟨3072 + k.val, by omega⟩)) (fun k => md (ix3 0 0 ⟨4096 + k.val, by omega⟩))
          (fun k => md (ix3 0 0 ⟨5120 + k.val, by omega⟩)) (fun k => n2 (ix2 0 k)) (fun i k => wi (ix2 i k)) (fun j k => wd (ix2 j k)) c := by
  unfold finish tokenEnd endRow
  rw [final_apply, feed_apply]
  simp only [normed_apply]
  rw [show (fun k => modCols md 3 (ix3 0 0 k)) = fun k : Fin 1024 => md (ix3 0 0 ⟨3072 + k.val, by omega⟩) from funext fun k => modCols_apply md 1 k,
    show (fun k => modCols md 4 (ix3 0 0 k)) = fun k : Fin 1024 => md (ix3 0 0 ⟨4096 + k.val, by omega⟩) from funext fun k => modCols_apply md 2 k,
    show modCols md 5 (ix3 0 0 c) = md (ix3 0 0 ⟨5120 + c.val, by omega⟩) from modCols_apply md 3 c]

/-- What a grid point's half leaves at a token, from the blocks read. -/
theorem halfOf_apply (x0 : FVec Ideal S1x512x1024 .f32) (x1 x2 x3 x4 x5 : FVec Ideal S1x512x512 .f32) (x6 : FVec Ideal S1x512x512 .bf16) (x7 x8 : FVec Ideal S1x512x1024 .f32)
    (x9 : FVec Ideal S1x1x6144 .f32) (x10 x11 : FVec Ideal S1x512 .f32) (x12 x13 : FVec Ideal S512x1024 .bf16) (x14 : FVec Ideal S1024x1024 .bf16) (x15 : FVec Ideal S1x1024 .f32)
    (x16 : FVec Ideal S1024x5632 .bf16) (x17 : FVec Ideal S2816x1024 .bf16) (i : Fin 2) (r : Fin 256) (c : Fin 1024) (q : Fin 512) (hq : q.val = 256 * i.val + r.val) :
    halfOf x0 x1 x2 x3 x4 x5 x6 x7 x8 x9 x10 x11 x12 x13 x14 x15 x16 x17 i.val (ix3 0 r c)
      = tokenEnd (tokenStream (fun k => x0 (ix3 0 q k)) (fun k => x9 (ix3 0 0 ⟨2048 + k.val, by omega⟩)) (fun k => x7 (ix3 0 q k)) (fun k => x8 (ix3 0 q k))
            (fun k => x1 (ix3 0 q k)) (fun k => x2 (ix3 0 q k)) (fun k => x3 (ix3 0 q k)) (fun k => x4 (ix3 0 q k)) (fun k => x5 (ix3 0 q k)) (fun k => x6 (ix3 0 q k))
            (fun k => x10 (ix2 0 k)) (fun k => x11 (ix2 0 k)) (fun j k => x12 (ix2 j k)) (fun j k => x13 (ix2 j k)) (fun j k => x14 (ix2 j k)))
          (fun k => x9 (ix3 0 0 ⟨3072 + k.val, by omega⟩)) (fun k => x9 (ix3 0 0 ⟨4096 + k.val, by omega⟩)) (fun k => x9 (ix3 0 0 ⟨5120 + k.val, by omega⟩))
          (fun k => x15 (ix2 0 k)) (fun i k => x16 (ix2 i k)) (fun j k => x17 (ix2 j k)) c := by
  have hr : ∀ h : 256 * i.val + r.val < 512, (⟨256 * i.val + r.val, h⟩ : Fin 512) = q := fun h => Fin.ext hq.symm
  unfold halfOf half
  rw [finish_apply]
  simp only [stream_apply, wide_apply, rows_apply, attn_apply, hr]

end Cert.Post

end
-- ==== Proof.PostArray.lean ====
/- What the merge and feed-forward call's result array holds: at every token and channel, the one-token function of that
   token's rows. -/
module

public import proofs.«01_k».proof.Proof.Gen.Kernel2Ideal.Value
public import proofs.«01_k».proof.Proof.PostRows
public import Idealize.ShloMosaic.Lib.Pipeline.ValueKit.Geometry

@[expose] public section

set_option maxRecDepth 16384

noncomputable section

namespace Cert.Post

open Idealize.ShloMosaic Cert.Kernel2Ideal Cert.Kernel2Ideal.Gen

variable (m : (ℓ : Loc nD τ sig) → Buf (Elt Ideal) ℓ)

/-! ## What the host's reshapes and casts leave -/

theorem V_lnw (c : Dev nD) : V m c main_v13 = shapeCast S1x512 (shapeCast S512 (m (c.tc.loc main_arg8) : FVec Ideal S1x512 .f32) shapeCasts_S1x512_S512) shapeCasts_S512_S1x512 := by
  unfold_abbrev_sides
  after_results
  rfl

theorem V_lnb (c : Dev nD) : V m c main_v14 = shapeCast S1x512 (shapeCast S512 (m (c.tc.loc main_arg9) : FVec Ideal S1x512 .f32) shapeCasts_S1x512_S512) shapeCasts_S512_S1x512 := by
  unfold_abbrev_sides
  after_results
  rfl

theorem V_n2 (c : Dev nD) : V m c main_v15 = shapeCast S1x1024 (shapeCast S1024 (m (c.tc.loc main_arg13) : FVec Ideal S1x1024 .f32) shapeCasts_S1x1024_S1024) shapeCasts_S1024_S1x1024 := by
  unfold_abbrev_sides
  after_results
  rfl

theorem row512 (x : FVec Ideal S1x512 .f32) (k : Fin 512) :
    shapeCast S1x512 (shapeCast S512 x shapeCasts_S1x512_S512) shapeCasts_S512_S1x512 (ix2 0 k) = x (ix2 0 k) := by
  pointwise []

theorem row1024 (x : FVec Ideal S1x1024 .f32) (k : Fin 1024) :
    shapeCast S1x1024 (shapeCast S1024 x shapeCasts_S1x1024_S1024) shapeCasts_S1024_S1x1024 (ix2 0 k) = x (ix2 0 k) := by
  pointwise []

/-- A weight matrix of this shape, its leading axis dropped, as the call takes it. -/
def cast512x1024 (x : FVec Ideal S1x512x1024 .f32) : FVec Ideal S512x1024 .bf16 :=
  truncf .bf16 (shapeCast S512x1024 x shapeCasts_S1x512x1024_S512x1024) bitsLt_bf16_f32

/-- A weight matrix of this shape, its leading axis dropped, as the call takes it. -/
def cast1024x1024 (x : FVec Ideal S1x1024x1024 .f32) : FVec Ideal S1024x1024 .bf16 :=
  truncf .bf16 (shapeCast S1024x1024 x shapeCasts_S1x1024x1024_S1024x1024) bitsLt_bf16_f32

/-- A weight matrix of this shape, its leading axis dropped, as the call takes it. -/
def cast1024x5632 (x : FVec Ideal S1x1024x5632 .f32) : FVec Ideal S1024x5632 .bf16 :=
  truncf .bf16 (shapeCast S1024x5632 x shapeCasts_S1x1024x5632_S1024x5632) bitsLt_bf16_f32

/-- A weight matrix of this shape, its leading axis dropped, as the call takes it. -/
def cast2816x1024 (x : FVec Ideal S1x2816x1024 .f32) : FVec Ideal S2816x1024 .bf16 :=
  truncf .bf16 (shapeCast S2816x1024 x shapeCasts_S1x2816x1024_S2816x1024) bitsLt_bf16_f32

theorem V_wa (c : Dev nD) : V m c main_v3 = cast512x1024 (m (c.tc.loc main_arg10)) := by
  unfold_abbrev_sides
  after_results
  rfl

theorem V_wr (c : Dev nD) : V m c main_v5 = cast512x1024 (m (c.tc.loc main_arg11)) := by
  unfold_abbrev_sides
  after_results
  rfl

theorem V_wo (c : Dev nD) : V m c main_v7 = cast1024x1024 (m (c.tc.loc main_arg12)) := by
  unfold_abbrev_sides
  after_results
  rfl

theorem V_wi (c : Dev nD) : V m c main_v10 = cast1024x5632 (m (c.tc.loc main_arg14)) := by
  unfold_abbrev_sides
  after_results
  rfl

theorem V_wd (c : Dev nD) : V m c main_v12 = cast2816x1024 (m (c.tc.loc main_arg15)) := by
  unfold_abbrev_sides
  after_results
  rfl

theorem mat512x1024 (x : FVec Ideal S1x512x1024 .f32) (j : Fin 512) (k : Fin 1024) :
    cast512x1024 x (ix2 j k) = x (ix3 0 j k) := by
  pointwise [cast512x1024]

theorem mat1024x1024 (x : FVec Ideal S1x1024x1024 .f32) (j : Fin 1024) (k : Fin 1024) :
    cast1024x1024 x (ix2 j k) = x (ix3 0 j k) := by
  pointwise [cast1024x1024]

theorem mat1024x5632 (x : FVec Ideal S1x1024x5632 .f32) (j : Fin 1024) (k : Fin 5632) :
    cast1024x5632 x (ix2 j k) = x (ix3 0 j k) := by
  pointwise [cast1024x5632]

theorem mat2816x1024 (x : FVec Ideal S1x2816x1024 .f32) (j : Fin 2816) (k : Fin 1024) :
    cast2816x1024 x (ix2 j k) = x (ix3 0 j k) := by
  pointwise [cast2816x1024]

/-! ## The windows' blocks -/

/-- The batch a grid point works on. -/
def gb (t : Fin cfg0.N) : Fin 8 := grid0.coords t 0
/-- The tile of 512 tokens a grid point works on. -/
def gt (t : Fin cfg0.N) : Fin 8 := grid0.coords t 1

theorem index_0 : ∀ t : Fin cfg0.N, win0_0.index t = ![(gb t).val, (gt t).val, 0] :=
  (by decide +kernel : ∀ t : Fin grid0.N, win0_0.index t = ![(gb t).val, (gt t).val, 0])
theorem index_1 : ∀ t : Fin cfg0.N, win0_1.index t = ![(gb t).val, (gt t).val, 0] :=
  (by decide +kernel : ∀ t : Fin grid0.N, win0_1.index t = ![(gb t).val, (gt t).val, 0])
theorem index_2 : ∀ t : Fin cfg0.N, win0_2.index t = ![(gb t).val, (gt t).val, 0] :=
  (by decide +kernel : ∀ t : Fin grid0.N, win0_2.index t = ![(gb t).val, (gt t).val, 0])
theorem index_3 : ∀ t : Fin cfg0.N, win0_3.index t = ![(gb t).val, (gt t).val, 0] :=
  (by decide +kernel : ∀ t : Fin grid0.N, win0_3.index t = ![(gb t).val, (gt t).val, 0])
theorem index_4 : ∀ t : Fin cfg0.N, win0_4.index t = ![(gb t).val, (gt t).val, 2] :=
  (by decide +kernel : ∀ t : Fin grid0.N, win0_4.index t = ![(gb t).val, (gt t).val, 2])
theorem index_5 : ∀ t : Fin cfg0.N, win0_5.index t = ![(gb t).val, (gt t).val, 3] :=
  (by decide +kernel : ∀ t : Fin grid0.N, win0_5.index t = ![(gb t).val, (gt t).val, 3])
theorem index_6 : ∀ t : Fin cfg0.N, win0_6.index t = ![(gb t).val, (gt t).val, 0] :=
  (by decide +kernel : ∀ t : Fin grid0.N, win0_6.index t = ![(gb t).val, (gt t).val, 0])
theorem index_7 : ∀ t : Fin cfg0.N, win0_7.index t = ![(gb t).val, (gt t).val, 0] :=
  (by decide +kernel : ∀ t : Fin grid0.N, win0_7.index t = ![(gb t).val, (gt t).val, 0])
theorem index_8 : ∀ t : Fin cfg0.N, win0_8.index t = ![(gb t).val, (gt t).val, 1] :=
  (by decide +kernel : ∀ t : Fin grid0.N, win0_8.index t = ![(gb t).val, (gt t).val, 1])
theorem index_9 : ∀ t : Fin cfg0.N, win0_9.index t = ![(gb t).val, 0, 0] :=
  (by decide +kernel : ∀ t : Fin grid0.N, win0_9.index t = ![(gb t).val, 0, 0])
theorem index_10 : ∀ t : Fin cfg0.N, win0_10.index t = ![0, 0] :=
  (by decide +kernel : ∀ t : Fin grid0.N, win0_10.index t = ![0, 0])
theorem index_11 : ∀ t : Fin cfg0.N, win0_11.index t = ![0, 0] :=
  (by decide +kernel : ∀ t : Fin grid0.N, win0_11.index t = ![0, 0])
theorem index_12 : ∀ t : Fin cfg0.N, win0_12.index t = ![0, 0] :=
  (by decide +kernel : ∀ t : Fin grid0.N, win0_12.index t = ![0, 0])
theorem index_13 : ∀ t : Fin cfg0.N, win0_13.index t = ![0, 0] :=
  (by decide +kernel : ∀ t : Fin grid0.N, win0_13.index t = ![0, 0])
theorem index_14 : ∀ t : Fin cfg0.N, win0_14.index t = ![0, 0] :=
  (by decide +kernel : ∀ t : Fin grid0.N, win0_14.index t = ![0, 0])
theorem index_15 : ∀ t : Fin cfg0.N, win0_15.index t = ![0, 0] :=
  (by decide +kernel : ∀ t : Fin grid0.N, win0_15.index t = ![0, 0])
theorem index_16 : ∀ t : Fin cfg0.N, win0_16.index t = ![0, 0] :=
  (by decide +kernel : ∀ t : Fin grid0.N, win0_16.index t = ![0, 0])
theorem index_17 : ∀ t : Fin cfg0.N, win0_17.index t = ![0, 0] :=
  (by decide +kernel : ∀ t : Fin grid0.N, win0_17.index t = ![0, 0])
theorem index_18 : ∀ t : Fin cfg0.N, win0_18.index t = ![(gb t).val, (gt t).val, 0] :=
  (by decide +kernel : ∀ t : Fin grid0.N, win0_18.index t = ![(gb t).val, (gt t).val, 0])

theorem covers_18 : (cfg0.win 18).Covers := by decide +kernel

/-- The token of the whole array that row `i` of a grid point's blocks is. -/
def tok (t : Fin cfg0.N) (i : Fin 512) : Fin 4096 := ⟨512 * (gt t).val + i.val, by have := (gt t).isLt; omega⟩

theorem blk_0 (c : Dev nD) (t : Fin cfg0.N) (i : Fin 512) (k : Fin 1024) :
    (iblk m c 0 t : FVec Ideal S1x512x1024 .f32) (ix3 0 i k) = (m (c.tc.loc main_arg0) : FVec Ideal S8x4096x1024 .f32) (ix3 (gb t) (tok t i) k) := by
  blk_simp [iblk]
  refine (congrFun (V_main_arg0 m c) _).trans (congrArg (m (c.tc.loc main_arg0)) ?_)
  blk_ext [index_0, tok]

theorem blk_1 (c : Dev nD) (t : Fin cfg0.N) (i : Fin 512) (k : Fin 512) :
    (iblk m c 1 t : FVec Ideal S1x512x512 .f32) (ix3 0 i k) = (m (c.tc.loc main_arg2) : FVec Ideal S8x4096x512 .f32) (ix3 (gb t) (tok t i) k) := by
  blk_simp [iblk]
  refine (congrFun (V_main_arg2 m c) _).trans (congrArg (m (c.tc.loc main_arg2)) ?_)
  blk_ext [index_1, tok]

theorem blk_2 (c : Dev nD) (t : Fin cfg0.N) (i : Fin 512) (k : Fin 512) :
    (iblk m c 2 t : FVec Ideal S1x512x512 .f32) (ix3 0 i k) = (m (c.tc.loc main_arg3) : FVec Ideal S8x4096x512 .f32) (ix3 (gb t) (tok t i) k) := by
  blk_simp [iblk]
  refine (congrFun (V_main_arg3 m c) _).trans (congrArg (m (c.tc.loc main_arg3)) ?_)
  blk_ext [index_2, tok]

theorem blk_3 (c : Dev nD) (t : Fin cfg0.N) (i : Fin 512) (k : Fin 512) :
    (iblk m c 3 t : FVec Ideal S1x512x512 .f32) (ix3 0 i k) = (m (c.tc.loc main_arg4) : FVec Ideal S8x4096x512 .f32) (ix3 (gb t) (tok t i) k) := by
  blk_simp [iblk]
  refine (congrFun (V_main_arg4 m c) _).trans (congrArg (m (c.tc.loc main_arg4)) ?_)
  blk_ext [index_3, tok]

theorem blk_6 (c : Dev nD) (t : Fin cfg0.N) (i : Fin 512) (k : Fin 512) :
    (iblk m c 6 t : FVec Ideal S1x512x512 .bf16) (ix3 0 i k) = (m (c.tc.loc main_arg6) : FVec Ideal S8x4096x512 .bf16) (ix3 (gb t) (tok t i) k) := by
  blk_simp [iblk]
  refine (congrFun (V_main_arg6 m c) _).trans (congrArg (m (c.tc.loc main_arg6)) ?_)
  blk_ext [index_6, tok]

theorem blk_7 (c : Dev nD) (t : Fin cfg0.N) (i : Fin 512) (k : Fin 1024) :
    (iblk m c 7 t : FVec Ideal S1x512x1024 .f32) (ix3 0 i k) = (m (c.tc.loc main_arg7) : FVec Ideal S8x4096x2048 .f32) (ix3 (gb t) (tok t i) ⟨k.val, by omega⟩) := by
  blk_simp [iblk]
  refine (congrFun (V_main_arg7 m c) _).trans (congrArg (m (c.tc.loc main_arg7)) ?_)
  blk_ext [index_7, tok]

theorem blk_8 (c : Dev nD) (t : Fin cfg0.N) (i : Fin 512) (k : Fin 1024) :
    (iblk m c 8 t : FVec Ideal S1x512x1024 .f32) (ix3 0 i k) = (m (c.tc.loc main_arg7) : FVec Ideal S8x4096x2048 .f32) (ix3 (gb t) (tok t i) ⟨1024 + k.val, by omega⟩) := by
  blk_simp [iblk]
  refine (congrFun (V_main_arg7 m c) _).trans (congrArg (m (c.tc.loc main_arg7)) ?_)
  blk_ext [index_8, tok]

theorem blk_4 (c : Dev nD) (t : Fin cfg0.N) (i : Fin 512) (k : Fin 512) :
    (X0_4 m c t : FVec Ideal S1x512x512 .f32) (ix3 0 i k) = (m (c.tc.loc main_arg5) : FVec Ideal S8x4096x2304 .f32) (ix3 (gb t) (tok t i) ⟨1024 + k.val, by omega⟩) := by
  unfold X0_4 Pipeline.Window.fill
  rw [dif_pos (moved0_4 t (ix3 0 i k))]
  blk_simp [iblk]
  refine (congrFun (V_main_arg5 m c) _).trans (congrArg (m (c.tc.loc main_arg5)) ?_)
  blk_ext [index_4, tok]

theorem blk_5 (c : Dev nD) (t : Fin cfg0.N) (i : Fin 512) (k : Fin 512) :
    (X0_5 m c t : FVec Ideal S1x512x512 .f32) (ix3 0 i k) = (m (c.tc.loc main_arg5) : FVec Ideal S8x4096x2304 .f32) (ix3 (gb t) (tok t i) ⟨1536 + k.val, by omega⟩) := by
  unfold X0_5 Pipeline.Window.fill
  rw [dif_pos (moved0_5 t (ix3 0 i k))]
  blk_simp [iblk]
  refine (congrFun (V_main_arg5 m c) _).trans (congrArg (m (c.tc.loc main_arg5)) ?_)
  blk_ext [index_5, tok]

theorem blk_9 (c : Dev nD) (t : Fin cfg0.N) (k : Fin 6144) :
    (iblk m c 9 t : FVec Ideal S1x1x6144 .f32) (ix3 0 0 k) = (m (c.tc.loc main_arg1) : FVec Ideal S8x1x6144 .f32) (ix3 (gb t) 0 k) := by
  blk_simp [iblk]
  refine (congrFun (V_main_arg1 m c) _).trans (congrArg (m (c.tc.loc main_arg1)) ?_)
  blk_ext [index_9]

theorem blk_10 (c : Dev nD) (t : Fin cfg0.N) (k : Fin 512) :
    (iblk m c 10 t : FVec Ideal S1x512 .f32) (ix2 0 k) = (m (c.tc.loc main_arg8) : FVec Ideal S1x512 .f32) (ix2 0 k) := by
  rw [← row512 (m (c.tc.loc main_arg8)) k]
  blk_simp [iblk]
  refine (congrFun (V_lnw m c) _).trans (congrArg (shapeCast S1x512 _ _) ?_)
  blk_ext [index_10]

theorem blk_11 (c : Dev nD) (t : Fin cfg0.N) (k : Fin 512) :
    (iblk m c 11 t : FVec Ideal S1x512 .f32) (ix2 0 k) = (m (c.tc.loc main_arg9) : FVec Ideal S1x512 .f32) (ix2 0 k) := by
  rw [← row512 (m (c.tc.loc main_arg9)) k]
  blk_simp [iblk]
  refine (congrFun (V_lnb m c) _).trans (congrArg (shapeCast S1x512 _ _) ?_)
  blk_ext [index_11]

theorem blk_15 (c : Dev nD) (t : Fin cfg0.N) (k : Fin 1024) :
    (iblk m c 15 t : FVec Ideal S1x1024 .f32) (ix2 0 k) = (m (c.tc.loc main_arg13) : FVec Ideal S1x1024 .f32) (ix2 0 k) := by
  rw [← row1024 (m (c.tc.loc main_arg13)) k]
  blk_simp [iblk]
  refine (congrFun (V_n2 m c) _).trans (congrArg (shapeCast S1x1024 _ _) ?_)
  blk_ext [index_15]

theorem blk_12 (c : Dev nD) (t : Fin cfg0.N) (j : Fin 512) (k : Fin 1024) :
    (iblk m c 12 t : FVec Ideal S512x1024 .bf16) (ix2 j k) = (m (c.tc.loc main_arg10) : FVec Ideal S1x512x1024 .f32) (ix3 0 j k) := by
  rw [← mat512x1024 (m (c.tc.loc main_arg10)) j k]
  blk_simp [iblk]
  refine (congrFun (V_wa m c) _).trans (congrArg (cast512x1024 _) ?_)
  blk_ext [index_12]

theorem blk_13 (c : Dev nD) (t : Fin cfg0.N) (j : Fin 512) (k : Fin 1024) :
    (iblk m c 13 t : FVec Ideal S512x1024 .bf16) (ix2 j k) = (m (c.tc.loc main_arg11) : FVec Ideal S1x512x1024 .f32) (ix3 0 j k) := by
  rw [← mat512x1024 (m (c.tc.loc main_arg11)) j k]
  blk_simp [iblk]
  refine (congrFun (V_wr m c) _).trans (congrArg (cast512x1024 _) ?_)
  blk_ext [index_13]

theorem blk_14 (c : Dev nD) (t : Fin cfg0.N) (j : Fin 1024) (k : Fin 1024) :
    (iblk m c 14 t : FVec Ideal S1024x1024 .bf16) (ix2 j k) = (m (c.tc.loc main_arg12) : FVec Ideal S1x1024x1024 .f32) (ix3 0 j k) := by
  rw [← mat1024x1024 (m (c.tc.loc main_arg12)) j k]
  blk_simp [iblk]
  refine (congrFun (V_wo m c) _).trans (congrArg (cast1024x1024 _) ?_)
  blk_ext [index_14]

theorem blk_16 (c : Dev nD) (t : Fin cfg0.N) (j : Fin 1024) (k : Fin 5632) :
    (iblk m c 16 t : FVec Ideal S1024x5632 .bf16) (ix2 j k) = (m (c.tc.loc main_arg14) : FVec Ideal S1x1024x5632 .f32) (ix3 0 j k) := by
  rw [← mat1024x5632 (m (c.tc.loc main_arg14)) j k]
  blk_simp [iblk]
  refine (congrFun (V_wi m c) _).trans (congrArg (cast1024x5632 _) ?_)
  blk_ext [index_16]

theorem blk_17 (c : Dev nD) (t : Fin cfg0.N) (j : Fin 2816) (k : Fin 1024) :
    (iblk m c 17 t : FVec Ideal S2816x1024 .bf16) (ix2 j k) = (m (c.tc.loc main_arg15) : FVec Ideal S1x2816x1024 .f32) (ix3 0 j k) := by
  rw [← mat2816x1024 (m (c.tc.loc main_arg15)) j k]
  blk_simp [iblk]
  refine (congrFun (V_wd m c) _).trans (congrArg (cast2816x1024 _) ?_)
  blk_ext [index_17]

/-- What half `i` of a grid point's block holds at row `r`. -/
theorem half_eq (c : Dev nD) (t : Fin cfg0.N) (i : Fin 2) (r : Fin 256) (k : Fin 1024) (q : Fin 512) (hq : q.val = 256 * i.val + r.val) :
    halfOf (iblk m c 0 t) (iblk m c 1 t) (iblk m c 2 t) (iblk m c 3 t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) i.val (ix3 0 r k)
      = postEntry (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) (tok t q) k := by
  rw [halfOf_apply _ _ _ _ _ _ _ _ _ _ _ _ _ _ _ _ _ _ i r k q hq, postEntry, postStream]
  simp only [blk_0, blk_1, blk_2, blk_3, blk_4, blk_5, blk_6, blk_7, blk_8, blk_9, blk_10, blk_11, blk_12, blk_13, blk_14, blk_15, blk_16, blk_17]

/-- The store half `i` makes into the result's block. -/
def piece (c : Dev nD) (t : Fin cfg0.N) : Fin 2 → View.Piece (Elt Ideal) S1x512x1024 .f32
  | 1 => ⟨Rect.unit (s := S1x512x1024) ![0, 256, 0] S1x256x1024.size inb_S1x512x1024_S1x256x1024_0_256_0, halfOf (iblk m c 0 t) (iblk m c 1 t) (iblk m c 2 t) (iblk m c 3 t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 1⟩
  | 0 => ⟨Rect.unit (s := S1x512x1024) ![0, 0, 0] S1x256x1024.size inb_S1x512x1024_S1x256x1024_0_0_0, halfOf (iblk m c 0 t) (iblk m c 1 t) (iblk m c 2 t) (iblk m c 3 t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 0⟩

/-- What the block ends as: the one-token function at each row. -/
def blockAt (c : Dev nD) (t : Fin cfg0.N) : FVec Ideal S1x512x1024 .f32 := fun y =>
  postEntry (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) (tok t (y 1)) (y 2)

/-- Each half's store holds its rows' results. -/
theorem piece_holds (c : Dev nD) (t : Fin cfg0.N) : ∀ (i : Fin 2) (x : (piece m c t i).1.shape.Idx), (piece m c t i).2 x = blockAt m c t ((piece m c t i).1.emb x) := by
  have hx (x : S1x256x1024.Idx) : x = ix3 0 (x 1) (x 2) := by
    funext a
    match a with
    | ⟨0, _⟩ => exact Subsingleton.elim (α := Fin 1) _ _
    | ⟨1, _⟩ => rfl
    | ⟨2, _⟩ => rfl
  intro i
  match i with
  | 1 =>
    intro x
    refine ((congrArg _ (hx x)).trans (half_eq m c t 1 (x 1) (x 2) ((piece m c t 1).1.emb x 1) ?_)).trans (congrArg (postEntry (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) _) ?_)
    · show 256 + 1 * (x 1).val = 256 * 1 + (x 1).val; omega
    · apply Fin.ext; show (x 2).val = 0 + 1 * (x 2).val; omega
  | 0 =>
    intro x
    refine ((congrArg _ (hx x)).trans (half_eq m c t 0 (x 1) (x 2) ((piece m c t 0).1.emb x 1) ?_)).trans (congrArg (postEntry (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) _) ?_)
    · show 0 + 1 * (x 1).val = 256 * 0 + (x 1).val; omega
    · apply Fin.ext; show (x 2).val = 0 + 1 * (x 2).val; omega

/-- What a grid point leaves in its block, at every row. -/
theorem block_eq (c : Dev nD) (t : Fin cfg0.N) (q : Fin 512) (k : Fin 1024) :
    (outsAt0 m c t : FVec Ideal S1x512x1024 .f32) (ix3 0 q k)
      = postEntry (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) (tok t q) k := by
  rw [outs_eq]
  refine (View.canon_apply_of_pieces (blockAt m c t) [piece m c t 1, piece m c t 0] (fun p hp x => ?_) (ix3 0 q k) ?_).trans rfl
  · obtain ⟨i, hi⟩ : ∃ i : Fin 2, p = piece m c t i := by
      rcases List.mem_cons.mp hp with h | h
      · exact ⟨1, h⟩
      · exact ⟨0, List.mem_singleton.mp h⟩
    subst hi
    exact piece_holds m c t i x
  · by_cases h : q.val < 256
    · refine ⟨piece m c t 0, by simp [piece], (Rect.mem_set_unit (inb := inb_S1x512x1024_S1x256x1024_0_0_0)).mpr fun a => ?_⟩
      match a with
      | ⟨0, _⟩ => exact ⟨Nat.zero_le _, Nat.zero_lt_one⟩
      | ⟨1, _⟩ => exact ⟨Nat.zero_le _, show q.val < 0 + 256 by omega⟩
      | ⟨2, _⟩ => exact ⟨Nat.zero_le _, show k.val < 0 + 1024 by omega⟩
    · refine ⟨piece m c t 1, by simp [piece], (Rect.mem_set_unit (inb := inb_S1x512x1024_S1x256x1024_0_256_0)).mpr fun a => ?_⟩
      match a with
      | ⟨0, _⟩ => exact ⟨Nat.zero_le _, Nat.zero_lt_one⟩
      | ⟨1, _⟩ => exact ⟨show 256 ≤ q.val by omega, show q.val < 256 + 256 by omega⟩
      | ⟨2, _⟩ => exact ⟨Nat.zero_le _, show k.val < 0 + 1024 by omega⟩

/-- The result array after the run, at every entry. -/
theorem arr_eq (c : Dev nD) : (dats m 0 c).arrAt 18 cfg0.N
    = postResult (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) := by
  refine (dats m 0 c).arrAt_eq_of_covers 18 _ covers_18 fun t _ y => ?_
  blk_simp
  rw [after0_18]
  obtain ⟨i, e, rfl⟩ : ∃ (i : Fin 512) (e : Fin 1024), y = ix3 0 i e := by
    refine ⟨y 1, y 2, ?_⟩
    funext a
    match a with
    | ⟨0, _⟩ => exact Subsingleton.elim (α := Fin 1) _ _
    | ⟨1, _⟩ => rfl
    | ⟨2, _⟩ => rfl
  rw [block_eq m c t i e]
  have e0 : ((win0_18.blk t).view.emb (ix3 0 i e) 0).val = (gb t).val := by blk_simp [index_18]; simp
  have e1 : ((win0_18.blk t).view.emb (ix3 0 i e) 1).val = 512 * (gt t).val + i.val := by blk_simp [index_18]; simp; omega
  have e2 : ((win0_18.blk t).view.emb (ix3 0 i e) 2).val = e.val := by blk_simp [index_18]
  unfold postResult
  congr 1
  · exact Fin.ext e0.symm
  · exact Fin.ext e1.symm
  · exact Fin.ext e2.symm

end Cert.Post

end
-- ==== Proof.PostRef.lean ====
/- What the reference of the merge and feed-forward computes, stage by stage, at one token. -/
module

public import proofs.«01_k».proof.Proof.Gen.Reference2Ideal.Read
public import proofs.«01_k».proof.Proof.PostSpec

@[expose] public section

set_option maxRecDepth 16384

noncomputable section

namespace Cert.PostRef

open Idealize.ShloMosaic Cert.Reference2Ideal Cert.Reference2Ideal.Gen Cert.Reference2Ideal.Read Cert.Post

variable (x0 : FVec Ideal S8x4096x1024 .f32) (x1 : FVec Ideal S8x1x6144 .f32) (x2 x3 x4 : FVec Ideal S8x4096x512 .f32) (x5 : FVec Ideal S8x4096x2304 .f32)
  (x6 : FVec Ideal S8x4096x512 .bf16) (x7 : FVec Ideal S8x4096x2048 .f32) (x8 x9 : FVec Ideal S1x512 .f32) (x10 x11 : FVec Ideal S1x512x1024 .f32)
  (x12 : FVec Ideal S1x1024x1024 .f32) (x13 : FVec Ideal S1x1024 .f32) (x14 : FVec Ideal S1x1024x5632 .f32) (x15 : FVec Ideal S1x2816x1024 .f32)

theorem v9_apply (bt : Fin 8) (t : Fin 4096) (h : Fin 8) (d : Fin 64) :
    val_main_v9 (F := Ideal) x2 x3 (ix4 bt t h d) = x2 (ix3 bt t ⟨64 * h.val + d.val, by omega⟩) + x3 (ix3 bt t ⟨64 * h.val + d.val, by omega⟩) := by
  pointwise [val_main_v9, val_main_v8]
  have e : (⟨h.val * 64 + d.val, by omega⟩ : Fin 512) = ⟨64 * h.val + d.val, by omega⟩ := Fin.ext (by simp; omega)
  rw [e]

theorem v10_apply (bt : Fin 8) (t : Fin 4096) (h : Fin 8) :
    val_main_v10 (F := Ideal) x2 x3 (ix3 bt t h) = ∑ d : Fin 64, val_main_v9 (F := Ideal) x2 x3 (ix4 bt t h d) := by
  pointwise [val_main_v10, val_main_cst]

theorem v15_apply (bt : Fin 8) (t : Fin 4096) (h : Fin 8) (d : Fin 64) :
    val_main_v15 (F := Ideal) x2 x3 (ix4 bt t h d) = val_main_v9 (F := Ideal) x2 x3 (ix4 bt t h d) - Ideal.div (val_main_v10 (F := Ideal) x2 x3 (ix3 bt t h)) (Ideal.ofBits .f32 0x42800000#32) := by
  pointwise [val_main_v15, val_main_v14, val_main_v13, val_main_v12, val_main_v11, val_main_cst_0]

theorem v17_apply (bt : Fin 8) (t : Fin 4096) (h : Fin 8) :
    val_main_v17 (F := Ideal) x2 x3 (ix3 bt t h) = ∑ d : Fin 64, val_main_v15 (F := Ideal) x2 x3 (ix4 bt t h d) * val_main_v15 (F := Ideal) x2 x3 (ix4 bt t h d) := by
  pointwise [val_main_v17, val_main_v16, val_main_cst_1]

theorem v27_apply (bt : Fin 8) (t : Fin 4096) (h : Fin 8) (d : Fin 64) :
    val_main_v27 (F := Ideal) x2 x3 (ix4 bt t h d) = val_main_v15 (F := Ideal) x2 x3 (ix4 bt t h d)
      * Ideal.rsqrt (Ideal.div (val_main_v17 (F := Ideal) x2 x3 (ix3 bt t h)) (Ideal.ofBits .f32 0x42800000#32) + Ideal.ofBits .f32 0x3A27C5AC#32) := by
  show val_main_v15 (F := Ideal) x2 x3 (ix4 bt t h d) * val_main_v26 (F := Ideal) x2 x3 (ix4 bt t h d) = _
  pointwise [val_main_v26, val_main_v25, val_main_v24, val_main_v23, val_main_v20, val_main_v19, val_main_v18, val_main_cst_2, val_main_cst_3]

theorem v28_apply (bt : Fin 8) (t : Fin 4096) (c : Fin 512) :
    val_main_v28 (F := Ideal) x2 x3 (ix3 bt t c) = val_main_v27 (F := Ideal) x2 x3 (ix4 bt t ⟨c.val / 64, by omega⟩ ⟨c.val % 64, by omega⟩) := by
  pointwise [val_main_v28]

theorem v45_apply (bt : Fin 8) (t : Fin 4096) (c : Fin 512) :
    val_main_v45 (F := Ideal) x2 x3 x4 x5 x8 x9 (ix3 bt t c) = (val_main_v28 (F := Ideal) x2 x3 (ix3 bt t c) * x8 (ix2 0 c) + x9 (ix2 0 c)
      + x4 (ix3 bt t c) * x5 (ix3 bt t ⟨1024 + c.val, by omega⟩)) * Ideal.logistic (x5 (ix3 bt t ⟨1536 + c.val, by omega⟩)) := by
  pointwise [val_main_v45, val_main_v44, val_main_v43, val_main_v42, val_main_v41, val_main_v40, val_main_v39, val_main_v38, val_main_v37, val_main_v36, val_main_v35, val_main_v34,
    val_main_v33, val_main_v32, val_main_v31, val_main_v30, val_main_v29, val_main_v7, val_main_v6, val_main_cst_4, val_main_cst_5]
  rfl

theorem v55_apply (bt : Fin 8) (t : Fin 4096) (c : Fin 1024) :
    val_main_v55 (F := Ideal) x2 x3 x4 x5 x6 x7 x8 x9 x10 x11 (ix3 bt t c)
      = mergeRow (fun k => x7 (ix3 bt t ⟨k.val, by omega⟩)) (fun k => x7 (ix3 bt t ⟨1024 + k.val, by omega⟩)) (fun k => x6 (ix3 bt t k))
          (fun k => val_main_v45 (F := Ideal) x2 x3 x4 x5 x8 x9 (ix3 bt t k)) (fun j k => x10 (ix3 0 j k)) (fun j k => x11 (ix3 0 j k)) c := by
  pointwise [val_main_v55, val_main_v54, val_main_v53, val_main_v52, val_main_v51, val_main_v50, val_main_v49, val_main_v48, val_main_v47, val_main_v46, mergeRow]

theorem v60_apply (bt : Fin 8) (t : Fin 4096) (c : Fin 1024) :
    val_main_v60 (F := Ideal) x0 x1 x2 x3 x4 x5 x6 x7 x8 x9 x10 x11 x12 (ix3 bt t c)
      = residRow (fun k => x0 (ix3 bt t k)) (fun k => x1 (ix3 bt 0 ⟨2048 + k.val, by omega⟩))
          (fun k => val_main_v55 (F := Ideal) x2 x3 x4 x5 x6 x7 x8 x9 x10 x11 (ix3 bt t k)) (fun j k => x12 (ix3 0 j k)) c := by
  pointwise [val_main_v60, val_main_v59, val_main_v58, val_main_v57, val_main_v56, val_main_v2, residRow]

theorem v80_apply (bt : Fin 8) (t : Fin 4096) (c : Fin 1024) :
    val_main_v80 (F := Ideal) x0 x1 x2 x3 x4 x5 x6 x7 x8 x9 x10 x11 x12 x13 (ix3 bt t c)
      = normRow (fun k => val_main_v60 (F := Ideal) x0 x1 x2 x3 x4 x5 x6 x7 x8 x9 x10 x11 x12 (ix3 bt t k)) (fun k => x13 (ix2 0 k))
          (fun k => x1 (ix3 bt 0 ⟨4096 + k.val, by omega⟩)) (fun k => x1 (ix3 bt 0 ⟨3072 + k.val, by omega⟩)) c := by
  unfold normRow
  rw [← ofBits_one]
  pointwise [val_main_v80, val_main_v79, val_main_v78, val_main_v77, val_main_v76, val_main_v75, val_main_v74, val_main_v73, val_main_v72, val_main_v71, val_main_v70, val_main_v69,
    val_main_v68, val_main_v67, val_main_v66, val_main_v65, val_main_v64, val_main_v63, val_main_v62, val_main_v61, val_main_v4, val_main_v3, val_main_cst_6, val_main_cst_7, val_main_cst_8, val_main_cst_9]

theorem v82_apply (bt : Fin 8) (t : Fin 4096) (j : Fin 5632) :
    val_main_v82 (F := Ideal) x0 x1 x2 x3 x4 x5 x6 x7 x8 x9 x10 x11 x12 x13 x14 (ix3 bt t j)
      = ∑ i : Fin 1024, val_main_v80 (F := Ideal) x0 x1 x2 x3 x4 x5 x6 x7 x8 x9 x10 x11 x12 x13 (ix3 bt t i) * x14 (ix3 0 i j) := by
  pointwise [val_main_v82, val_main_v81]

theorem v86_apply (bt : Fin 8) (t : Fin 4096) (j : Fin 2816) :
    val_main_v86 (F := Ideal) x0 x1 x2 x3 x4 x5 x6 x7 x8 x9 x10 x11 x12 x13 x14 (ix3 bt t j)
      = actRow (fun k => val_main_v80 (F := Ideal) x0 x1 x2 x3 x4 x5 x6 x7 x8 x9 x10 x11 x12 x13 (ix3 bt t k)) (fun i k => x14 (ix3 0 i k)) j := by
  unfold actRow
  rw [← v82_apply, ← v82_apply]
  pointwise [val_main_v86, val_main_v85, val_main_v84, val_main_v83, val_main_call0_v5, val_main_call0_v4, val_main_call0_v3, val_main_call0_v2, val_main_call0_v1, val_main_call0_v0, val_main_call0_cst, val_main_call0_cst_0]
  rfl

theorem v91_apply (bt : Fin 8) (t : Fin 4096) (c : Fin 1024) :
    val_main_v91 (F := Ideal) x0 x1 x2 x3 x4 x5 x6 x7 x8 x9 x10 x11 x12 x13 x14 x15 (ix3 bt t c)
      = val_main_v60 (F := Ideal) x0 x1 x2 x3 x4 x5 x6 x7 x8 x9 x10 x11 x12 (ix3 bt t c)
        + x1 (ix3 bt 0 ⟨5120 + c.val, by omega⟩) * ∑ j : Fin 2816, val_main_v86 (F := Ideal) x0 x1 x2 x3 x4 x5 x6 x7 x8 x9 x10 x11 x12 x13 x14 (ix3 bt t j) * x15 (ix3 0 j c) := by
  pointwise [val_main_v91, val_main_v90, val_main_v89, val_main_v88, val_main_v87, val_main_v5]

/-- The scans' norm in each head. -/
theorem scans_apply (bt : Fin 8) (t : Fin 4096) (c : Fin 512) :
    val_main_v28 (F := Ideal) x2 x3 (ix3 bt t c) = unitHead (lessMean fun k => x2 (ix3 bt t k) + x3 (ix3 bt t k)) c := by
  have h64 (z : EReal) : Ideal.div z (Ideal.ofBits .f32 0x42800000#32) = z * ((1 / 64 : ℝ) : EReal) := by
    rw [ofBits_sixtyfour, Ideal.div_coe (by norm_num)]
  have h15 (h : Fin 8) (d : Fin 64) : val_main_v15 (F := Ideal) x2 x3 (ix4 bt t h d)
      = lessMean (fun k => x2 (ix3 bt t k) + x3 (ix3 bt t k)) ⟨64 * h.val + d.val, by omega⟩ := by
    have e : (64 * h.val + d.val) / 64 = h.val := by omega
    rw [v15_apply, h64, v10_apply, lessMean, headOf]
    simp only [v9_apply, e]
  have e (k : Fin 64) : 64 * (c.val / 64) + k.val < 512 := by omega
  have ec : (⟨64 * (c.val / 64) + c.val % 64, by omega⟩ : Fin 512) = c := Fin.ext (by simp; omega)
  rw [v28_apply, v27_apply, h64, v17_apply, unitHead, headOf]
  simp only [h15, ec]

/-- What the reference computes, at every entry. -/
theorem result_eq : val_main_v91 (F := Ideal) x0 x1 x2 x3 x4 x5 x6 x7 x8 x9 x10 x11 x12 x13 x14 x15
    = postResult x0 x1 x2 x3 x4 x5 x6 x7 x8 x9 x10 x11 x12 x13 x14 x15 := by
  funext i
  obtain ⟨bt, t, c, rfl⟩ : ∃ (bt : Fin 8) (t : Fin 4096) (c : Fin 1024), i = ix3 bt t c := ⟨i 0, i 1, i 2, by
    funext a
    match a with
    | ⟨0, _⟩ => rfl
    | ⟨1, _⟩ => rfl
    | ⟨2, _⟩ => rfl⟩
  show _ = postEntry x0 x1 x2 x3 x4 x5 x6 x7 x8 x9 x10 x11 x12 x13 x14 x15 bt t c
  have h45 : (fun k => val_main_v45 (F := Ideal) x2 x3 x4 x5 x8 x9 (ix3 bt t k)) = scanRow (fun k => x2 (ix3 bt t k)) (fun k => x3 (ix3 bt t k)) (fun k => x4 (ix3 bt t k))
      (fun k => x5 (ix3 bt t ⟨1024 + k.val, by omega⟩)) (fun k => x5 (ix3 bt t ⟨1536 + k.val, by omega⟩)) (fun k => x8 (ix2 0 k)) (fun k => x9 (ix2 0 k)) := by
    funext k
    rw [v45_apply, scans_apply, scanRow]
  have h60 : (fun k => val_main_v60 (F := Ideal) x0 x1 x2 x3 x4 x5 x6 x7 x8 x9 x10 x11 x12 (ix3 bt t k)) = postStream x0 x1 x2 x3 x4 x5 x6 x7 x8 x9 x10 x11 x12 bt t := by
    funext k
    rw [v60_apply, postStream, tokenStream]
    simp only [v55_apply, h45]
  rw [v91_apply, postEntry, tokenEnd, endRow]
  simp only [v86_apply, v80_apply, h60]
  rw [← h60]

end Cert.PostRef

end
-- ==== Proof.ProjStages.lean ====
/- What one grid point of the prompt's projection call computes, stage by stage: its 512 tokens are taken as two halves of
   256, and each half is normed, modulated and multiplied with one run of the weights' columns at a time. -/
module

public import proofs.«01_k».proof.Proof.Gen.Kernel3Ideal.Frame
public import proofs.«01_k».proof.Proof.PostRows

@[expose] public section

set_option maxRecDepth 16384

noncomputable section

namespace Cert.Proj

open Idealize.ShloMosaic Cert.Kernel3Ideal Cert.Kernel3Ideal.Gen
open Cert.Post (headSums normed wide zeros2)

variable (m : (ℓ : Loc nD τ sig) → Buf (Elt Ideal) ℓ)

/-- The 1024 modulation columns beginning at `o`. -/
def modAt (md : FVec Ideal S1x1x6144 .f32) (o : ℕ) (ho : ∀ a, (![0, 0, o] : Fin 3 → ℕ) a + S1x1x1024.size a ≤ S1x1x6144.size a) : FVec Ideal S1x1x1024 .f32 :=
  View.ld (Val := Elt Ideal) (e' := .f32) md (Rect.unit (s := S1x1x6144) ![0, 0, o] S1x1x1024.size ho)

/-- Half `i`'s tokens normed and modulated. -/
def hidden (x0 : FVec Ideal S1x512x1024 .f32) (x1 : FVec Ideal S1x1x6144 .f32) (x2 : FVec Ideal S1x1024 .f32) (i : ℕ) : FVec Ideal S256x1024 .bf16 :=
  normed (shapeCast S256x1024 (wide x0 i) shapeCasts_S1x256x1024_S256x1024) x2 (modAt x1 1024 inb_S1x1x6144_S1x1x1024_0_0_1024) (modAt x1 0 inb_S1x1x6144_S1x1x1024_0_0_0)

/-- The 512 weight columns beginning at `o`. -/
def wCols (w : FVec Ideal S1024x5888 .bf16) (o : ℕ) (ho : ∀ a, (![0, o] : Fin 2 → ℕ) a + S1024x512.size a ≤ S1024x5888.size a) : FVec Ideal S1024x512 .bf16 :=
  View.ld (Val := Elt Ideal) (e' := .bf16) w (Rect.unit (s := S1024x5888) ![0, o] S1024x512.size ho)

/-- The 256 weight columns beginning at 3584. -/
def wCols256 (w : FVec Ideal S1024x5888 .bf16) : FVec Ideal S1024x256 .bf16 :=
  View.ld (Val := Elt Ideal) (e' := .bf16) w (Rect.unit (s := S1024x5888) ![0, 3584] S1024x256.size inb_S1024x5888_S1024x256_0_3584)

/-- 512 columns of the projection, beginning at `o`. -/
def cols (h : FVec Ideal S256x1024 .bf16) (w : FVec Ideal S1024x5888 .bf16) (o : ℕ) (ho : ∀ a, (![0, o] : Fin 2 → ℕ) a + S1024x512.size a ≤ S1024x5888.size a) :
    FVec Ideal S256x512 .f32 :=
  matmul dot_S256x1024_S1024x512_S256x512_1_0_0_1_n_n none h (shapeCast S1024x512 (wCols w o ho) shapeCasts_S1024x512_S1024x512)
    (constant S256x512 .f32 0x00000000#32)

/-- The 256 columns of the projection beginning at 3584. -/
def cols256 (h : FVec Ideal S256x1024 .bf16) (w : FVec Ideal S1024x5888 .bf16) : FVec Ideal S256x256 .f32 :=
  matmul dot_S256x1024_S1024x256_S256x256_1_0_0_1_n_n none h (shapeCast S1024x256 (wCols256 w) shapeCasts_S1024x256_S1024x256)
    (constant S256x256 .f32 0x00000000#32)

/-- Row `o` of the two norms' weights. -/
def weightRow (x4 : FVec Ideal S2x512 .f32) (o : ℕ) (ho : ∀ a, (![o, 0] : Fin 2 → ℕ) a + S1x512.size a ≤ S2x512.size a) : FVec Ideal S1x512 .f32 :=
  View.ld (Val := Elt Ideal) (e' := .f32) x4 (Rect.unit (s := S2x512) ![o, 0] S1x512.size ho)

/-- Each head divided by its root mean square and multiplied with the norm's weights. -/
def headNorm (z : FVec Ideal S256x512 .f32) (g : FVec Ideal S1x512 .f32) : FVec Ideal S256x512 .f32 :=
  mulf (mulf z (rsqrt (addf (mulf (headSums (mulf z z)) (broadcast S256x512 (Scalar.ofBits (F := Ideal) .f32 0x3C800000#32)))
    (broadcast S256x512 (Scalar.ofBits (F := Ideal) .f32 0x358637BD#32)))))
    (broadcastTo S256x512 (shapeCast S1x512 g shapeCasts_S1x512_S1x512) broadcasts_S1x512_S256x512)

/-- The queries, scaled. -/
def queries (z : FVec Ideal S256x512 .f32) (g : FVec Ideal S1x512 .f32) : FVec Ideal S256x512 .f32 :=
  mulf (headNorm z g) (broadcast S256x512 (Scalar.ofBits (F := Ideal) .f32 0x3E38AA3B#32))

/-- The sigmoid. -/
def gate (z : FVec Ideal S256x512 .f32) : FVec Ideal S256x512 .f32 :=
  divf (broadcast S256x512 (Scalar.ofBits (F := Ideal) .f32 0x3F800000#32)) (addf (broadcast S256x512 (Scalar.ofBits (F := Ideal) .f32 0x3F800000#32))
    (exp (subf (broadcast S256x512 (Scalar.ofBits (F := Ideal) .f32 0x00000000#32)) z)))

/-- 512 columns as they are stored. -/
def slab (z : FVec Ideal S256x512 .f32) : FVec Ideal S1x256x512 .f32 := shapeCast S1x256x512 z shapeCasts_S256x512_S1x256x512
/-- 512 columns as they are stored, rounded. -/
def slab16 (z : FVec Ideal S256x512 .f32) : FVec Ideal S1x256x512 .bf16 := shapeCast S1x256x512 (truncf .bf16 z bitsLt_bf16_f32) shapeCasts_S256x512_S1x256x512
/-- 256 columns as they are stored. -/
def slab256 (z : FVec Ideal S256x256 .f32) : FVec Ideal S1x256x256 .f32 := shapeCast S1x256x256 z shapeCasts_S256x256_S1x256x256

/-- The normed tokens of half `i` at grid point `t`. -/
def hid (c : Dev nD) (t : Fin cfg0.N) (i : ℕ) : FVec Ideal S256x1024 .bf16 := hidden (iblk m c 0 t) (iblk m c 1 t) (iblk m c 2 t) i
/-- 512 of their projection's columns. -/
def col (c : Dev nD) (t : Fin cfg0.N) (i o : ℕ) (ho : ∀ a, (![0, o] : Fin 2 → ℕ) a + S1024x512.size a ≤ S1024x5888.size a) : FVec Ideal S256x512 .f32 :=
  cols (hid m c t i) (iblk m c 3 t) o ho
/-- Their queries. -/
def qry (c : Dev nD) (t : Fin cfg0.N) (i : ℕ) : FVec Ideal S256x512 .f32 :=
  queries (col m c t i 0 inb_S1024x5888_S1024x512_0_0) (weightRow (iblk m c 4 t) 0 inb_S2x512_S1x512_0_0)
/-- Their keys. -/
def key (c : Dev nD) (t : Fin cfg0.N) (i : ℕ) : FVec Ideal S256x512 .f32 :=
  headNorm (col m c t i 512 inb_S1024x5888_S1024x512_0_512) (weightRow (iblk m c 4 t) 1 inb_S2x512_S1x512_1_0)
/-- Their values. -/
def val (c : Dev nD) (t : Fin cfg0.N) (i : ℕ) : FVec Ideal S256x512 .f32 := col m c t i 1024 inb_S1024x5888_S1024x512_0_1024

end Cert.Proj

end
-- ==== Proof.ProjBlock.lean ====
/- What the prompt's projection call leaves in its five result blocks at a grid point: the stores the two halves make. -/
module

public import proofs.«01_k».proof.Proof.ProjStages

@[expose] public section

set_option maxRecDepth 16384

noncomputable section

namespace Cert.Proj

open Idealize.ShloMosaic Cert.Kernel3Ideal Cert.Kernel3Ideal.Gen
open Cert.Post (zeros2)

variable (m : (ℓ : Loc nD τ sig) → Buf (Elt Ideal) ℓ)

/-- The stores of the queries, keys and values, the last first. -/
def stores_5 (c : Dev nD) (t : Fin cfg0.N) : List (View.Piece (Elt Ideal) S1x512x1536 .bf16) :=
  [⟨Rect.unit (s := S1x512x1536) ![0, 256, 1024] S1x256x512.size inb_S1x512x1536_S1x256x512_0_256_1024, slab16 (val m c t 1)⟩,
    ⟨Rect.unit (s := S1x512x1536) ![0, 0, 1024] S1x256x512.size inb_S1x512x1536_S1x256x512_0_0_1024, slab16 (val m c t 0)⟩,
    ⟨Rect.unit (s := S1x512x1536) ![0, 256, 512] S1x256x512.size inb_S1x512x1536_S1x256x512_0_256_512, slab16 (key m c t 1)⟩,
    ⟨Rect.unit (s := S1x512x1536) ![0, 0, 512] S1x256x512.size inb_S1x512x1536_S1x256x512_0_0_512, slab16 (key m c t 0)⟩,
    ⟨Rect.unit (s := S1x512x1536) ![0, 256, 0] S1x256x512.size inb_S1x512x1536_S1x256x512_0_256_0, slab16 (qry m c t 1)⟩,
    ⟨Rect.unit (s := S1x512x1536) ![0, 0, 0] S1x256x512.size inb_S1x512x1536_S1x256x512_0_0_0, slab16 (qry m c t 0)⟩]

/-- The stores of the scan columns, the last first. -/
def stores_6 (c : Dev nD) (t : Fin cfg0.N) : List (View.Piece (Elt Ideal) S1x512x2304 .f32) :=
  [⟨Rect.unit (s := S1x512x2304) ![0, 256, 2048] S1x256x256.size inb_S1x512x2304_S1x256x256_0_256_2048, slab256 (cols256 (hid m c t 1) (iblk m c 3 t))⟩,
    ⟨Rect.unit (s := S1x512x2304) ![0, 0, 2048] S1x256x256.size inb_S1x512x2304_S1x256x256_0_0_2048, slab256 (cols256 (hid m c t 0) (iblk m c 3 t))⟩,
    ⟨Rect.unit (s := S1x512x2304) ![0, 256, 1536] S1x256x512.size inb_S1x512x2304_S1x256x512_0_256_1536, slab (col m c t 1 3072 inb_S1024x5888_S1024x512_0_3072)⟩,
    ⟨Rect.unit (s := S1x512x2304) ![0, 0, 1536] S1x256x512.size inb_S1x512x2304_S1x256x512_0_0_1536, slab (col m c t 0 3072 inb_S1024x5888_S1024x512_0_3072)⟩,
    ⟨Rect.unit (s := S1x512x2304) ![0, 256, 1024] S1x256x512.size inb_S1x512x2304_S1x256x512_0_256_1024, slab (col m c t 1 2560 inb_S1024x5888_S1024x512_0_2560)⟩,
    ⟨Rect.unit (s := S1x512x2304) ![0, 0, 1024] S1x256x512.size inb_S1x512x2304_S1x256x512_0_0_1024, slab (col m c t 0 2560 inb_S1024x5888_S1024x512_0_2560)⟩,
    ⟨Rect.unit (s := S1x512x2304) ![0, 256, 512] S1x256x512.size inb_S1x512x2304_S1x256x512_0_256_512, slab (col m c t 1 2048 inb_S1024x5888_S1024x512_0_2048)⟩,
    ⟨Rect.unit (s := S1x512x2304) ![0, 0, 512] S1x256x512.size inb_S1x512x2304_S1x256x512_0_0_512, slab (col m c t 0 2048 inb_S1024x5888_S1024x512_0_2048)⟩,
    ⟨Rect.unit (s := S1x512x2304) ![0, 256, 0] S1x256x512.size inb_S1x512x2304_S1x256x512_0_256_0, slab (col m c t 1 1536 inb_S1024x5888_S1024x512_0_1536)⟩,
    ⟨Rect.unit (s := S1x512x2304) ![0, 0, 0] S1x256x512.size inb_S1x512x2304_S1x256x512_0_0_0, slab (col m c t 0 1536 inb_S1024x5888_S1024x512_0_1536)⟩]

/-- The stores of the gates, the last first. -/
def stores_7 (c : Dev nD) (t : Fin cfg0.N) : List (View.Piece (Elt Ideal) S1x512x2048 .f32) :=
  [⟨Rect.unit (s := S1x512x2048) ![0, 256, 1536] S1x256x512.size inb_S1x512x2048_S1x256x512_0_256_1536, slab (gate (col m c t 1 5376 inb_S1024x5888_S1024x512_0_5376))⟩,
    ⟨Rect.unit (s := S1x512x2048) ![0, 0, 1536] S1x256x512.size inb_S1x512x2048_S1x256x512_0_0_1536, slab (gate (col m c t 0 5376 inb_S1024x5888_S1024x512_0_5376))⟩,
    ⟨Rect.unit (s := S1x512x2048) ![0, 256, 1024] S1x256x512.size inb_S1x512x2048_S1x256x512_0_256_1024, slab (gate (col m c t 1 4864 inb_S1024x5888_S1024x512_0_4864))⟩,
    ⟨Rect.unit (s := S1x512x2048) ![0, 0, 1024] S1x256x512.size inb_S1x512x2048_S1x256x512_0_0_1024, slab (gate (col m c t 0 4864 inb_S1024x5888_S1024x512_0_4864))⟩,
    ⟨Rect.unit (s := S1x512x2048) ![0, 256, 512] S1x256x512.size inb_S1x512x2048_S1x256x512_0_256_512, slab (gate (col m c t 1 4352 inb_S1024x5888_S1024x512_0_4352))⟩,
    ⟨Rect.unit (s := S1x512x2048) ![0, 0, 512] S1x256x512.size inb_S1x512x2048_S1x256x512_0_0_512, slab (gate (col m c t 0 4352 inb_S1024x5888_S1024x512_0_4352))⟩,
    ⟨Rect.unit (s := S1x512x2048) ![0, 256, 0] S1x256x512.size inb_S1x512x2048_S1x256x512_0_256_0, slab (gate (col m c t 1 3840 inb_S1024x5888_S1024x512_0_3840))⟩,
    ⟨Rect.unit (s := S1x512x2048) ![0, 0, 0] S1x256x512.size inb_S1x512x2048_S1x256x512_0_0_0, slab (gate (col m c t 0 3840 inb_S1024x5888_S1024x512_0_3840))⟩]

/-- The stores of the keys, the last first. -/
def stores_8 (c : Dev nD) (t : Fin cfg0.N) : List (View.Piece (Elt Ideal) S1x512x512 .f32) :=
  [⟨Rect.unit (s := S1x512x512) ![0, 256, 0] S1x256x512.size inb_S1x512x512_S1x256x512_0_256_0, slab (key m c t 1)⟩,
    ⟨Rect.unit (s := S1x512x512) ![0, 0, 0] S1x256x512.size inb_S1x512x512_S1x256x512_0_0_0, slab (key m c t 0)⟩]

/-- The stores of the values, the last first. -/
def stores_9 (c : Dev nD) (t : Fin cfg0.N) : List (View.Piece (Elt Ideal) S1x512x512 .f32) :=
  [⟨Rect.unit (s := S1x512x512) ![0, 256, 0] S1x256x512.size inb_S1x512x512_S1x256x512_0_256_0, slab (val m c t 1)⟩,
    ⟨Rect.unit (s := S1x512x512) ![0, 0, 0] S1x256x512.size inb_S1x512x512_S1x256x512_0_0_0, slab (val m c t 0)⟩]

/-- The block of queries, keys and values at grid point `t` is what these stores leave. -/
theorem outs_5 (c : Dev nD) (t : Fin cfg0.N) : (outsAt0 m c t).1 = View.canon (Val := Elt Ideal) (e := .bf16) (stores_5 m c t) := by
  unfold outsAt0 out0_A_5
  dsimp only
  rw [View.read_writes_eq_canon _ _ _ (cover0_A_5 c _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

/-- The block of scan columns at grid point `t` is what these stores leave. -/
theorem outs_6 (c : Dev nD) (t : Fin cfg0.N) : (outsAt0 m c t).2.1 = View.canon (Val := Elt Ideal) (e := .f32) (stores_6 m c t) := by
  unfold outsAt0 out0_A_6
  dsimp only
  rw [View.read_writes_eq_canon _ _ _ (cover0_A_6 c _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

/-- The block of gates at grid point `t` is what these stores leave. -/
theorem outs_7 (c : Dev nD) (t : Fin cfg0.N) : (outsAt0 m c t).2.2.1 = View.canon (Val := Elt Ideal) (e := .f32) (stores_7 m c t) := by
  unfold outsAt0 out0_A_7
  dsimp only
  rw [View.read_writes_eq_canon _ _ _ (cover0_A_7 c _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

/-- The block of keys at grid point `t` is what these stores leave. -/
theorem outs_8 (c : Dev nD) (t : Fin cfg0.N) : (outsAt0 m c t).2.2.2.1 = View.canon (Val := Elt Ideal) (e := .f32) (stores_8 m c t) := by
  unfold outsAt0 out0_A_8
  dsimp only
  rw [View.read_writes_eq_canon _ _ _ (cover0_A_8 c _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

/-- The block of values at grid point `t` is what these stores leave. -/
theorem outs_9 (c : Dev nD) (t : Fin cfg0.N) : (outsAt0 m c t).2.2.2.2 = View.canon (Val := Elt Ideal) (e := .f32) (stores_9 m c t) := by
  unfold outsAt0 out0_A_9
  dsimp only
  rw [View.read_writes_eq_canon _ _ _ (cover0_A_9 c _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

end Cert.Proj

end
-- ==== Proof.ProjSpec.lean ====
/- The projection of one token, as functions of that token's rows: the norm and its modulation, the product with the weights,
   and the norm of each head. -/
module

public import proofs.«01_k».proof.Proof.PostSpec

@[expose] public section

set_option maxRecDepth 16384

noncomputable section

namespace Cert.Proj

open Idealize.ShloMosaic
open Cert.Post (headOf normRow)

/-- A projected column of a token: the normed and modulated token times that column of the weights. -/
def projRow (x n s h : Fin 1024 → EReal) (w : Fin 1024 → Fin 5888 → EReal) (j : Fin 5888) : EReal := ∑ i, normRow x n s h i * w i j

/-- A channel divided by its head's root mean square and multiplied with the norm's weight. -/
def headRow (z g : Fin 512 → EReal) (c : Fin 512) : EReal :=
  z c * Ideal.rsqrt (headOf (fun k => z k * z k) c * ((1 / 64 : ℝ) : EReal) + Ideal.ofBits .f32 0x358637BD#32) * g c

section Arrays

variable (x0 : FVec Ideal ⟨3, ![32, 256, 1024]⟩ .f32) (x1 : FVec Ideal ⟨3, ![1, 1, 6144]⟩ .f32) (x2 : FVec Ideal ⟨2, ![1, 1024]⟩ .f32)
  (x3 : FVec Ideal ⟨3, ![1, 1024, 5888]⟩ .f32) (x4 x5 : FVec Ideal ⟨2, ![1, 64]⟩ .f32)

/-- Token `t`, of the prompt's 8192, at projected column `j`. -/
def projEntry (t : Fin 8192) (j : Fin 5888) : EReal :=
  projRow (fun k => x0 (ix3 ⟨t.val / 256, by omega⟩ ⟨t.val % 256, by omega⟩ k)) (fun k => x2 (ix2 0 k)) (fun k => x1 (ix3 0 0 ⟨1024 + k.val, by omega⟩))
    (fun k => x1 (ix3 0 0 ⟨k.val, by omega⟩)) (fun i k => x3 (ix3 0 i k)) j

/-- A channel of a token's normed queries. -/
def queryEntry (t : Fin 8192) (c : Fin 512) : EReal :=
  headRow (fun k => projEntry x0 x1 x2 x3 t ⟨k.val, by omega⟩) (fun k => x4 (ix2 0 ⟨k.val % 64, by omega⟩)) c

/-- A channel of a token's normed keys. -/
def keyEntry (t : Fin 8192) (c : Fin 512) : EReal :=
  headRow (fun k => projEntry x0 x1 x2 x3 t ⟨512 + k.val, by omega⟩) (fun k => x5 (ix2 0 ⟨k.val % 64, by omega⟩)) c

/-- A channel of a token's scaled queries, keys and values. -/
def qkvEntry (t : Fin 8192) (j : Fin 1536) : EReal :=
  if h : j.val < 512 then queryEntry x0 x1 x2 x3 x4 t ⟨j.val, h⟩ * Ideal.ofBits .f32 0x3E38AA3B#32
  else if h : j.val < 1024 then keyEntry x0 x1 x2 x3 x5 t ⟨j.val - 512, by omega⟩ else projEntry x0 x1 x2 x3 t ⟨j.val, by omega⟩

/-- The queries, keys and values. -/
def qkvResult : FVec Ideal ⟨3, ![1, 8192, 1536]⟩ .bf16 := fun i => qkvEntry x0 x1 x2 x3 x4 x5 (i 1) (i 2)
/-- The scan's columns. -/
def scanResult : FVec Ideal ⟨3, ![1, 8192, 2304]⟩ .f32 := fun i => projEntry x0 x1 x2 x3 (i 1) ⟨1536 + (i 2).val, by have : (i 2).val < 2304 := (i 2).isLt; omega⟩
/-- The gates. -/
def gateResult : FVec Ideal ⟨3, ![1, 8192, 2048]⟩ .f32 := fun i =>
  Ideal.logistic (projEntry x0 x1 x2 x3 (i 1) ⟨3840 + (i 2).val, by have : (i 2).val < 2048 := (i 2).isLt; omega⟩)
/-- The keys. -/
def keyResult : FVec Ideal ⟨3, ![1, 8192, 512]⟩ .f32 := fun i => keyEntry x0 x1 x2 x3 x5 (i 1) (i 2)
/-- The values. -/
def valResult : FVec Ideal ⟨3, ![1, 8192, 512]⟩ .f32 := fun i => projEntry x0 x1 x2 x3 (i 1) ⟨1024 + (i 2).val, by have : (i 2).val < 512 := (i 2).isLt; omega⟩

end Arrays

end Cert.Proj

end
-- ==== Proof.ProjRows.lean ====
/- Each stage of a half of a grid point of the prompt's projection, read at one token: it is the one-token function of that
   token's rows. -/
module

public import proofs.«01_k».proof.Proof.ProjBlock
public import proofs.«01_k».proof.Proof.ProjSpec

@[expose] public section

set_option maxRecDepth 16384

noncomputable section

namespace Cert.Proj

open Idealize.ShloMosaic Cert.Kernel3Ideal Cert.Kernel3Ideal.Gen
open Cert.Post (headSums headSums_apply headOf normRow normed normed_apply wide wide_apply ofBits_one ofBits_sixtyfourth)

theorem modAt_apply (w : FVec Ideal S1x1x6144 .f32) (o : ℕ) (ho : ∀ a, (![0, 0, o] : Fin 3 → ℕ) a + S1x1x1024.size a ≤ S1x1x6144.size a) (k : Fin 1024)
    (j : Fin 6144) (hj : j.val = o + k.val) : modAt w o ho (ix3 0 0 k) = w (ix3 0 0 j) := by
  show w _ = w _
  refine congrArg w ?_
  funext a; fin_cases a <;> (apply Fin.ext; simp [Rect.emb, Rect.unit, ix3, hj])

theorem wCols_apply (w : FVec Ideal S1024x5888 .bf16) (o : ℕ) (ho : ∀ a, (![0, o] : Fin 2 → ℕ) a + S1024x512.size a ≤ S1024x5888.size a) (i : Fin 1024) (k : Fin 512)
    (j : Fin 5888) (hj : j.val = o + k.val) : wCols w o ho (ix2 i k) = w (ix2 i j) := by
  show w _ = w _
  refine congrArg w ?_
  funext a; fin_cases a <;> (apply Fin.ext; simp [Rect.emb, Rect.unit, ix2, hj])

theorem wCols256_apply (w : FVec Ideal S1024x5888 .bf16) (i : Fin 1024) (k : Fin 256) (j : Fin 5888) (hj : j.val = 3584 + k.val) :
    wCols256 w (ix2 i k) = w (ix2 i j) := by
  show w _ = w _
  refine congrArg w ?_
  funext a; fin_cases a <;> (apply Fin.ext; simp [Rect.emb, Rect.unit, ix2, hj])

theorem weightRow_apply (x4 : FVec Ideal S2x512 .f32) (o : Fin 2) (ho : ∀ a, (![o.val, 0] : Fin 2 → ℕ) a + S1x512.size a ≤ S2x512.size a) (k : Fin 512) :
    weightRow x4 o.val ho (ix2 0 k) = x4 (ix2 o k) := by
  show x4 _ = x4 _
  refine congrArg x4 ?_
  funext a; fin_cases a <;> (apply Fin.ext; simp [Rect.emb, Rect.unit, ix2])

theorem cols_read (h : FVec Ideal S256x1024 .bf16) (w : FVec Ideal S1024x5888 .bf16) (o : ℕ) (ho : ∀ a, (![0, o] : Fin 2 → ℕ) a + S1024x512.size a ≤ S1024x5888.size a)
    (r : Fin 256) (k : Fin 512) : cols h w o ho (ix2 r k) = ∑ i : Fin 1024, h (ix2 r i) * wCols w o ho (ix2 i k) := by
  unfold cols
  generalize wCols w o ho = z
  pointwise []

theorem cols256_read (h : FVec Ideal S256x1024 .bf16) (w : FVec Ideal S1024x5888 .bf16)
    (r : Fin 256) (k : Fin 256) : cols256 h w (ix2 r k) = ∑ i : Fin 1024, h (ix2 r i) * wCols256 w (ix2 i k) := by
  unfold cols256
  generalize wCols256 w = z
  pointwise []

theorem headNorm_apply (z : FVec Ideal S256x512 .f32) (g : FVec Ideal S1x512 .f32) (r : Fin 256) (c : Fin 512) :
    headNorm z g (ix2 r c) = headRow (fun k => z (ix2 r k)) (fun k => g (ix2 0 k)) c := by
  pointwise [headNorm, headRow]
  have h : (fun k => mulf z z (ix2 r k)) = fun k => z (ix2 r k) * z (ix2 r k) := rfl
  rw [headSums_apply, ofBits_sixtyfourth, h]

theorem queries_apply (z : FVec Ideal S256x512 .f32) (g : FVec Ideal S1x512 .f32) (r : Fin 256) (c : Fin 512) :
    queries z g (ix2 r c) = headRow (fun k => z (ix2 r k)) (fun k => g (ix2 0 k)) c * Ideal.ofBits .f32 0x3E38AA3B#32 := by
  rw [← headNorm_apply]
  pointwise [queries]

theorem gate_apply (z : FVec Ideal S256x512 .f32) (r : Fin 256) (c : Fin 512) : gate z (ix2 r c) = Ideal.logistic (z (ix2 r c)) := by
  pointwise [gate]
  rw [zero_sub, Ideal.logistic]

theorem slab_apply (z : FVec Ideal S256x512 .f32) (r : Fin 256) (c : Fin 512) : slab z (ix3 0 r c) = z (ix2 r c) := by pointwise [slab]
theorem slab16_apply (z : FVec Ideal S256x512 .f32) (r : Fin 256) (c : Fin 512) : slab16 z (ix3 0 r c) = z (ix2 r c) := by pointwise [slab16]
theorem slab256_apply (z : FVec Ideal S256x256 .f32) (r c : Fin 256) : slab256 z (ix3 0 r c) = z (ix2 r c) := by pointwise [slab256]

/-- Half `i`'s normed tokens, at row `q` of the block. -/
theorem hidden_apply (x0 : FVec Ideal S1x512x1024 .f32) (x1 : FVec Ideal S1x1x6144 .f32) (x2 : FVec Ideal S1x1024 .f32) (i : Fin 2) (r : Fin 256) (k : Fin 1024)
    (q : Fin 512) (hq : q.val = 256 * i.val + r.val) :
    hidden x0 x1 x2 i.val (ix2 r k) = normRow (fun k => x0 (ix3 0 q k)) (fun k => x2 (ix2 0 k)) (fun k => x1 (ix3 0 0 ⟨1024 + k.val, by omega⟩))
      (fun k => x1 (ix3 0 0 ⟨k.val, by omega⟩)) k := by
  have e0 (x : FVec Ideal S1x256x1024 .f32) (k : Fin 1024) : shapeCast S256x1024 x shapeCasts_S1x256x1024_S256x1024 (ix2 r k) = x (ix3 0 r k) := by pointwise []
  have eq : q = ⟨256 * i.val + r.val, by omega⟩ := Fin.ext hq
  unfold hidden
  rw [normed_apply]
  simp only [e0, eq]
  rw [show (fun k => wide x0 i.val (ix3 0 r k)) = fun k : Fin 1024 => x0 (ix3 0 ⟨256 * i.val + r.val, by omega⟩ k) from funext fun k => wide_apply x0 i r k,
    show (fun k => modAt x1 1024 inb_S1x1x6144_S1x1x1024_0_0_1024 (ix3 0 0 k)) = fun k : Fin 1024 => x1 (ix3 0 0 ⟨1024 + k.val, by omega⟩) from
      funext fun k => modAt_apply x1 1024 _ k _ rfl,
    show (fun k => modAt x1 0 inb_S1x1x6144_S1x1x1024_0_0_0 (ix3 0 0 k)) = fun k : Fin 1024 => x1 (ix3 0 0 ⟨k.val, by omega⟩) from
      funext fun k => modAt_apply x1 0 _ k _ (Nat.zero_add _).symm]

/-- A projected column of half `i`, at row `q` of the block. -/
theorem cols_apply (x0 : FVec Ideal S1x512x1024 .f32) (x1 : FVec Ideal S1x1x6144 .f32) (x2 : FVec Ideal S1x1024 .f32) (w : FVec Ideal S1024x5888 .bf16)
    (o : ℕ) (ho : ∀ a, (![0, o] : Fin 2 → ℕ) a + S1024x512.size a ≤ S1024x5888.size a) (i : Fin 2) (r : Fin 256) (k : Fin 512) (q : Fin 512) (hq : q.val = 256 * i.val + r.val)
    (j : Fin 5888) (hj : j.val = o + k.val) :
    cols (hidden x0 x1 x2 i.val) w o ho (ix2 r k) = projRow (fun k => x0 (ix3 0 q k)) (fun k => x2 (ix2 0 k)) (fun k => x1 (ix3 0 0 ⟨1024 + k.val, by omega⟩))
      (fun k => x1 (ix3 0 0 ⟨k.val, by omega⟩)) (fun i k => w (ix2 i k)) j := by
  rw [cols_read, projRow]
  refine Finset.sum_congr rfl fun a _ => ?_
  rw [hidden_apply x0 x1 x2 i r a q hq, wCols_apply w o ho a k j hj]

theorem cols256_apply (x0 : FVec Ideal S1x512x1024 .f32) (x1 : FVec Ideal S1x1x6144 .f32) (x2 : FVec Ideal S1x1024 .f32) (w : FVec Ideal S1024x5888 .bf16)
    (i : Fin 2) (r : Fin 256) (k : Fin 256) (q : Fin 512) (hq : q.val = 256 * i.val + r.val) (j : Fin 5888) (hj : j.val = 3584 + k.val) :
    cols256 (hidden x0 x1 x2 i.val) w (ix2 r k) = projRow (fun k => x0 (ix3 0 q k)) (fun k => x2 (ix2 0 k)) (fun k => x1 (ix3 0 0 ⟨1024 + k.val, by omega⟩))
      (fun k => x1 (ix3 0 0 ⟨k.val, by omega⟩)) (fun i k => w (ix2 i k)) j := by
  rw [cols256_read, projRow]
  refine Finset.sum_congr rfl fun a _ => ?_
  rw [hidden_apply x0 x1 x2 i r a q hq, wCols256_apply w a k j hj]

end Cert.Proj

end
-- ==== Proof.ProjArray.lean ====
/- What the five result arrays of the prompt's projection call hold: at every token and column, the one-token function of that
   token's rows. -/
module

public import proofs.«01_k».proof.Proof.Gen.Kernel3Ideal.Value
public import proofs.«01_k».proof.Proof.ProjRows
public import Idealize.ShloMosaic.Lib.Pipeline.ValueKit.Geometry

@[expose] public section

set_option maxRecDepth 16384

noncomputable section

namespace Cert.Proj

open Idealize.ShloMosaic Cert.Kernel3Ideal Cert.Kernel3Ideal.Gen

variable (m : (ℓ : Loc nD τ sig) → Buf (Elt Ideal) ℓ)

/-! ## What the host's reshapes and casts leave -/

/-- The prompt's tokens in one run. -/
def tokens (x : FVec Ideal S32x256x1024 .f32) : FVec Ideal S1x8192x1024 .f32 := shapeCast S1x8192x1024 x shapeCasts_S32x256x1024_S1x8192x1024

/-- The norm's weights as the call takes them. -/
def normWeights (x : FVec Ideal S1x1024 .f32) : FVec Ideal S1x1024 .f32 := shapeCast S1x1024 (shapeCast S1024 x shapeCasts_S1x1024_S1024) shapeCasts_S1024_S1x1024

/-- The weights, their leading axis dropped, as the call takes them. -/
def weights (x : FVec Ideal S1x1024x5888 .f32) : FVec Ideal S1024x5888 .bf16 :=
  truncf .bf16 (shapeCast S1024x5888 x shapeCasts_S1x1024x5888_S1024x5888) bitsLt_bf16_f32

/-- A head's norm weights repeated for the eight heads. -/
def repeated (x : FVec Ideal S1x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 x shapeCasts_S1x64_S64) shapeCasts_S64_S1x64)) shapeCasts_S8x64_S512)

/-- The two head norms' weights, one above the other. -/
def headWeights (x y : FVec Ideal S1x64 .f32) : FVec Ideal S2x512 .f32 :=
  concatenate S2x512 0 [⟨S1x512, repeated x⟩, ⟨S1x512, repeated y⟩] concatenates_S1x512_S1x512_S2x512_d0

theorem V_tokens (c : Dev nD) : V m c main_v11 = tokens (m (c.tc.loc main_arg0)) := by
  unfold_abbrev_sides
  after_results
  rfl

theorem V_norm (c : Dev nD) : V m c main_v15 = normWeights (m (c.tc.loc main_arg2)) := by
  unfold_abbrev_sides
  after_results
  rfl

theorem V_weights (c : Dev nD) : V m c main_v14 = weights (m (c.tc.loc main_arg3)) := by
  unfold_abbrev_sides
  after_results
  rfl

theorem V_heads (c : Dev nD) : V m c main_v10 = headWeights (m (c.tc.loc main_arg4)) (m (c.tc.loc main_arg5)) := by
  unfold_abbrev_sides
  after_results
  rfl

theorem tokens_apply (x : FVec Ideal S32x256x1024 .f32) (t : Fin 8192) (k : Fin 1024) :
    tokens x (ix3 0 t k) = x (ix3 ⟨t.val / 256, by omega⟩ ⟨t.val % 256, by omega⟩ k) := by
  pointwise [tokens]

theorem normWeights_apply (x : FVec Ideal S1x1024 .f32) (k : Fin 1024) : normWeights x (ix2 0 k) = x (ix2 0 k) := by
  pointwise [normWeights]

theorem weights_apply (x : FVec Ideal S1x1024x5888 .f32) (i : Fin 1024) (j : Fin 5888) : weights x (ix2 i j) = x (ix3 0 i j) := by
  pointwise [weights]

theorem repeated_apply (x : FVec Ideal S1x64 .f32) (k : Fin 512) : repeated x (ix2 0 k) = x (ix2 0 ⟨k.val % 64, by omega⟩) := by
  pointwise [repeated]

theorem headWeights_0 (x y : FVec Ideal S1x64 .f32) (k : Fin 512) : headWeights x y (ix2 0 k) = x (ix2 0 ⟨k.val % 64, by omega⟩) := by
  rw [← repeated_apply x k]
  pointwise [headWeights]

theorem headWeights_1 (x y : FVec Ideal S1x64 .f32) (k : Fin 512) : headWeights x y (ix2 1 k) = y (ix2 0 ⟨k.val % 64, by omega⟩) := by
  rw [← repeated_apply y k]
  pointwise [headWeights]

/-! ## The windows' blocks -/

/-- The tile of 512 tokens a grid point works on. -/
def gt (t : Fin cfg0.N) : Fin 16 := grid0.coords t 1

theorem index_0 : ∀ t : Fin cfg0.N, win0_0.index t = ![0, (gt t).val, 0] :=
  (by decide +kernel : ∀ t : Fin grid0.N, win0_0.index t = ![0, (gt t).val, 0])
theorem index_1 : ∀ t : Fin cfg0.N, win0_1.index t = ![0, 0, 0] :=
  (by decide +kernel : ∀ t : Fin grid0.N, win0_1.index t = ![0, 0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![0, (gt t).val, 0] :=
  (by decide +kernel : ∀ t : Fin grid0.N, win0_5.index t = ![0, (gt t).val, 0])
theorem index_6 : ∀ t : Fin cfg0.N, win0_6.index t = ![0, (gt t).val, 0] :=
  (by decide +kernel : ∀ t : Fin grid0.N, win0_6.index t = ![0, (gt t).val, 0])
theorem index_7 : ∀ t : Fin cfg0.N, win0_7.index t = ![0, (gt t).val, 0] :=
  (by decide +kernel : ∀ t : Fin grid0.N, win0_7.index t = ![0, (gt t).val, 0])
theorem index_8 : ∀ t : Fin cfg0.N, win0_8.index t = ![0, (gt t).val, 0] :=
  (by decide +kernel : ∀ t : Fin grid0.N, win0_8.index t = ![0, (gt t).val, 0])
theorem index_9 : ∀ t : Fin cfg0.N, win0_9.index t = ![0, (gt t).val, 0] :=
  (by decide +kernel : ∀ t : Fin grid0.N, win0_9.index t = ![0, (gt t).val, 0])

theorem covers_5 : (cfg0.win 5).Covers := by decide +kernel
theorem covers_6 : (cfg0.win 6).Covers := by decide +kernel
theorem covers_7 : (cfg0.win 7).Covers := by decide +kernel
theorem covers_8 : (cfg0.win 8).Covers := by decide +kernel
theorem covers_9 : (cfg0.win 9).Covers := by decide +kernel

/-- The token of the whole array that row `i` of a grid point's blocks is. -/
def tok (t : Fin cfg0.N) (i : Fin 512) : Fin 8192 := ⟨512 * (gt t).val + i.val, by have := (gt t).isLt; omega⟩

theorem blk_0 (c : Dev nD) (t : Fin cfg0.N) (i : Fin 512) (k : Fin 1024) :
    (iblk m c 0 t : FVec Ideal S1x512x1024 .f32) (ix3 0 i k)
      = (m (c.tc.loc main_arg0) : FVec Ideal S32x256x1024 .f32) (ix3 ⟨(tok t i).val / 256, by omega⟩ ⟨(tok t i).val % 256, by omega⟩ k) := by
  rw [← tokens_apply (m (c.tc.loc main_arg0)) (tok t i) k]
  blk_simp [iblk]
  refine (congrFun (V_tokens m c) _).trans (congrArg (tokens _) ?_)
  blk_ext [index_0, tok]

theorem blk_1 (c : Dev nD) (t : Fin cfg0.N) (k : Fin 6144) :
    (iblk m c 1 t : FVec Ideal S1x1x6144 .f32) (ix3 0 0 k) = (m (c.tc.loc main_arg1) : FVec Ideal S1x1x6144 .f32) (ix3 0 0 k) := by
  blk_simp [iblk]
  refine (congrFun (V_main_arg1 m c) _).trans (congrArg (m (c.tc.loc main_arg1)) ?_)
  blk_ext [index_1]

theorem blk_2 (c : Dev nD) (t : Fin cfg0.N) (k : Fin 1024) :
    (iblk m c 2 t : FVec Ideal S1x1024 .f32) (ix2 0 k) = (m (c.tc.loc main_arg2) : FVec Ideal S1x1024 .f32) (ix2 0 k) := by
  rw [← normWeights_apply (m (c.tc.loc main_arg2)) k]
  blk_simp [iblk]
  refine (congrFun (V_norm m c) _).trans (congrArg (normWeights _) ?_)
  blk_ext [index_2]

theorem blk_3 (c : Dev nD) (t : Fin cfg0.N) (i : Fin 1024) (j : Fin 5888) :
    (iblk m c 3 t : FVec Ideal S1024x5888 .bf16) (ix2 i j) = (m (c.tc.loc main_arg3) : FVec Ideal S1x1024x5888 .f32) (ix3 0 i j) := by
  rw [← weights_apply (m (c.tc.loc main_arg3)) i j]
  blk_simp [iblk]
  refine (congrFun (V_weights m c) _).trans (congrArg (weights _) ?_)
  blk_ext [index_3]

theorem blk_4 (c : Dev nD) (t : Fin cfg0.N) (o : Fin 2) (k : Fin 512) :
    (iblk m c 4 t : FVec Ideal S2x512 .f32) (ix2 o k) = headWeights (m (c.tc.loc main_arg4)) (m (c.tc.loc main_arg5)) (ix2 o k) := by
  blk_simp [iblk]
  refine (congrFun (V_heads m c) _).trans (congrArg (headWeights _ _) ?_)
  blk_ext [index_4]

/-! ## A half's columns at a token -/

/-- The projected columns of the whole arrays, at a token. -/
def pr (c : Dev nD) (t : Fin 8192) (j : Fin 5888) : EReal :=
  projEntry (m (c.tc.loc main_arg0)) (m (c.tc.loc main_arg1)) (m (c.tc.loc main_arg2)) (m (c.tc.loc main_arg3)) t j

theorem col_eq (c : Dev nD) (t : Fin cfg0.N) (i : Fin 2) (o : ℕ) (ho : ∀ a, (![0, o] : Fin 2 → ℕ) a + S1024x512.size a ≤ S1024x5888.size a) (r : Fin 256) (k : Fin 512)
    (q : Fin 512) (hq : q.val = 256 * i.val + r.val) (j : Fin 5888) (hj : j.val = o + k.val) : col m c t i.val o ho (ix2 r k) = pr m c (tok t q) j := by
  unfold col hid
  rw [cols_apply _ _ _ _ o ho i r k q hq j hj, pr, projEntry]
  simp only [blk_0, blk_1, blk_2, blk_3]

theorem col256_eq (c : Dev nD) (t : Fin cfg0.N) (i : Fin 2) (r k : Fin 256)
    (q : Fin 512) (hq : q.val = 256 * i.val + r.val) (j : Fin 5888) (hj : j.val = 3584 + k.val) :
    cols256 (hid m c t i.val) (iblk m c 3 t) (ix2 r k) = pr m c (tok t q) j := by
  unfold hid
  rw [cols256_apply _ _ _ _ i r k q hq j hj, pr, projEntry]
  simp only [blk_0, blk_1, blk_2, blk_3]

theorem qry_eq (c : Dev nD) (t : Fin cfg0.N) (i : Fin 2) (r : Fin 256) (k : Fin 512) (q : Fin 512) (hq : q.val = 256 * i.val + r.val) :
    qry m c t i.val (ix2 r k) = queryEntry (m (c.tc.loc main_arg0)) (m (c.tc.loc main_arg1)) (m (c.tc.loc main_arg2)) (m (c.tc.loc main_arg3)) (m (c.tc.loc main_arg4)) (tok t q) k
      * Ideal.ofBits .f32 0x3E38AA3B#32 := by
  unfold qry
  rw [queries_apply, queryEntry]
  refine congrArg (· * _) (congrArg₂ (fun z g => headRow z g k) (funext fun j => ?_) (funext fun j => ?_))
  · exact col_eq m c t i 0 _ r j q hq ⟨j.val, by omega⟩ (Nat.zero_add _).symm
  · exact ((weightRow_apply _ 0 _ j).trans (blk_4 m c t 0 j)).trans (headWeights_0 _ _ j)

theorem key_eq (c : Dev nD) (t : Fin cfg0.N) (i : Fin 2) (r : Fin 256) (k : Fin 512) (q : Fin 512) (hq : q.val = 256 * i.val + r.val) :
    key m c t i.val (ix2 r k) = keyEntry (m (c.tc.loc main_arg0)) (m (c.tc.loc main_arg1)) (m (c.tc.loc main_arg2)) (m (c.tc.loc main_arg3)) (m (c.tc.loc main_arg5)) (tok t q) k := by
  unfold key
  rw [headNorm_apply, keyEntry]
  refine congrArg₂ (fun z g => headRow z g k) (funext fun j => ?_) (funext fun j => ?_)
  · exact col_eq m c t i 512 _ r j q hq ⟨512 + j.val, by omega⟩ rfl
  · exact ((weightRow_apply _ 1 _ j).trans (blk_4 m c t 1 j)).trans (headWeights_1 _ _ j)

/-! ## The blocks -/

/-- A store of 256 rows and `w` columns at row `r` and column `o` agrees with a function of the block's entries, if it does at
    each of its own. -/
theorem agrees {N w : ℕ} {e : EltTy} (r o : ℕ) (hs : ∀ a, (![0, r, o] : Fin 3 → ℕ) a + (⟨3, ![1, 256, w]⟩ : Shape).size a ≤ (⟨3, ![1, 512, N]⟩ : Shape).size a)
    (Q : (⟨3, ![1, 256, w]⟩ : Shape).Idx → Elt Ideal e) (f : (⟨3, ![1, 512, N]⟩ : Shape).Idx → Elt Ideal e)
    (h : ∀ (a : Fin 256) (k : Fin w) (p : Fin 512) (q : Fin N), p.val = r + a.val → q.val = o + k.val → Q (ix3 0 a k) = f (ix3 0 p q))
    (x : (⟨3, ![1, 256, w]⟩ : Shape).Idx) :
    Q x = f ((Rect.unit (s := ⟨3, ![1, 512, N]⟩) ![0, r, o] (⟨3, ![1, 256, w]⟩ : Shape).size hs).emb x) := by
  have hx : x = ix3 0 (x 1) (x 2) := by
    funext a
    match a with
    | ⟨0, _⟩ => exact Subsingleton.elim (α := Fin 1) _ _
    | ⟨1, _⟩ => rfl
    | ⟨2, _⟩ => rfl
  refine (congrArg Q hx).trans ((h (x 1) (x 2) ((Rect.unit (s := ⟨3, ![1, 512, N]⟩) ![0, r, o] (⟨3, ![1, 256, w]⟩ : Shape).size hs).emb x 1)
    ((Rect.unit (s := ⟨3, ![1, 512, N]⟩) ![0, r, o] (⟨3, ![1, 256, w]⟩ : Shape).size hs).emb x 2) ?_ ?_).trans (congrArg f ?_))
  · show r + 1 * (x 1).val = r + (x 1).val; omega
  · show o + 1 * (x 2).val = o + (x 2).val; omega
  · funext a
    match a with
    | ⟨0, _⟩ => exact Subsingleton.elim (α := Fin 1) _ _
    | ⟨1, _⟩ => rfl
    | ⟨2, _⟩ => rfl

/-- What the block of queries, keys and values ends as. -/
def block_5 (c : Dev nD) (t : Fin cfg0.N) : FVec Ideal S1x512x1536 .bf16 := fun y =>
  qkvEntry (m (c.tc.loc main_arg0)) (m (c.tc.loc main_arg1)) (m (c.tc.loc main_arg2)) (m (c.tc.loc main_arg3)) (m (c.tc.loc main_arg4)) (m (c.tc.loc main_arg5)) (tok t (y 1)) (y 2)
/-- What the block of the scan's columns ends as. -/
def block_6 (c : Dev nD) (t : Fin cfg0.N) : FVec Ideal S1x512x2304 .f32 := fun y =>
  pr m c (tok t (y 1)) ⟨1536 + (y 2).val, by have : (y 2).val < 2304 := (y 2).isLt; omega⟩
/-- What the block of gates ends as. -/
def block_7 (c : Dev nD) (t : Fin cfg0.N) : FVec Ideal S1x512x2048 .f32 := fun y =>
  Ideal.logistic (pr m c (tok t (y 1)) ⟨3840 + (y 2).val, by have : (y 2).val < 2048 := (y 2).isLt; omega⟩)
/-- What the block of keys ends as. -/
def block_8 (c : Dev nD) (t : Fin cfg0.N) : FVec Ideal S1x512x512 .f32 := fun y =>
  keyEntry (m (c.tc.loc main_arg0)) (m (c.tc.loc main_arg1)) (m (c.tc.loc main_arg2)) (m (c.tc.loc main_arg3)) (m (c.tc.loc main_arg5)) (tok t (y 1)) (y 2)
/-- What the block of values ends as. -/
def block_9 (c : Dev nD) (t : Fin cfg0.N) : FVec Ideal S1x512x512 .f32 := fun y =>
  pr m c (tok t (y 1)) ⟨1024 + (y 2).val, by have : (y 2).val < 512 := (y 2).isLt; omega⟩

theorem qkv_query (c : Dev nD) (t : Fin cfg0.N) (i : Fin 2) (r : Fin 256) (k : Fin 512) (p : Fin 512) (q : Fin 1536) (hp : p.val = 256 * i.val + r.val) (hq : q.val = 0 + k.val) :
    slab16 (qry m c t i.val) (ix3 0 r k) = block_5 m c t (ix3 0 p q) := by
  have hk : q.val < 512 := by omega
  have e : k = ⟨q.val, hk⟩ := Fin.ext (by show k.val = q.val; omega)
  rw [slab16_apply, qry_eq m c t i r k p hp, e]
  show _ = qkvEntry _ _ _ _ _ _ (tok t p) q
  rw [qkvEntry, dif_pos hk]

theorem qkv_key (c : Dev nD) (t : Fin cfg0.N) (i : Fin 2) (r : Fin 256) (k : Fin 512) (p : Fin 512) (q : Fin 1536) (hp : p.val = 256 * i.val + r.val) (hq : q.val = 512 + k.val) :
    slab16 (key m c t i.val) (ix3 0 r k) = block_5 m c t (ix3 0 p q) := by
  have hk : ¬ q.val < 512 := by omega
  have hk' : q.val < 1024 := by omega
  have e : k = ⟨q.val - 512, by omega⟩ := Fin.ext (by show k.val = q.val - 512; omega)
  rw [slab16_apply, key_eq m c t i r k p hp, e]
  show _ = qkvEntry _ _ _ _ _ _ (tok t p) q
  rw [qkvEntry, dif_neg hk, dif_pos hk']

theorem qkv_val (c : Dev nD) (t : Fin cfg0.N) (i : Fin 2) (r : Fin 256) (k : Fin 512) (p : Fin 512) (q : Fin 1536) (hp : p.val = 256 * i.val + r.val) (hq : q.val = 1024 + k.val) :
    slab16 (val m c t i.val) (ix3 0 r k) = block_5 m c t (ix3 0 p q) := by
  have hk : ¬ q.val < 512 := by omega
  have hk' : ¬ q.val < 1024 := by omega
  rw [slab16_apply, val, col_eq m c t i 1024 _ r k p hp ⟨q.val, by omega⟩ hq]
  show _ = qkvEntry _ _ _ _ _ _ (tok t p) q
  rw [qkvEntry, dif_neg hk, dif_neg hk', pr]

theorem holds_5 (c : Dev nD) (t : Fin cfg0.N) : ∀ p ∈ stores_5 m c t, ∀ x : p.1.shape.Idx, p.2 x = block_5 m c t (p.1.emb x) := by
  intro p hp
  simp only [stores_5, List.mem_cons, List.not_mem_nil, or_false] at hp
  rcases hp with rfl | rfl | rfl | rfl | rfl | rfl
  · exact agrees 256 1024 inb_S1x512x1536_S1x256x512_0_256_1024 _ _ fun a k p q hp hq => qkv_val m c t 1 a k p q hp hq
  · exact agrees 0 1024 inb_S1x512x1536_S1x256x512_0_0_1024 _ _ fun a k p q hp hq => qkv_val m c t 0 a k p q hp hq
  · exact agrees 256 512 inb_S1x512x1536_S1x256x512_0_256_512 _ _ fun a k p q hp hq => qkv_key m c t 1 a k p q hp hq
  · exact agrees 0 512 inb_S1x512x1536_S1x256x512_0_0_512 _ _ fun a k p q hp hq => qkv_key m c t 0 a k p q hp hq
  · exact agrees 256 0 inb_S1x512x1536_S1x256x512_0_256_0 _ _ fun a k p q hp hq => qkv_query m c t 1 a k p q hp hq
  · exact agrees 0 0 inb_S1x512x1536_S1x256x512_0_0_0 _ _ fun a k p q hp hq => qkv_query m c t 0 a k p q hp hq

theorem scan_col (c : Dev nD) (t : Fin cfg0.N) (i : Fin 2) (o : ℕ) (ho : ∀ a, (![0, 1536 + o] : Fin 2 → ℕ) a + S1024x512.size a ≤ S1024x5888.size a) (r : Fin 256) (k : Fin 512)
    (p : Fin 512) (q : Fin 2304) (hp : p.val = 256 * i.val + r.val) (hq : q.val = o + k.val) :
    slab (col m c t i.val (1536 + o) ho) (ix3 0 r k) = block_6 m c t (ix3 0 p q) := by
  rw [slab_apply]
  exact col_eq m c t i (1536 + o) ho r k p hp ⟨1536 + q.val, by omega⟩ (by show 1536 + q.val = _; omega)

theorem scan_col256 (c : Dev nD) (t : Fin cfg0.N) (i : Fin 2) (r : Fin 256) (k : Fin 256)
    (p : Fin 512) (q : Fin 2304) (hp : p.val = 256 * i.val + r.val) (hq : q.val = 2048 + k.val) :
    slab256 (cols256 (hid m c t i.val) (iblk m c 3 t)) (ix3 0 r k) = block_6 m c t (ix3 0 p q) := by
  rw [slab256_apply]
  exact col256_eq m c t i r k p hp ⟨1536 + q.val, by omega⟩ (by show 1536 + q.val = _; omega)

theorem holds_6 (c : Dev nD) (t : Fin cfg0.N) : ∀ p ∈ stores_6 m c t, ∀ x : p.1.shape.Idx, p.2 x = block_6 m c t (p.1.emb x) := by
  intro p hp
  simp only [stores_6, List.mem_cons, List.not_mem_nil, or_false] at hp
  rcases hp with rfl | rfl | rfl | rfl | rfl | rfl | rfl | rfl | rfl | rfl
  · exact agrees 256 2048 inb_S1x512x2304_S1x256x256_0_256_2048 _ _ fun a k p q hp hq => scan_col256 m c t 1 a k p q hp hq
  · exact agrees 0 2048 inb_S1x512x2304_S1x256x256_0_0_2048 _ _ fun a k p q hp hq => scan_col256 m c t 0 a k p q hp hq
  · exact agrees 256 1536 inb_S1x512x2304_S1x256x512_0_256_1536 _ _ fun a k p q hp hq => scan_col m c t 1 1536 _ a k p q hp hq
  · exact agrees 0 1536 inb_S1x512x2304_S1x256x512_0_0_1536 _ _ fun a k p q hp hq => scan_col m c t 0 1536 _ a k p q hp hq
  · exact agrees 256 1024 inb_S1x512x2304_S1x256x512_0_256_1024 _ _ fun a k p q hp hq => scan_col m c t 1 1024 _ a k p q hp hq
  · exact agrees 0 1024 inb_S1x512x2304_S1x256x512_0_0_1024 _ _ fun a k p q hp hq => scan_col m c t 0 1024 _ a k p q hp hq
  · exact agrees 256 512 inb_S1x512x2304_S1x256x512_0_256_512 _ _ fun a k p q hp hq => scan_col m c t 1 512 _ a k p q hp hq
  · exact agrees 0 512 inb_S1x512x2304_S1x256x512_0_0_512 _ _ fun a k p q hp hq => scan_col m c t 0 512 _ a k p q hp hq
  · exact agrees 256 0 inb_S1x512x2304_S1x256x512_0_256_0 _ _ fun a k p q hp hq => scan_col m c t 1 0 _ a k p q hp hq
  · exact agrees 0 0 inb_S1x512x2304_S1x256x512_0_0_0 _ _ fun a k p q hp hq => scan_col m c t 0 0 _ a k p q hp hq

theorem gate_col (c : Dev nD) (t : Fin cfg0.N) (i : Fin 2) (o : ℕ) (ho : ∀ a, (![0, 3840 + o] : Fin 2 → ℕ) a + S1024x512.size a ≤ S1024x5888.size a) (r : Fin 256) (k : Fin 512)
    (p : Fin 512) (q : Fin 2048) (hp : p.val = 256 * i.val + r.val) (hq : q.val = o + k.val) :
    slab (gate (col m c t i.val (3840 + o) ho)) (ix3 0 r k) = block_7 m c t (ix3 0 p q) := by
  rw [slab_apply, gate_apply]
  exact congrArg Ideal.logistic (col_eq m c t i (3840 + o) ho r k p hp ⟨3840 + q.val, by omega⟩ (by show 3840 + q.val = _; omega))

theorem holds_7 (c : Dev nD) (t : Fin cfg0.N) : ∀ p ∈ stores_7 m c t, ∀ x : p.1.shape.Idx, p.2 x = block_7 m c t (p.1.emb x) := by
  intro p hp
  simp only [stores_7, List.mem_cons, List.not_mem_nil, or_false] at hp
  rcases hp with rfl | rfl | rfl | rfl | rfl | rfl | rfl | rfl
  · exact agrees 256 1536 inb_S1x512x2048_S1x256x512_0_256_1536 _ _ fun a k p q hp hq => gate_col m c t 1 1536 _ a k p q hp hq
  · exact agrees 0 1536 inb_S1x512x2048_S1x256x512_0_0_1536 _ _ fun a k p q hp hq => gate_col m c t 0 1536 _ a k p q hp hq
  · exact agrees 256 1024 inb_S1x512x2048_S1x256x512_0_256_1024 _ _ fun a k p q hp hq => gate_col m c t 1 1024 _ a k p q hp hq
  · exact agrees 0 1024 inb_S1x512x2048_S1x256x512_0_0_1024 _ _ fun a k p q hp hq => gate_col m c t 0 1024 _ a k p q hp hq
  · exact agrees 256 512 inb_S1x512x2048_S1x256x512_0_256_512 _ _ fun a k p q hp hq => gate_col m c t 1 512 _ a k p q hp hq
  · exact agrees 0 512 inb_S1x512x2048_S1x256x512_0_0_512 _ _ fun a k p q hp hq => gate_col m c t 0 512 _ a k p q hp hq
  · exact agrees 256 0 inb_S1x512x2048_S1x256x512_0_256_0 _ _ fun a k p q hp hq => gate_col m c t 1 0 _ a k p q hp hq
  · exact agrees 0 0 inb_S1x512x2048_S1x256x512_0_0_0 _ _ fun a k p q hp hq => gate_col m c t 0 0 _ a k p q hp hq

theorem key_col (c : Dev nD) (t : Fin cfg0.N) (i : Fin 2) (r : Fin 256) (k p q : Fin 512) (hp : p.val = 256 * i.val + r.val) (hq : q.val = 0 + k.val) :
    slab (key m c t i.val) (ix3 0 r k) = block_8 m c t (ix3 0 p q) := by
  have e : q = k := Fin.ext (by omega)
  rw [slab_apply, e]
  exact key_eq m c t i r k p hp

theorem holds_8 (c : Dev nD) (t : Fin cfg0.N) : ∀ p ∈ stores_8 m c t, ∀ x : p.1.shape.Idx, p.2 x = block_8 m c t (p.1.emb x) := by
  intro p hp
  simp only [stores_8, List.mem_cons, List.not_mem_nil, or_false] at hp
  rcases hp with rfl | rfl
  · exact agrees 256 0 inb_S1x512x512_S1x256x512_0_256_0 _ _ fun a k p q hp hq => key_col m c t 1 a k p q hp hq
  · exact agrees 0 0 inb_S1x512x512_S1x256x512_0_0_0 _ _ fun a k p q hp hq => key_col m c t 0 a k p q hp hq

theorem val_col (c : Dev nD) (t : Fin cfg0.N) (i : Fin 2) (r : Fin 256) (k p q : Fin 512) (hp : p.val = 256 * i.val + r.val) (hq : q.val = 0 + k.val) :
    slab (val m c t i.val) (ix3 0 r k) = block_9 m c t (ix3 0 p q) := by
  rw [slab_apply]
  exact col_eq m c t i 1024 _ r k p hp ⟨1024 + q.val, by omega⟩ (by show 1024 + q.val = _; omega)

theorem holds_9 (c : Dev nD) (t : Fin cfg0.N) : ∀ p ∈ stores_9 m c t, ∀ x : p.1.shape.Idx, p.2 x = block_9 m c t (p.1.emb x) := by
  intro p hp
  simp only [stores_9, List.mem_cons, List.not_mem_nil, or_false] at hp
  rcases hp with rfl | rfl
  · exact agrees 256 0 inb_S1x512x512_S1x256x512_0_256_0 _ _ fun a k p q hp hq => val_col m c t 1 a k p q hp hq
  · exact agrees 0 0 inb_S1x512x512_S1x256x512_0_0_0 _ _ fun a k p q hp hq => val_col m c t 0 a k p q hp hq

theorem block_5_eq (c : Dev nD) (t : Fin cfg0.N) : (outsAt0 m c t).1 = block_5 m c t := by
  rw [outs_5]
  exact funext fun y => View.canon_apply_of_pieces _ _ (holds_5 m c t) y (View.cover_of_tiledL (stores_5 m c t) S1x256x512.size (by sl_kernel_rfl) y)
theorem block_6_eq (c : Dev nD) (t : Fin cfg0.N) : (outsAt0 m c t).2.1 = block_6 m c t := by
  rw [outs_6]
  exact funext fun y => View.canon_apply_of_pieces _ _ (holds_6 m c t) y (View.cover_of_tiledBy (stores_6 m c t) ![1, 256, 256] (by sl_kernel_rfl) y)
theorem block_7_eq (c : Dev nD) (t : Fin cfg0.N) : (outsAt0 m c t).2.2.1 = block_7 m c t := by
  rw [outs_7]
  exact funext fun y => View.canon_apply_of_pieces _ _ (holds_7 m c t) y (View.cover_of_tiledL (stores_7 m c t) S1x256x512.size (by sl_kernel_rfl) y)
theorem block_8_eq (c : Dev nD) (t : Fin cfg0.N) : (outsAt0 m c t).2.2.2.1 = block_8 m c t := by
  rw [outs_8]
  exact funext fun y => View.canon_apply_of_pieces _ _ (holds_8 m c t) y (View.cover_of_tiledL (stores_8 m c t) S1x256x512.size (by sl_kernel_rfl) y)
theorem block_9_eq (c : Dev nD) (t : Fin cfg0.N) : (outsAt0 m c t).2.2.2.2 = block_9 m c t := by
  rw [outs_9]
  exact funext fun y => View.canon_apply_of_pieces _ _ (holds_9 m c t) y (View.cover_of_tiledL (stores_9 m c t) S1x256x512.size (by sl_kernel_rfl) y)

/-! ## The arrays -/

/-- The coordinates of a block's entry. -/
theorem coords {N : ℕ} (y : (⟨3, ![1, 512, N]⟩ : Shape).Idx) : ∃ (i : Fin 512) (e : Fin N), y = ix3 0 i e := by
  refine ⟨y 1, y 2, ?_⟩
  funext a
  match a with
  | ⟨0, _⟩ => exact Subsingleton.elim (α := Fin 1) _ _
  | ⟨1, _⟩ => rfl
  | ⟨2, _⟩ => rfl

theorem arr_5 (c : Dev nD) : (dats m 0 c).arrAt 5 cfg0.N
    = qkvResult (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 5 _ covers_5 fun t _ y => ?_
  blk_simp
  rw [after0_5, block_5_eq]
  obtain ⟨i, e, rfl⟩ := coords y
  have e1 : ((win0_5.blk t).view.emb (ix3 0 i e) 1).val = 512 * (gt t).val + i.val := by blk_simp [index_5]; simp; omega
  have e2 : ((win0_5.blk t).view.emb (ix3 0 i e) 2).val = e.val := by blk_simp [index_5]
  unfold qkvResult block_5
  congr 1
  · exact Fin.ext e1.symm
  · exact Fin.ext e2.symm

theorem arr_6 (c : Dev nD) : (dats m 0 c).arrAt 6 cfg0.N
    = scanResult (m (c.tc.loc main_arg0)) (m (c.tc.loc main_arg1)) (m (c.tc.loc main_arg2)) (m (c.tc.loc main_arg3)) := by
  refine (dats m 0 c).arrAt_eq_of_covers 6 _ covers_6 fun t _ y => ?_
  blk_simp
  rw [after0_6, block_6_eq]
  obtain ⟨i, e, rfl⟩ := coords y
  have e1 : ((win0_6.blk t).view.emb (ix3 0 i e) 1).val = 512 * (gt t).val + i.val := by blk_simp [index_6]; simp; omega
  have e2 : ((win0_6.blk t).view.emb (ix3 0 i e) 2).val = e.val := by blk_simp [index_6]
  unfold scanResult block_6 pr
  congr 1
  · exact Fin.ext e1.symm
  · exact Fin.ext (congrArg (1536 + ·) e2.symm)

theorem arr_7 (c : Dev nD) : (dats m 0 c).arrAt 7 cfg0.N
    = gateResult (m (c.tc.loc main_arg0)) (m (c.tc.loc main_arg1)) (m (c.tc.loc main_arg2)) (m (c.tc.loc main_arg3)) := by
  refine (dats m 0 c).arrAt_eq_of_covers 7 _ covers_7 fun t _ y => ?_
  blk_simp
  rw [after0_7, block_7_eq]
  obtain ⟨i, e, rfl⟩ := coords y
  have e1 : ((win0_7.blk t).view.emb (ix3 0 i e) 1).val = 512 * (gt t).val + i.val := by blk_simp [index_7]; simp; omega
  have e2 : ((win0_7.blk t).view.emb (ix3 0 i e) 2).val = e.val := by blk_simp [index_7]
  unfold gateResult block_7 pr
  refine congrArg Ideal.logistic ?_
  congr 1
  · exact Fin.ext e1.symm
  · exact Fin.ext (congrArg (3840 + ·) e2.symm)

theorem arr_8 (c : Dev nD) : (dats m 0 c).arrAt 8 cfg0.N
    = keyResult (m (c.tc.loc main_arg0)) (m (c.tc.loc main_arg1)) (m (c.tc.loc main_arg2)) (m (c.tc.loc main_arg3)) (m (c.tc.loc main_arg5)) := by
  refine (dats m 0 c).arrAt_eq_of_covers 8 _ covers_8 fun t _ y => ?_
  blk_simp
  rw [after0_8, block_8_eq]
  obtain ⟨i, e, rfl⟩ := coords y
  have e1 : ((win0_8.blk t).view.emb (ix3 0 i e) 1).val = 512 * (gt t).val + i.val := by blk_simp [index_8]; simp; omega
  have e2 : ((win0_8.blk t).view.emb (ix3 0 i e) 2).val = e.val := by blk_simp [index_8]
  unfold keyResult block_8
  congr 1
  · exact Fin.ext e1.symm
  · exact Fin.ext e2.symm

theorem arr_9 (c : Dev nD) : (dats m 0 c).arrAt 9 cfg0.N
    = valResult (m (c.tc.loc main_arg0)) (m (c.tc.loc main_arg1)) (m (c.tc.loc main_arg2)) (m (c.tc.loc main_arg3)) := by
  refine (dats m 0 c).arrAt_eq_of_covers 9 _ covers_9 fun t _ y => ?_
  blk_simp
  rw [after0_9, block_9_eq]
  obtain ⟨i, e, rfl⟩ := coords y
  have e1 : ((win0_9.blk t).view.emb (ix3 0 i e) 1).val = 512 * (gt t).val + i.val := by blk_simp [index_9]; simp; omega
  have e2 : ((win0_9.blk t).view.emb (ix3 0 i e) 2).val = e.val := by blk_simp [index_9]
  unfold valResult block_9 pr
  congr 1
  · exact Fin.ext e1.symm
  · exact Fin.ext (congrArg (1024 + ·) e2.symm)

end Cert.Proj

end
-- ==== Proof.ProjRef.lean ====
/- What the reference of the prompt's projection computes, stage by stage, at one token. -/
module

public import proofs.«01_k».proof.Proof.Gen.Reference3Ideal.Read
public import proofs.«01_k».proof.Proof.ProjSpec

@[expose] public section

set_option maxRecDepth 16384

noncomputable section

namespace Cert.ProjRef

open Idealize.ShloMosaic Cert.Reference3Ideal Cert.Reference3Ideal.Gen Cert.Reference3Ideal.Read Cert.Proj
open Cert.Post (headOf normRow ofBits_one ofBits_sixtyfour)

variable (x0 : FVec Ideal S32x256x1024 .f32) (x1 : FVec Ideal S1x1x6144 .f32) (x2 : FVec Ideal S1x1024 .f32) (x3 : FVec Ideal S1x1024x5888 .f32)
  (x4 x5 : FVec Ideal S1x64 .f32)

theorem v0_apply (t : Fin 8192) (k : Fin 1024) :
    val_main_v0 (F := Ideal) x0 (ix3 0 t k) = x0 (ix3 ⟨t.val / 256, by omega⟩ ⟨t.val % 256, by omega⟩ k) := by
  refine (val_main_v0_apply (F := Ideal) x0 _).trans (congrArg x0 ?_)
  have := k.isLt
  funext a
  match a with
  | ⟨0, _⟩ => apply Fin.ext; show ((0 * 8192 + t.val) * 1024 + k.val) / 262144 = t.val / 256; omega
  | ⟨1, _⟩ => apply Fin.ext; show ((0 * 8192 + t.val) * 1024 + k.val) / 1024 % 256 = t.val % 256; omega
  | ⟨2, _⟩ => apply Fin.ext; show ((0 * 8192 + t.val) * 1024 + k.val) % 1024 = k.val; omega

theorem v26_apply (t : Fin 8192) (k : Fin 1024) :
    val_main_v26 (F := Ideal) x0 x1 x2 (ix3 0 t k) = normRow (fun k => val_main_v0 (F := Ideal) x0 (ix3 0 t k)) (fun k => x2 (ix2 0 k))
      (fun k => x1 (ix3 0 0 ⟨1024 + k.val, by omega⟩)) (fun k => x1 (ix3 0 0 ⟨k.val, by omega⟩)) k := by
  unfold normRow
  rw [← ofBits_one]
  pointwise [val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v2, val_main_v1, val_main_cst, val_main_cst_0, val_main_cst_1, val_main_cst_2]

theorem v28_apply (t : Fin 8192) (j : Fin 5888) : val_main_v28 (F := Ideal) x0 x1 x2 x3 (ix3 0 t j) = projEntry x0 x1 x2 x3 t j := by
  have h : val_main_v28 (F := Ideal) x0 x1 x2 x3 (ix3 0 t j) = ∑ i : Fin 1024, val_main_v26 (F := Ideal) x0 x1 x2 (ix3 0 t i) * x3 (ix3 0 i j) := by
    pointwise [val_main_v28, val_main_v27]
  rw [h, projEntry, projRow]
  simp only [v26_apply, v0_apply]

theorem v30_apply (t : Fin 8192) (h : Fin 8) (d : Fin 64) :
    val_main_v30 (F := Ideal) x0 x1 x2 x3 (ix4 0 t h d) = projEntry x0 x1 x2 x3 t ⟨64 * h.val + d.val, by omega⟩ := by
  rw [← v28_apply]
  pointwise [val_main_v30, val_main_v29]
  have e : (⟨h.val * 64 + d.val, by omega⟩ : Fin 5888) = ⟨64 * h.val + d.val, by omega⟩ := Fin.ext (by simp; omega)
  rw [e]

theorem v32_apply (t : Fin 8192) (h : Fin 8) (d : Fin 64) :
    val_main_v32 (F := Ideal) x0 x1 x2 x3 (ix4 0 t h d) = projEntry x0 x1 x2 x3 t ⟨512 + (64 * h.val + d.val), by omega⟩ := by
  rw [← v28_apply]
  pointwise [val_main_v32, val_main_v31]
  have e : (⟨512 + (h.val * 64 + d.val), by omega⟩ : Fin 5888) = ⟨512 + (64 * h.val + d.val), by omega⟩ := Fin.ext (by simp; omega)
  rw [e]

theorem v47_apply (t : Fin 8192) (h : Fin 8) (d : Fin 64) :
    val_main_v47 (F := Ideal) x0 x1 x2 x3 x4 (ix4 0 t h d) = val_main_v30 (F := Ideal) x0 x1 x2 x3 (ix4 0 t h d)
      * Ideal.rsqrt (Ideal.div (∑ d : Fin 64, val_main_v30 (F := Ideal) x0 x1 x2 x3 (ix4 0 t h d) * val_main_v30 (F := Ideal) x0 x1 x2 x3 (ix4 0 t h d)) (Ideal.ofBits .f32 0x42800000#32)
        + Ideal.ofBits .f32 0x358637BD#32) * x4 (ix2 0 d) := by
  pointwise [val_main_v47, val_main_v46, val_main_v45, val_main_v44, val_main_v43, val_main_v42, val_main_v41, val_main_v40, val_main_v39, val_main_v38, val_main_v37, val_main_v36,
    val_main_v35, val_main_v34, val_main_cst_3, val_main_cst_4, val_main_cst_5]

theorem v62_apply (t : Fin 8192) (h : Fin 8) (d : Fin 64) :
    val_main_v62 (F := Ideal) x0 x1 x2 x3 x5 (ix4 0 t h d) = val_main_v32 (F := Ideal) x0 x1 x2 x3 (ix4 0 t h d)
      * Ideal.rsqrt (Ideal.div (∑ d : Fin 64, val_main_v32 (F := Ideal) x0 x1 x2 x3 (ix4 0 t h d) * val_main_v32 (F := Ideal) x0 x1 x2 x3 (ix4 0 t h d)) (Ideal.ofBits .f32 0x42800000#32)
        + Ideal.ofBits .f32 0x358637BD#32) * x5 (ix2 0 d) := by
  pointwise [val_main_v62, val_main_v61, val_main_v60, val_main_v59, val_main_v58, val_main_v57, val_main_v56, val_main_v55, val_main_v54, val_main_v53, val_main_v52, val_main_v51,
    val_main_v50, val_main_v49, val_main_cst_6, val_main_cst_7, val_main_cst_8]

theorem v48_read (t : Fin 8192) (c : Fin 512) :
    val_main_v48 (F := Ideal) x0 x1 x2 x3 x4 (ix3 0 t c) = val_main_v47 (F := Ideal) x0 x1 x2 x3 x4 (ix4 0 t ⟨c.val / 64, by omega⟩ ⟨c.val % 64, by omega⟩) := by
  pointwise [val_main_v48]

theorem v63_read (t : Fin 8192) (c : Fin 512) :
    val_main_v63 (F := Ideal) x0 x1 x2 x3 x5 (ix3 0 t c) = val_main_v62 (F := Ideal) x0 x1 x2 x3 x5 (ix4 0 t ⟨c.val / 64, by omega⟩ ⟨c.val % 64, by omega⟩) := by
  pointwise [val_main_v63]

/-- Division by 64 is multiplication with a sixty-fourth. -/
theorem div64 (z : EReal) : Ideal.div z (Ideal.ofBits .f32 0x42800000#32) = z * ((1 / 64 : ℝ) : EReal) := by
  rw [ofBits_sixtyfour, Ideal.div_coe (by norm_num)]

/-- The normed queries. -/
theorem v48_apply (t : Fin 8192) (c : Fin 512) : val_main_v48 (F := Ideal) x0 x1 x2 x3 x4 (ix3 0 t c) = queryEntry x0 x1 x2 x3 x4 t c := by
  have e (k : Fin 64) : 64 * (c.val / 64) + k.val < 512 := by omega
  have ec : 64 * (c.val / 64) + c.val % 64 = c.val := by omega
  rw [v48_read, v47_apply, div64, queryEntry, headRow, headOf]
  simp only [v30_apply, ec]

/-- The normed keys. -/
theorem v63_apply (t : Fin 8192) (c : Fin 512) : val_main_v63 (F := Ideal) x0 x1 x2 x3 x5 (ix3 0 t c) = keyEntry x0 x1 x2 x3 x5 t c := by
  have e (k : Fin 64) : 64 * (c.val / 64) + k.val < 512 := by omega
  have ec : 64 * (c.val / 64) + c.val % 64 = c.val := by omega
  rw [v63_read, v62_apply, div64, keyEntry, headRow, headOf]
  simp only [v32_apply, ec]

theorem v33_apply (t : Fin 8192) (c : Fin 512) : val_main_v33 (F := Ideal) x0 x1 x2 x3 (ix3 0 t c) = projEntry x0 x1 x2 x3 t ⟨1024 + c.val, by omega⟩ := by
  rw [← v28_apply]
  pointwise [val_main_v33]

theorem v68_apply (t : Fin 8192) (c : Fin 2304) : val_main_v68 (F := Ideal) x0 x1 x2 x3 (ix3 0 t c) = projEntry x0 x1 x2 x3 t ⟨1536 + c.val, by omega⟩ := by
  rw [← v28_apply]
  pointwise [val_main_v68]

theorem v75_apply (t : Fin 8192) (c : Fin 2048) :
    val_main_v75 (F := Ideal) x0 x1 x2 x3 (ix3 0 t c) = Ideal.logistic (projEntry x0 x1 x2 x3 t ⟨3840 + c.val, by omega⟩) := by
  rw [← v28_apply]
  pointwise [val_main_v75, val_main_v74, val_main_v73, val_main_v72, val_main_v71, val_main_v70, val_main_v69, val_main_cst_10, val_main_cst_11]
  rfl

theorem v65_apply (t : Fin 8192) (c : Fin 512) :
    val_main_v65 (F := Ideal) x0 x1 x2 x3 x4 (ix3 0 t c) = queryEntry x0 x1 x2 x3 x4 t c * Ideal.ofBits .f32 0x3E38AA3B#32 := by
  rw [← v48_apply]
  pointwise [val_main_v65, val_main_v64, val_main_cst_9]

theorem v67_apply (t : Fin 8192) (j : Fin 1536) : val_main_v67 (F := Ideal) x0 x1 x2 x3 x4 x5 (ix3 0 t j) = qkvEntry x0 x1 x2 x3 x4 x5 t j := by
  unfold qkvEntry
  pointwise [val_main_v67, val_main_v66]
  by_cases h : j.val < 512
  · rw [dif_pos h, dif_pos h]
    exact v65_apply x0 x1 x2 x3 x4 t ⟨j.val, h⟩
  · rw [dif_neg h, dif_neg h]
    by_cases h' : j.val - 512 < 512
    · rw [dif_pos h', dif_pos (show j.val < 1024 by omega)]
      exact v63_apply x0 x1 x2 x3 x5 t ⟨j.val - 512, h'⟩
    · rw [dif_neg h', dif_neg (show ¬ j.val < 1024 by omega)]
      exact (v33_apply x0 x1 x2 x3 t ⟨j.val - 512 - 512, by omega⟩).trans (congrArg (projEntry x0 x1 x2 x3 t) (Fin.ext (by show 1024 + (j.val - 512 - 512) = j.val; omega)))

theorem coords {N : ℕ} (i : (⟨3, ![1, 8192, N]⟩ : Shape).Idx) : i = ix3 (0 : Fin 1) (i 1 : Fin 8192) (i 2 : Fin N) := by
  funext a
  match a with
  | ⟨0, _⟩ => exact Subsingleton.elim (α := Fin 1) _ _
  | ⟨1, _⟩ => rfl
  | ⟨2, _⟩ => rfl

theorem qkv_eq : val_main_v67 (F := Ideal) x0 x1 x2 x3 x4 x5 = qkvResult x0 x1 x2 x3 x4 x5 :=
  funext fun i => (congrArg _ (coords i)).trans (v67_apply x0 x1 x2 x3 x4 x5 (i 1) (i 2))
theorem scan_eq : val_main_v68 (F := Ideal) x0 x1 x2 x3 = scanResult x0 x1 x2 x3 :=
  funext fun i => (congrArg _ (coords i)).trans (v68_apply x0 x1 x2 x3 (i 1) (i 2))
theorem gate_eq : val_main_v75 (F := Ideal) x0 x1 x2 x3 = gateResult x0 x1 x2 x3 :=
  funext fun i => (congrArg _ (coords i)).trans (v75_apply x0 x1 x2 x3 (i 1) (i 2))
theorem key_eq : val_main_v63 (F := Ideal) x0 x1 x2 x3 x5 = keyResult x0 x1 x2 x3 x5 :=
  funext fun i => (congrArg _ (coords i)).trans (v63_apply x0 x1 x2 x3 x5 (i 1) (i 2))
theorem val_eq : val_main_v33 (F := Ideal) x0 x1 x2 x3 = valResult x0 x1 x2 x3 :=
  funext fun i => (congrArg _ (coords i)).trans (v33_apply x0 x1 x2 x3 (i 1) (i 2))

end Cert.ProjRef

end
-- ==== Proof.ModSpec.lean ====
/- The modulation of one conditioning row, and the rows themselves. -/
module

public import proofs.«01_k».proof.Proof.Gen.Kernel4Ideal.Value
public import proofs.«01_k».proof.Proof.Softmax
public import proofs.«01_k».proof.Proof.PostRows
public import Idealize.ShloMosaic.Lib.Pipeline.ValueKit.Geometry

@[expose] public section

set_option maxRecDepth 16384

noncomputable section

namespace Cert.Mod

open Idealize.ShloMosaic Cert.Kernel4Ideal Cert.Kernel4Ideal.Gen
open Cert.Post (ofBits_zero ofBits_one)

/-- The gated activation `z / (1 + exp (-z))`. -/
def silu (z : EReal) : EReal := z * Ideal.logistic z

/-- The sixteen conditioning rows: the prompt's, the samples' eight, and seven of zeros. -/
def rows (x0 : FVec Ideal S8x1024 .f32) (x1 : FVec Ideal S1024 .f32) : FVec Ideal S16x1024 .f32 :=
  concatenate S16x1024 0 [⟨S1x1024, broadcastInDim S1x1024 ![1] bcast_S1024_S1x1024_1 x1⟩, ⟨S8x1024, x0⟩,
    ⟨S7x1024, broadcastInDim S7x1024 ![] bcast_S_S7x1024 (constant S_ .f32 0x00000000#32)⟩] concatenates_S1x1024_S8x1024_S7x1024_S16x1024_d0

/-- The modulation of row `r` at column `j`. -/
def modEntry (x0 : FVec Ideal S8x1024 .f32) (x1 : FVec Ideal S1024 .f32) (x2 : FVec Ideal S1x1024x6144 .f32) (x3 : FVec Ideal S1x6144 .f32) (r : Fin 16) (j : Fin 6144) : EReal :=
  ∑ k : Fin 1024, silu (rows x0 x1 (ix2 r k)) * x2 (ix3 0 k j) + x3 (ix2 0 j)

/-- The modulation of all rows. -/
def modResult (x0 : FVec Ideal S8x1024 .f32) (x1 : FVec Ideal S1024 .f32) (x2 : FVec Ideal S1x1024x6144 .f32) (x3 : FVec Ideal S1x6144 .f32) : FVec Ideal S16x6144 .f32 :=
  fun i => modEntry x0 x1 x2 x3 (i 0) (i 1)

/-- The rows of real arguments are real. -/
theorem rows_real (x0 : FVec Ideal S8x1024 .f32) (x1 : FVec Ideal S1024 .f32) (h0 : ∀ i, ((x0 i : EReal).toReal : EReal) = x0 i)
    (h1 : ∀ i, ((x1 i : EReal).toReal : EReal) = x1 i) (r : Fin 16) (k : Fin 1024) : ∃ z : ℝ, (rows x0 x1 (ix2 r k) : EReal) = z := by
  have e : ∃ z : ℝ, (0 : EReal) = z := ⟨0, rfl⟩
  have e0 (i) : ∃ z : ℝ, (x0 i : EReal) = z := ⟨_, (h0 i).symm⟩
  have e1 (i) : ∃ z : ℝ, (x1 i : EReal) = z := ⟨_, (h1 i).symm⟩
  pointwise [rows]
  by_cases h : r.val < 1
  · rw [dif_pos h]; exact e1 _
  · rw [dif_neg h]
    by_cases h' : r.val - 1 < 8
    · rw [dif_pos h']; exact e0 _
    · rw [dif_neg h']; exact e

/-- The activation of a real number is real. -/
theorem silu_real (z : ℝ) : ∃ s : ℝ, silu (z : EReal) = s := ⟨_, by rw [silu, Ideal.logistic_coe, ← EReal.coe_mul]⟩

/-- A product split into the high and low parts of its factors, the low parts zero. -/
theorem split_sum (s w : Fin 1024 → EReal) (hs : ∀ k, ∃ z : ℝ, s k = z) (hw : ∀ k, ∃ z : ℝ, w k = z) :
    ∑ k, s k * w k + ∑ k, s k * (w k - w k) + ∑ k, (s k - s k) * w k = ∑ k, s k * w k := by
  have zs (k : Fin 1024) : s k - s k = 0 := by
    obtain ⟨z, e⟩ := hs k
    rw [e, ← EReal.coe_sub, sub_self, EReal.coe_zero]
  have zw (k : Fin 1024) : w k - w k = 0 := by
    obtain ⟨z, e⟩ := hw k
    rw [e, ← EReal.coe_sub, sub_self, EReal.coe_zero]
  simp only [zs, zw, mul_zero, zero_mul, Finset.sum_const_zero, add_zero]

end Cert.Mod

end
-- ==== Proof.ModArray.lean ====
/- What the modulation call leaves: of real conditioning rows and weights, the modulation of every row. -/
module

public import proofs.«01_k».proof.Proof.ModSpec

@[expose] public section

set_option maxRecDepth 16384

noncomputable section

namespace Cert.Mod

open Idealize.ShloMosaic Cert.Kernel4Ideal Cert.Kernel4Ideal.Gen
open Cert.Post (zeros2 ofBits_zero ofBits_one)

variable (m : (ℓ : Loc nD τ sig) → Buf (Elt Ideal) ℓ)

/-- The activations a grid point computes from its block of rows. -/
def act (c : FVec Ideal S16x1024 .f32) : FVec Ideal S16x1024 .f32 :=
  mulf (shapeCast S16x1024 c shapeCasts_S16x1024_S16x1024)
    (divf (broadcast S16x1024 (Scalar.ofBits .f32 0x3F800000#32)) (addf (broadcast S16x1024 (Scalar.ofBits .f32 0x3F800000#32))
      (exp (subf (broadcast S16x1024 (Scalar.ofBits .f32 0x00000000#32)) (shapeCast S16x1024 c shapeCasts_S16x1024_S16x1024)))))

theorem act_apply (c : FVec Ideal S16x1024 .f32) (r : Fin 16) (k : Fin 1024) : act c (ix2 r k) = silu (c (ix2 r k)) := by
  unfold silu Ideal.logistic
  have e : (-(c (ix2 r k) : EReal)) = Ideal.ofBits .f32 0x00000000#32 - c (ix2 r k) := by rw [ofBits_zero, zero_sub]
  rw [e, ← ofBits_one]
  pointwise [act]

/-- The payload, its activations named. -/
theorem pay_eq (c : FVec Ideal S16x1024 .f32) (w : FVec Ideal S1024x1536 .f32) (b : FVec Ideal S1x1536 .f32) :
    k0_pay1 (F := Ideal) c w b
      = addf (addf (addf (matmul dot_S16x1024_S1024x1536_S16x1536_1_0_0_1_n_n none (truncf .bf16 (act c) bitsLt_bf16_f32) (truncf .bf16 w bitsLt_bf16_f32) (constant S16x1536 .f32 0x00000000#32))
            (matmul dot_S16x1024_S1024x1536_S16x1536_1_0_0_1_n_n none (truncf .bf16 (act c) bitsLt_bf16_f32)
              (truncf .bf16 (subf w (extf .f32 (truncf .bf16 w bitsLt_bf16_f32 : FVec Ideal S1024x1536 .bf16) bitsLt_bf16_f32)) bitsLt_bf16_f32) (constant S16x1536 .f32 0x00000000#32)))
          (matmul dot_S16x1024_S1024x1536_S16x1536_1_0_0_1_n_n none
            (truncf .bf16 (subf (act c) (extf .f32 (truncf .bf16 (act c) bitsLt_bf16_f32 : FVec Ideal S16x1024 .bf16) bitsLt_bf16_f32)) bitsLt_bf16_f32)
            (truncf .bf16 w bitsLt_bf16_f32) (constant S16x1536 .f32 0x00000000#32)))
        (broadcastTo S16x1536 b broadcasts_S1x1536_S16x1536) := by
  have e1 : shapeCast S1024x1536 w shapeCasts_S1024x1536_S1024x1536 = w := shapeCast_self _ _
  have e2 : shapeCast S1x1536 b shapeCasts_S1x1536_S1x1536 = b := shapeCast_self _ _
  unfold k0_pay1
  dsimp only
  rw [e1, e2]
  rfl

theorem pay_apply (c : FVec Ideal S16x1024 .f32) (w : FVec Ideal S1024x1536 .f32) (b : FVec Ideal S1x1536 .f32) (r : Fin 16) (j : Fin 1536) :
    k0_pay1 (F := Ideal) c w b (ix2 r j)
      = ∑ k : Fin 1024, act c (ix2 r k) * w (ix2 k j) + ∑ k : Fin 1024, act c (ix2 r k) * (w (ix2 k j) - w (ix2 k j))
        + ∑ k : Fin 1024, (act c (ix2 r k) - act c (ix2 r k)) * w (ix2 k j) + b (ix2 0 j) := by
  rw [pay_eq]
  generalize act c = s
  pointwise []

/-- One block: of real rows and weights, the activations' product with the weights, and the bias. -/
theorem block_apply (c : FVec Ideal S16x1024 .f32) (w : FVec Ideal S1024x1536 .f32) (b : FVec Ideal S1x1536 .f32) (r : Fin 16) (j : Fin 1536)
    (hc : ∀ k, ∃ z : ℝ, (c (ix2 r k) : EReal) = z) (hw : ∀ k, ∃ z : ℝ, (w (ix2 k j) : EReal) = z) :
    k0_pay1 (F := Ideal) c w b (ix2 r j) = ∑ k : Fin 1024, silu (c (ix2 r k)) * w (ix2 k j) + b (ix2 0 j) := by
  rw [pay_apply]
  refine congrArg (· + _) ?_
  simp only [act_apply]
  refine split_sum (fun k => silu (c (ix2 r k))) (fun k => w (ix2 k j)) (fun k => ?_) hw
  obtain ⟨z, e⟩ := hc k
  show ∃ s : ℝ, silu (c (ix2 r k)) = s
  rw [e]
  exact silu_real z

/-! ## The windows' blocks -/

/-- The weights, their leading axis dropped. -/
def weights (x : FVec Ideal S1x1024x6144 .f32) : FVec Ideal S1024x6144 .f32 := shapeCast S1024x6144 x shapeCasts_S1x1024x6144_S1024x6144

/-- The biases as the call takes them. -/
def biases (x : FVec Ideal S1x6144 .f32) : FVec Ideal S1x6144 .f32 := shapeCast S1x6144 (shapeCast S6144 x shapeCasts_S1x6144_S6144) shapeCasts_S6144_S1x6144

theorem weights_apply (x : FVec Ideal S1x1024x6144 .f32) (k : Fin 1024) (j : Fin 6144) : weights x (ix2 k j) = x (ix3 0 k j) := by
  pointwise [weights]
theorem biases_apply (x : FVec Ideal S1x6144 .f32) (j : Fin 6144) : biases x (ix2 0 j) = x (ix2 0 j) := by
  pointwise [biases]

theorem V_rows (c : Dev nD) : V m c main_v2 = rows (m (c.tc.loc main_arg0)) (m (c.tc.loc main_arg1)) := by
  unfold_abbrev_sides
  after_results
  rfl
theorem V_weights (c : Dev nD) : V m c main_v3 = weights (m (c.tc.loc main_arg2)) := by
  unfold_abbrev_sides
  after_results
  rfl
theorem V_biases (c : Dev nD) : V m c main_v5 = biases (m (c.tc.loc main_arg3)) := by
  unfold_abbrev_sides
  after_results
  rfl

/-- The tile of 1536 columns a grid point works on. -/
def gt (t : Fin cfg0.N) : Fin 4 := grid0.coords t 0

theorem index_0 : ∀ t : Fin cfg0.N, win0_0.index t = ![0, 0] :=
  (by decide +kernel : ∀ t : Fin grid0.N, win0_0.index t = ![0, 0])
theorem index_1 : ∀ t : Fin cfg0.N, win0_1.index t = ![0, (gt t).val] :=
  (by decide +kernel : ∀ t : Fin grid0.N, win0_1.index t = ![0, (gt t).val])
theorem index_2 : ∀ t : Fin cfg0.N, win0_2.index t = ![0, (gt t).val] :=
  (by decide +kernel : ∀ t : Fin grid0.N, win0_2.index t = ![0, (gt t).val])
theorem index_3 : ∀ t : Fin cfg0.N, win0_3.index t = ![0, (gt t).val] :=
  (by decide +kernel : ∀ t : Fin grid0.N, win0_3.index t = ![0, (gt t).val])

theorem covers_3 : (cfg0.win 3).Covers := by decide +kernel

/-- The column of the whole array that column `j` of a grid point's blocks is. -/
def colAt (t : Fin cfg0.N) (j : Fin 1536) : Fin 6144 := ⟨1536 * (gt t).val + j.val, by have := (gt t).isLt; omega⟩

theorem blk_0 (c : Dev nD) (t : Fin cfg0.N) (r : Fin 16) (k : Fin 1024) :
    (iblk m c 0 t : FVec Ideal S16x1024 .f32) (ix2 r k) = rows (m (c.tc.loc main_arg0)) (m (c.tc.loc main_arg1)) (ix2 r k) := by
  blk_simp [iblk]
  refine (congrFun (V_rows m c) _).trans (congrArg (rows _ _) ?_)
  blk_ext [index_0]

theorem blk_1 (c : Dev nD) (t : Fin cfg0.N) (k : Fin 1024) (j : Fin 1536) :
    (iblk m c 1 t : FVec Ideal S1024x1536 .f32) (ix2 k j) = (m (c.tc.loc main_arg2) : FVec Ideal S1x1024x6144 .f32) (ix3 0 k (colAt t j)) := by
  rw [← weights_apply (m (c.tc.loc main_arg2)) k (colAt t j)]
  blk_simp [iblk]
  refine (congrFun (V_weights m c) _).trans (congrArg (weights _) ?_)
  blk_ext [index_1, colAt]

theorem blk_2 (c : Dev nD) (t : Fin cfg0.N) (j : Fin 1536) :
    (iblk m c 2 t : FVec Ideal S1x1536 .f32) (ix2 0 j) = (m (c.tc.loc main_arg3) : FVec Ideal S1x6144 .f32) (ix2 0 (colAt t j)) := by
  rw [← biases_apply (m (c.tc.loc main_arg3)) (colAt t j)]
  blk_simp [iblk]
  refine (congrFun (V_biases m c) _).trans (congrArg (biases _) ?_)
  blk_ext [index_2, colAt]

/-- What a grid point leaves in its block. -/
theorem out_eq (c : Dev nD) (t : Fin cfg0.N) : out0_3 (F := Ideal) (iblk m c 0 t) (iblk m c 1 t) (iblk m c 2 t) = k0_pay1 (F := Ideal) (iblk m c 0 t) (iblk m c 1 t) (iblk m c 2 t) := by
  unfold out0_3
  rw [View.canon_unit_zero zeros2, View.ld_unit_zero (S := S16x1024) zeros2, View.ld_unit_zero (S := S1024x1536) zeros2, View.ld_unit_zero (S := S1x1536) zeros2]

/-- The array after the call. -/
theorem arr_eq (c : Dev nD) (h0 : ∀ i, ((m (c.tc.loc main_arg0) i : EReal).toReal : EReal) = m (c.tc.loc main_arg0) i)
    (h1 : ∀ i, ((m (c.tc.loc main_arg1) i : EReal).toReal : EReal) = m (c.tc.loc main_arg1) i)
    (h2 : ∀ i, ((m (c.tc.loc main_arg2) i : EReal).toReal : EReal) = m (c.tc.loc main_arg2) i) :
    (dats m 0 c).arrAt 3 cfg0.N
      = modResult (m (c.tc.loc main_arg0)) (m (c.tc.loc main_arg1)) (m (c.tc.loc main_arg2)) (m (c.tc.loc main_arg3)) := by
  refine (dats m 0 c).arrAt_eq_of_covers 3 _ covers_3 fun t _ y => ?_
  blk_simp
  rw [after0_3, out_eq]
  obtain ⟨r, j, rfl⟩ : ∃ (r : Fin 16) (j : Fin 1536), y = ix2 r j := by
    refine ⟨y 0, y 1, ?_⟩
    funext a
    match a with
    | ⟨0, _⟩ => rfl
    | ⟨1, _⟩ => rfl
  rw [block_apply _ _ _ r j (fun k => by rw [blk_0]; exact rows_real _ _ h0 h1 r k) (fun k => by rw [blk_1]; exact ⟨_, (h2 _).symm⟩)]
  simp only [blk_0, blk_1, blk_2]
  have e1 : ((win0_3.blk t).view.emb (ix2 r j) 0).val = r.val := by blk_simp [index_3]
  have e2 : ((win0_3.blk t).view.emb (ix2 r j) 1).val = 1536 * (gt t).val + j.val := by blk_simp [index_3]; simp; omega
  show modEntry _ _ _ _ r (colAt t j) = modEntry _ _ _ _ _ _
  congr 1
  · exact Fin.ext e1.symm
  · exact Fin.ext e2.symm

end Cert.Mod

end
-- ==== Proof.ModRef.lean ====
/- What the reference of the modulation computes at one row and column. -/
module

public import proofs.«01_k».proof.Proof.Gen.Reference4Ideal.Read
public import proofs.«01_k».proof.Proof.ModSpec

@[expose] public section

set_option maxRecDepth 16384

noncomputable section

namespace Cert.ModRef

open Idealize.ShloMosaic Cert.Reference4Ideal Cert.Reference4Ideal.Gen Cert.Reference4Ideal.Read Cert.Mod
open Cert.Post (ofBits_one)

variable (x0 : FVec Ideal S8x1024 .f32) (x1 : FVec Ideal S1024 .f32) (x2 : FVec Ideal S1x1024x6144 .f32) (x3 : FVec Ideal S1x6144 .f32)

theorem rows_eq : val_main_v2 (F := Ideal) x0 x1 = rows x0 x1 := rfl

theorem v3_apply (r : Fin 16) (k : Fin 1024) : val_main_v3 (F := Ideal) x0 x1 (ix2 r k) = silu (rows x0 x1 (ix2 r k)) := by
  rw [← rows_eq]
  unfold silu Ideal.logistic
  rw [← ofBits_one]
  pointwise [val_main_v3, val_main_call0_v5, val_main_call0_v4, val_main_call0_v3, val_main_call0_v2, val_main_call0_v1, val_main_call0_v0, val_main_call0_cst, val_main_call0_cst_0]

theorem v9_apply (r : Fin 16) (j : Fin 6144) : val_main_v9 (F := Ideal) x0 x1 x2 x3 (ix2 r j) = modEntry x0 x1 x2 x3 r j := by
  have h : val_main_v9 (F := Ideal) x0 x1 x2 x3 (ix2 r j) = ∑ k : Fin 1024, val_main_v3 (F := Ideal) x0 x1 (ix2 r k) * x2 (ix3 0 k j) + x3 (ix2 0 j) := by
    pointwise [val_main_v9, val_main_v8, val_main_v7, val_main_v6, val_main_v5, val_main_v4]
  rw [h, modEntry]
  simp only [v3_apply]

/-- The reference's result is the modulation of all rows. -/
theorem result_eq : val_main_v9 (F := Ideal) x0 x1 x2 x3 = modResult x0 x1 x2 x3 := by
  funext i
  have e : i = ix2 (i 0 : Fin 16) (i 1 : Fin 6144) := by
    funext a
    match a with
    | ⟨0, _⟩ => rfl
    | ⟨1, _⟩ => rfl
  exact (congrArg _ e).trans (v9_apply x0 x1 x2 x3 (i 0) (i 1))

end Cert.ModRef

end
-- ==== Proof.PostPromptBlock.lean ====
/- What the prompt's merge and feed-forward call leaves in its result block at a grid point: the two halves' results. -/
module

public import proofs.«01_k».proof.Proof.Gen.Kernel5Ideal.Frame
public import proofs.«01_k».proof.Proof.PostBlock

@[expose] public section

set_option maxRecDepth 16384

noncomputable section

namespace Cert.PostPrompt

open Idealize.ShloMosaic Cert.Kernel5Ideal Cert.Kernel5Ideal.Gen
open Cert.Post (halfOf zeros2)

variable (m : (ℓ : Loc nD τ sig) → Buf (Elt Ideal) ℓ)

/-- The result block of grid point `t` is its two halves' results. -/
theorem outs_eq (c : Dev nD) (t : Fin cfg0.N) : outsAt0 m c t
    = View.canon (Val := Elt Ideal) (e := .f32)
      [⟨Rect.unit (s := S1x512x1024) ![0, 256, 0] S1x256x1024.size inb_S1x512x1024_S1x256x1024_0_256_0,
          halfOf (iblk m c 0 t) (iblk m c 1 t) (iblk m c 2 t) (iblk m c 3 t) (X0_4 m c t) (X0_5 m c t) (iblk m c 6 t) (iblk m c 7 t) (iblk m c 8 t) (iblk m c 9 t)
            (iblk m c 10 t) (iblk m c 11 t) (iblk m c 12 t) (iblk m c 13 t) (iblk m c 14 t) (iblk m c 15 t) (iblk m c 16 t) (iblk m c 17 t) 1⟩,
        ⟨Rect.unit (s := S1x512x1024) ![0, 0, 0] S1x256x1024.size inb_S1x512x1024_S1x256x1024_0_0_0,
          halfOf (iblk m c 0 t) (iblk m c 1 t) (iblk m c 2 t) (iblk m c 3 t) (X0_4 m c t) (X0_5 m c t) (iblk m c 6 t) (iblk m c 7 t) (iblk m c 8 t) (iblk m c 9 t)
            (iblk m c 10 t) (iblk m c 11 t) (iblk m c 12 t) (iblk m c 13 t) (iblk m c 14 t) (iblk m c 15 t) (iblk m c 16 t) (iblk m c 17 t) 0⟩] := by
  unfold outsAt0 out0_A_18
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x512) zeros2, View.ld_unit_zero (S := S512x1024) zeros2,
    View.ld_unit_zero (S := S1024x1024) zeros2, View.ld_unit_zero (S := S1x1024) zeros2]
  rfl

end Cert.PostPrompt

end
-- ==== Proof.PostPromptArray.lean ====
/- What the prompt's merge and feed-forward call's result array holds: at every token and channel, the one-token function of
   that token's rows. -/
module

public import proofs.«01_k».proof.Proof.Gen.Kernel5Ideal.Value
public import proofs.«01_k».proof.Proof.PostArray
public import proofs.«01_k».proof.Proof.PostPromptBlock
public import Idealize.ShloMosaic.Lib.Pipeline.ValueKit.Geometry

@[expose] public section

set_option maxRecDepth 16384

noncomputable section

namespace Cert.PostPrompt

open Idealize.ShloMosaic Cert.Kernel5Ideal Cert.Kernel5Ideal.Gen
open Cert.Post (halfOf halfOf_apply postEntry postStream postResult row512 row1024 cast512x1024 cast1024x1024 cast1024x5632 cast2816x1024 mat512x1024 mat1024x1024
  mat1024x5632 mat2816x1024)

variable (m : (ℓ : Loc nD τ sig) → Buf (Elt Ideal) ℓ)

/-! ## What the host's reshapes and casts leave -/

/-- The prompt's tokens in one row. -/
def tokens (x : FVec Ideal S32x256x1024 .f32) : FVec Ideal S1x8192x1024 .f32 := shapeCast S1x8192x1024 x shapeCasts_S32x256x1024_S1x8192x1024

theorem V_x (c : Dev nD) : V m c main_v0 = tokens (m (c.tc.loc main_arg0)) := by
  unfold_abbrev_sides
  after_results
  rfl

theorem V_lnw (c : Dev nD) : V m c main_v14 = shapeCast S1x512 (shapeCast S512 (m (c.tc.loc main_arg8) : FVec Ideal S1x512 .f32) shapeCasts_S1x512_S512) shapeCasts_S512_S1x512 := by
  unfold_abbrev_sides
  after_results
  rfl

theorem V_lnb (c : Dev nD) : V m c main_v15 = shapeCast S1x512 (shapeCast S512 (m (c.tc.loc main_arg9) : FVec Ideal S1x512 .f32) shapeCasts_S1x512_S512) shapeCasts_S512_S1x512 := by
  unfold_abbrev_sides
  after_results
  rfl

theorem V_n2 (c : Dev nD) : V m c main_v16 = shapeCast S1x1024 (shapeCast S1024 (m (c.tc.loc main_arg13) : FVec Ideal S1x1024 .f32) shapeCasts_S1x1024_S1024) shapeCasts_S1024_S1x1024 := by
  unfold_abbrev_sides
  after_results
  rfl

theorem V_wa (c : Dev nD) : V m c main_v4 = cast512x1024 (m (c.tc.loc main_arg10)) := by
  unfold_abbrev_sides
  after_results
  rfl

theorem V_wr (c : Dev nD) : V m c main_v6 = cast512x1024 (m (c.tc.loc main_arg11)) := by
  unfold_abbrev_sides
  after_results
  rfl

theorem V_wo (c : Dev nD) : V m c main_v8 = cast1024x1024 (m (c.tc.loc main_arg12)) := by
  unfold_abbrev_sides
  after_results
  rfl

theorem V_wi (c : Dev nD) : V m c main_v11 = cast1024x5632 (m (c.tc.loc main_arg14)) := by
  unfold_abbrev_sides
  after_results
  rfl

theorem V_wd (c : Dev nD) : V m c main_v13 = cast2816x1024 (m (c.tc.loc main_arg15)) := by
  unfold_abbrev_sides
  after_results
  rfl

/-! ## The windows' blocks -/

/-- The batch a grid point works on. -/
def gb (t : Fin cfg0.N) : Fin 1 := grid0.coords t 0
/-- The tile of 512 tokens a grid point works on. -/
def gt (t : Fin cfg0.N) : Fin 16 := grid0.coords t 1

theorem index_0 : ∀ t : Fin cfg0.N, win0_0.index t = ![(gb t).val, (gt t).val, 0] :=
  (by decide +kernel : ∀ t : Fin grid0.N, win0_0.index t = ![(gb t).val, (gt t).val, 0])
theorem index_1 : ∀ t : Fin cfg0.N, win0_1.index t = ![(gb t).val, (gt t).val, 0] :=
  (by decide +kernel : ∀ t : Fin grid0.N, win0_1.index t = ![(gb t).val, (gt t).val, 0])
theorem index_2 : ∀ t : Fin cfg0.N, win0_2.index t = ![(gb t).val, (gt t).val, 0] :=
  (by decide +kernel : ∀ t : Fin grid0.N, win0_2.index t = ![(gb t).val, (gt t).val, 0])
theorem index_3 : ∀ t : Fin cfg0.N, win0_3.index t = ![(gb t).val, (gt t).val, 0] :=
  (by decide +kernel : ∀ t : Fin grid0.N, win0_3.index t = ![(gb t).val, (gt t).val, 0])
theorem index_4 : ∀ t : Fin cfg0.N, win0_4.index t = ![(gb t).val, (gt t).val, 2] :=
  (by decide +kernel : ∀ t : Fin grid0.N, win0_4.index t = ![(gb t).val, (gt t).val, 2])
theorem index_5 : ∀ t : Fin cfg0.N, win0_5.index t = ![(gb t).val, (gt t).val, 3] :=
  (by decide +kernel : ∀ t : Fin grid0.N, win0_5.index t = ![(gb t).val, (gt t).val, 3])
theorem index_6 : ∀ t : Fin cfg0.N, win0_6.index t = ![(gb t).val, (gt t).val, 0] :=
  (by decide +kernel : ∀ t : Fin grid0.N, win0_6.index t = ![(gb t).val, (gt t).val, 0])
theorem index_7 : ∀ t : Fin cfg0.N, win0_7.index t = ![(gb t).val, (gt t).val, 0] :=
  (by decide +kernel : ∀ t : Fin grid0.N, win0_7.index t = ![(gb t).val, (gt t).val, 0])
theorem index_8 : ∀ t : Fin cfg0.N, win0_8.index t = ![(gb t).val, (gt t).val, 1] :=
  (by decide +kernel : ∀ t : Fin grid0.N, win0_8.index t = ![(gb t).val, (gt t).val, 1])
theorem index_9 : ∀ t : Fin cfg0.N, win0_9.index t = ![(gb t).val, 0, 0] :=
  (by decide +kernel : ∀ t : Fin grid0.N, win0_9.index t = ![(gb t).val, 0, 0])
theorem index_10 : ∀ t : Fin cfg0.N, win0_10.index t = ![0, 0] :=
  (by decide +kernel : ∀ t : Fin grid0.N, win0_10.index t = ![0, 0])
theorem index_11 : ∀ t : Fin cfg0.N, win0_11.index t = ![0, 0] :=
  (by decide +kernel : ∀ t : Fin grid0.N, win0_11.index t = ![0, 0])
theorem index_12 : ∀ t : Fin cfg0.N, win0_12.index t = ![0, 0] :=
  (by decide +kernel : ∀ t : Fin grid0.N, win0_12.index t = ![0, 0])
theorem index_13 : ∀ t : Fin cfg0.N, win0_13.index t = ![0, 0] :=
  (by decide +kernel : ∀ t : Fin grid0.N, win0_13.index t = ![0, 0])
theorem index_14 : ∀ t : Fin cfg0.N, win0_14.index t = ![0, 0] :=
  (by decide +kernel : ∀ t : Fin grid0.N, win0_14.index t = ![0, 0])
theorem index_15 : ∀ t : Fin cfg0.N, win0_15.index t = ![0, 0] :=
  (by decide +kernel : ∀ t : Fin grid0.N, win0_15.index t = ![0, 0])
theorem index_16 : ∀ t : Fin cfg0.N, win0_16.index t = ![0, 0] :=
  (by decide +kernel : ∀ t : Fin grid0.N, win0_16.index t = ![0, 0])
theorem index_17 : ∀ t : Fin cfg0.N, win0_17.index t = ![0, 0] :=
  (by decide +kernel : ∀ t : Fin grid0.N, win0_17.index t = ![0, 0])
theorem index_18 : ∀ t : Fin cfg0.N, win0_18.index t = ![(gb t).val, (gt t).val, 0] :=
  (by decide +kernel : ∀ t : Fin grid0.N, win0_18.index t = ![(gb t).val, (gt t).val, 0])

theorem covers_18 : (cfg0.win 18).Covers := by decide +kernel

/-- The token of the whole array that row `i` of a grid point's blocks is. -/
def tok (t : Fin cfg0.N) (i : Fin 512) : Fin 8192 := ⟨512 * (gt t).val + i.val, by have := (gt t).isLt; omega⟩

theorem blk_0 (c : Dev nD) (t : Fin cfg0.N) (i : Fin 512) (k : Fin 1024) :
    (iblk m c 0 t : FVec Ideal S1x512x1024 .f32) (ix3 0 i k) = tokens (m (c.tc.loc main_arg0)) (ix3 (gb t) (tok t i) k) := by
  blk_simp [iblk]
  refine (congrFun (V_x m c) _).trans (congrArg (tokens _) ?_)
  blk_ext [index_0, tok]

theorem blk_1 (c : Dev nD) (t : Fin cfg0.N) (i : Fin 512) (k : Fin 512) :
    (iblk m c 1 t : FVec Ideal S1x512x512 .f32) (ix3 0 i k) = (m (c.tc.loc main_arg2) : FVec Ideal S1x8192x512 .f32) (ix3 (gb t) (tok t i) k) := by
  blk_simp [iblk]
  refine (congrFun (V_main_arg2 m c) _).trans (congrArg (m (c.tc.loc main_arg2)) ?_)
  blk_ext [index_1, tok]

theorem blk_2 (c : Dev nD) (t : Fin cfg0.N) (i : Fin 512) (k : Fin 512) :
    (iblk m c 2 t : FVec Ideal S1x512x512 .f32) (ix3 0 i k) = (m (c.tc.loc main_arg3) : FVec Ideal S1x8192x512 .f32) (ix3 (gb t) (tok t i) k) := by
  blk_simp [iblk]
  refine (congrFun (V_main_arg3 m c) _).trans (congrArg (m (c.tc.loc main_arg3)) ?_)
  blk_ext [index_2, tok]

theorem blk_3 (c : Dev nD) (t : Fin cfg0.N) (i : Fin 512) (k : Fin 512) :
    (iblk m c 3 t : FVec Ideal S1x512x512 .f32) (ix3 0 i k) = (m (c.tc.loc main_arg4) : FVec Ideal S1x8192x512 .f32) (ix3 (gb t) (tok t i) k) := by
  blk_simp [iblk]
  refine (congrFun (V_main_arg4 m c) _).trans (congrArg (m (c.tc.loc main_arg4)) ?_)
  blk_ext [index_3, tok]

theorem blk_6 (c : Dev nD) (t : Fin cfg0.N) (i : Fin 512) (k : Fin 512) :
    (iblk m c 6 t : FVec Ideal S1x512x512 .bf16) (ix3 0 i k) = (m (c.tc.loc main_arg6) : FVec Ideal S1x8192x512 .bf16) (ix3 (gb t) (tok t i) k) := by
  blk_simp [iblk]
  refine (congrFun (V_main_arg6 m c) _).trans (congrArg (m (c.tc.loc main_arg6)) ?_)
  blk_ext [index_6, tok]

theorem blk_7 (c : Dev nD) (t : Fin cfg0.N) (i : Fin 512) (k : Fin 1024) :
    (iblk m c 7 t : FVec Ideal S1x512x1024 .f32) (ix3 0 i k) = (m (c.tc.loc main_arg7) : FVec Ideal S1x8192x2048 .f32) (ix3 (gb t) (tok t i) ⟨k.val, by omega⟩) := by
  blk_simp [iblk]
  refine (congrFun (V_main_arg7 m c) _).trans (congrArg (m (c.tc.loc main_arg7)) ?_)
  blk_ext [index_7, tok]

theorem blk_8 (c : Dev nD) (t : Fin cfg0.N) (i : Fin 512) (k : Fin 1024) :
    (iblk m c 8 t : FVec Ideal S1x512x1024 .f32) (ix3 0 i k) = (m (c.tc.loc main_arg7) : FVec Ideal S1x8192x2048 .f32) (ix3 (gb t) (tok t i) ⟨1024 + k.val, by omega⟩) := by
  blk_simp [iblk]
  refine (congrFun (V_main_arg7 m c) _).trans (congrArg (m (c.tc.loc main_arg7)) ?_)
  blk_ext [index_8, tok]

theorem blk_4 (c : Dev nD) (t : Fin cfg0.N) (i : Fin 512) (k : Fin 512) :
    (X0_4 m c t : FVec Ideal S1x512x512 .f32) (ix3 0 i k) = (m (c.tc.loc main_arg5) : FVec Ideal S1x8192x2304 .f32) (ix3 (gb t) (tok t i) ⟨1024 + k.val, by omega⟩) := by
  unfold X0_4 Pipeline.Window.fill
  rw [dif_pos (moved0_4 t (ix3 0 i k))]
  blk_simp [iblk]
  refine (congrFun (V_main_arg5 m c) _).trans (congrArg (m (c.tc.loc main_arg5)) ?_)
  blk_ext [index_4, tok]

theorem blk_5 (c : Dev nD) (t : Fin cfg0.N) (i : Fin 512) (k : Fin 512) :
    (X0_5 m c t : FVec Ideal S1x512x512 .f32) (ix3 0 i k) = (m (c.tc.loc main_arg5) : FVec Ideal S1x8192x2304 .f32) (ix3 (gb t) (tok t i) ⟨1536 + k.val, by omega⟩) := by
  unfold X0_5 Pipeline.Window.fill
  rw [dif_pos (moved0_5 t (ix3 0 i k))]
  blk_simp [iblk]
  refine (congrFun (V_main_arg5 m c) _).trans (congrArg (m (c.tc.loc main_arg5)) ?_)
  blk_ext [index_5, tok]

theorem blk_9 (c : Dev nD) (t : Fin cfg0.N) (k : Fin 6144) :
    (iblk m c 9 t : FVec Ideal S1x1x6144 .f32) (ix3 0 0 k) = (m (c.tc.loc main_arg1) : FVec Ideal S1x1x6144 .f32) (ix3 (gb t) 0 k) := by
  blk_simp [iblk]
  refine (congrFun (V_main_arg1 m c) _).trans (congrArg (m (c.tc.loc main_arg1)) ?_)
  blk_ext [index_9]

theorem blk_10 (c : Dev nD) (t : Fin cfg0.N) (k : Fin 512) :
    (iblk m c 10 t : FVec Ideal S1x512 .f32) (ix2 0 k) = (m (c.tc.loc main_arg8) : FVec Ideal S1x512 .f32) (ix2 0 k) := by
  rw [← row512 (m (c.tc.loc main_arg8)) k]
  blk_simp [iblk]
  refine (congrFun (V_lnw m c) _).trans (congrArg (shapeCast S1x512 _ _) ?_)
  blk_ext [index_10]

theorem blk_11 (c : Dev nD) (t : Fin cfg0.N) (k : Fin 512) :
    (iblk m c 11 t : FVec Ideal S1x512 .f32) (ix2 0 k) = (m (c.tc.loc main_arg9) : FVec Ideal S1x512 .f32) (ix2 0 k) := by
  rw [← row512 (m (c.tc.loc main_arg9)) k]
  blk_simp [iblk]
  refine (congrFun (V_lnb m c) _).trans (congrArg (shapeCast S1x512 _ _) ?_)
  blk_ext [index_11]

theorem blk_15 (c : Dev nD) (t : Fin cfg0.N) (k : Fin 1024) :
    (iblk m c 15 t : FVec Ideal S1x1024 .f32) (ix2 0 k) = (m (c.tc.loc main_arg13) : FVec Ideal S1x1024 .f32) (ix2 0 k) := by
  rw [← row1024 (m (c.tc.loc main_arg13)) k]
  blk_simp [iblk]
  refine (congrFun (V_n2 m c) _).trans (congrArg (shapeCast S1x1024 _ _) ?_)
  blk_ext [index_15]

theorem blk_12 (c : Dev nD) (t : Fin cfg0.N) (j : Fin 512) (k : Fin 1024) :
    (iblk m c 12 t : FVec Ideal S512x1024 .bf16) (ix2 j k) = (m (c.tc.loc main_arg10) : FVec Ideal S1x512x1024 .f32) (ix3 0 j k) := by
  rw [← mat512x1024 (m (c.tc.loc main_arg10)) j k]
  blk_simp [iblk]
  refine (congrFun (V_wa m c) _).trans (congrArg (cast512x1024 _) ?_)
  blk_ext [index_12]

theorem blk_13 (c : Dev nD) (t : Fin cfg0.N) (j : Fin 512) (k : Fin 1024) :
    (iblk m c 13 t : FVec Ideal S512x1024 .bf16) (ix2 j k) = (m (c.tc.loc main_arg11) : FVec Ideal S1x512x1024 .f32) (ix3 0 j k) := by
  rw [← mat512x1024 (m (c.tc.loc main_arg11)) j k]
  blk_simp [iblk]
  refine (congrFun (V_wr m c) _).trans (congrArg (cast512x1024 _) ?_)
  blk_ext [index_13]

theorem blk_14 (c : Dev nD) (t : Fin cfg0.N) (j : Fin 1024) (k : Fin 1024) :
    (iblk m c 14 t : FVec Ideal S1024x1024 .bf16) (ix2 j k) = (m (c.tc.loc main_arg12) : FVec Ideal S1x1024x1024 .f32) (ix3 0 j k) := by
  rw [← mat1024x1024 (m (c.tc.loc main_arg12)) j k]
  blk_simp [iblk]
  refine (congrFun (V_wo m c) _).trans (congrArg (cast1024x1024 _) ?_)
  blk_ext [index_14]

theorem blk_16 (c : Dev nD) (t : Fin cfg0.N) (j : Fin 1024) (k : Fin 5632) :
    (iblk m c 16 t : FVec Ideal S1024x5632 .bf16) (ix2 j k) = (m (c.tc.loc main_arg14) : FVec Ideal S1x1024x5632 .f32) (ix3 0 j k) := by
  rw [← mat1024x5632 (m (c.tc.loc main_arg14)) j k]
  blk_simp [iblk]
  refine (congrFun (V_wi m c) _).trans (congrArg (cast1024x5632 _) ?_)
  blk_ext [index_16]

theorem blk_17 (c : Dev nD) (t : Fin cfg0.N) (j : Fin 2816) (k : Fin 1024) :
    (iblk m c 17 t : FVec Ideal S2816x1024 .bf16) (ix2 j k) = (m (c.tc.loc main_arg15) : FVec Ideal S1x2816x1024 .f32) (ix3 0 j k) := by
  rw [← mat2816x1024 (m (c.tc.loc main_arg15)) j k]
  blk_simp [iblk]
  refine (congrFun (V_wd m c) _).trans (congrArg (cast2816x1024 _) ?_)
  blk_ext [index_17]

/-- What half `i` of a grid point's block holds at row `r`. -/
theorem half_eq (c : Dev nD) (t : Fin cfg0.N) (i : Fin 2) (r : Fin 256) (k : Fin 1024) (q : Fin 512) (hq : q.val = 256 * i.val + r.val) :
    halfOf (iblk m c 0 t) (iblk m c 1 t) (iblk m c 2 t) (iblk m c 3 t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) i.val (ix3 0 r k)
      = postEntry (tokens (m (c.tc.loc main_arg0))) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) (tok t q) k := by
  rw [halfOf_apply _ _ _ _ _ _ _ _ _ _ _ _ _ _ _ _ _ _ i r k q hq, postEntry, postStream]
  simp only [blk_0, blk_1, blk_2, blk_3, blk_4, blk_5, blk_6, blk_7, blk_8, blk_9, blk_10, blk_11, blk_12, blk_13, blk_14, blk_15, blk_16, blk_17]

/-- The store half `i` makes into the result's block. -/
def piece (c : Dev nD) (t : Fin cfg0.N) : Fin 2 → View.Piece (Elt Ideal) S1x512x1024 .f32
  | 1 => ⟨Rect.unit (s := S1x512x1024) ![0, 256, 0] S1x256x1024.size inb_S1x512x1024_S1x256x1024_0_256_0, halfOf (iblk m c 0 t) (iblk m c 1 t) (iblk m c 2 t) (iblk m c 3 t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 1⟩
  | 0 => ⟨Rect.unit (s := S1x512x1024) ![0, 0, 0] S1x256x1024.size inb_S1x512x1024_S1x256x1024_0_0_0, halfOf (iblk m c 0 t) (iblk m c 1 t) (iblk m c 2 t) (iblk m c 3 t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 0⟩

/-- What the block ends as: the one-token function at each row. -/
def blockAt (c : Dev nD) (t : Fin cfg0.N) : FVec Ideal S1x512x1024 .f32 := fun y =>
  postEntry (tokens (m (c.tc.loc main_arg0))) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) (tok t (y 1)) (y 2)

/-- Each half's store holds its rows' results. -/
theorem piece_holds (c : Dev nD) (t : Fin cfg0.N) : ∀ (i : Fin 2) (x : (piece m c t i).1.shape.Idx), (piece m c t i).2 x = blockAt m c t ((piece m c t i).1.emb x) := by
  have hx (x : S1x256x1024.Idx) : x = ix3 0 (x 1) (x 2) := by
    funext a
    match a with
    | ⟨0, _⟩ => exact Subsingleton.elim (α := Fin 1) _ _
    | ⟨1, _⟩ => rfl
    | ⟨2, _⟩ => rfl
  intro i
  match i with
  | 1 =>
    intro x
    refine ((congrArg _ (hx x)).trans (half_eq m c t 1 (x 1) (x 2) ((piece m c t 1).1.emb x 1) ?_)).trans (congrArg (postEntry (tokens (m (c.tc.loc main_arg0))) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) _) ?_)
    · show 256 + 1 * (x 1).val = 256 * 1 + (x 1).val; omega
    · apply Fin.ext; show (x 2).val = 0 + 1 * (x 2).val; omega
  | 0 =>
    intro x
    refine ((congrArg _ (hx x)).trans (half_eq m c t 0 (x 1) (x 2) ((piece m c t 0).1.emb x 1) ?_)).trans (congrArg (postEntry (tokens (m (c.tc.loc main_arg0))) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) _) ?_)
    · show 0 + 1 * (x 1).val = 256 * 0 + (x 1).val; omega
    · apply Fin.ext; show (x 2).val = 0 + 1 * (x 2).val; omega

/-- What a grid point leaves in its block, at every row. -/
theorem block_eq (c : Dev nD) (t : Fin cfg0.N) (q : Fin 512) (k : Fin 1024) :
    (outsAt0 m c t : FVec Ideal S1x512x1024 .f32) (ix3 0 q k)
      = postEntry (tokens (m (c.tc.loc main_arg0))) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (gb t) (tok t q) k := by
  rw [outs_eq]
  refine (View.canon_apply_of_pieces (blockAt m c t) [piece m c t 1, piece m c t 0] (fun p hp x => ?_) (ix3 0 q k) ?_).trans rfl
  · obtain ⟨i, hi⟩ : ∃ i : Fin 2, p = piece m c t i := by
      rcases List.mem_cons.mp hp with h | h
      · exact ⟨1, h⟩
      · exact ⟨0, List.mem_singleton.mp h⟩
    subst hi
    exact piece_holds m c t i x
  · by_cases h : q.val < 256
    · refine ⟨piece m c t 0, by simp [piece], (Rect.mem_set_unit (inb := inb_S1x512x1024_S1x256x1024_0_0_0)).mpr fun a => ?_⟩
      match a with
      | ⟨0, _⟩ => exact ⟨Nat.zero_le _, Nat.zero_lt_one⟩
      | ⟨1, _⟩ => exact ⟨Nat.zero_le _, show q.val < 0 + 256 by omega⟩
      | ⟨2, _⟩ => exact ⟨Nat.zero_le _, show k.val < 0 + 1024 by omega⟩
    · refine ⟨piece m c t 1, by simp [piece], (Rect.mem_set_unit (inb := inb_S1x512x1024_S1x256x1024_0_256_0)).mpr fun a => ?_⟩
      match a with
      | ⟨0, _⟩ => exact ⟨Nat.zero_le _, Nat.zero_lt_one⟩
      | ⟨1, _⟩ => exact ⟨show 256 ≤ q.val by omega, show q.val < 256 + 256 by omega⟩
      | ⟨2, _⟩ => exact ⟨Nat.zero_le _, show k.val < 0 + 1024 by omega⟩

/-- The result array after the run, at every entry. -/
theorem arr_eq (c : Dev nD) : (dats m 0 c).arrAt 18 cfg0.N
    = postResult (tokens (m (c.tc.loc main_arg0))) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) := by
  refine (dats m 0 c).arrAt_eq_of_covers 18 _ covers_18 fun t _ y => ?_
  blk_simp
  rw [after0_18]
  obtain ⟨i, e, rfl⟩ : ∃ (i : Fin 512) (e : Fin 1024), y = ix3 0 i e := by
    refine ⟨y 1, y 2, ?_⟩
    funext a
    match a with
    | ⟨0, _⟩ => exact Subsingleton.elim (α := Fin 1) _ _
    | ⟨1, _⟩ => rfl
    | ⟨2, _⟩ => rfl
  rw [block_eq m c t i e]
  have e0 : ((win0_18.blk t).view.emb (ix3 0 i e) 0).val = (gb t).val := by blk_simp [index_18]; simp
  have e1 : ((win0_18.blk t).view.emb (ix3 0 i e) 1).val = 512 * (gt t).val + i.val := by blk_simp [index_18]; simp; omega
  have e2 : ((win0_18.blk t).view.emb (ix3 0 i e) 2).val = e.val := by blk_simp [index_18]
  unfold postResult
  congr 1
  · exact Fin.ext e0.symm
  · exact Fin.ext e1.symm
  · exact Fin.ext e2.symm

end Cert.PostPrompt

end
-- ==== Proof.PostPromptRef.lean ====
/- What the reference of the prompt's merge and feed-forward computes, stage by stage, at one token. -/
module

public import proofs.«01_k».proof.Proof.Gen.Reference5Ideal.Read
public import proofs.«01_k».proof.Proof.PostSpec

@[expose] public section

set_option maxRecDepth 16384

noncomputable section

namespace Cert.PostPromptRef

open Idealize.ShloMosaic Cert.Reference5Ideal Cert.Reference5Ideal.Gen Cert.Reference5Ideal.Read Cert.Post

variable (x0 : FVec Ideal S32x256x1024 .f32) (x1 : FVec Ideal S1x1x6144 .f32) (x2 x3 x4 : FVec Ideal S1x8192x512 .f32) (x5 : FVec Ideal S1x8192x2304 .f32)
  (x6 : FVec Ideal S1x8192x512 .bf16) (x7 : FVec Ideal S1x8192x2048 .f32) (x8 x9 : FVec Ideal S1x512 .f32) (x10 x11 : FVec Ideal S1x512x1024 .f32)
  (x12 : FVec Ideal S1x1024x1024 .f32) (x13 : FVec Ideal S1x1024 .f32) (x14 : FVec Ideal S1x1024x5632 .f32) (x15 : FVec Ideal S1x2816x1024 .f32)

theorem v10_apply (t : Fin 8192) (h : Fin 8) (d : Fin 64) :
    val_main_v10 (F := Ideal) x2 x3 (ix4 0 t h d) = x2 (ix3 0 t ⟨64 * h.val + d.val, by omega⟩) + x3 (ix3 0 t ⟨64 * h.val + d.val, by omega⟩) := by
  pointwise [val_main_v10, val_main_v9]
  have e : (⟨h.val * 64 + d.val, by omega⟩ : Fin 512) = ⟨64 * h.val + d.val, by omega⟩ := Fin.ext (by simp; omega)
  rw [e]

theorem v11_apply (t : Fin 8192) (h : Fin 8) :
    val_main_v11 (F := Ideal) x2 x3 (ix3 0 t h) = ∑ d : Fin 64, val_main_v10 (F := Ideal) x2 x3 (ix4 0 t h d) := by
  pointwise [val_main_v11, val_main_cst]

theorem v16_apply (t : Fin 8192) (h : Fin 8) (d : Fin 64) :
    val_main_v16 (F := Ideal) x2 x3 (ix4 0 t h d) = val_main_v10 (F := Ideal) x2 x3 (ix4 0 t h d) - Ideal.div (val_main_v11 (F := Ideal) x2 x3 (ix3 0 t h)) (Ideal.ofBits .f32 0x42800000#32) := by
  pointwise [val_main_v16, val_main_v15, val_main_v14, val_main_v13, val_main_v12, val_main_cst_0]

theorem v18_apply (t : Fin 8192) (h : Fin 8) :
    val_main_v18 (F := Ideal) x2 x3 (ix3 0 t h) = ∑ d : Fin 64, val_main_v16 (F := Ideal) x2 x3 (ix4 0 t h d) * val_main_v16 (F := Ideal) x2 x3 (ix4 0 t h d) := by
  pointwise [val_main_v18, val_main_v17, val_main_cst_1]

theorem v28_apply (t : Fin 8192) (h : Fin 8) (d : Fin 64) :
    val_main_v28 (F := Ideal) x2 x3 (ix4 0 t h d) = val_main_v16 (F := Ideal) x2 x3 (ix4 0 t h d)
      * Ideal.rsqrt (Ideal.div (val_main_v18 (F := Ideal) x2 x3 (ix3 0 t h)) (Ideal.ofBits .f32 0x42800000#32) + Ideal.ofBits .f32 0x3A27C5AC#32) := by
  show val_main_v16 (F := Ideal) x2 x3 (ix4 0 t h d) * val_main_v27 (F := Ideal) x2 x3 (ix4 0 t h d) = _
  pointwise [val_main_v27, val_main_v26, val_main_v25, val_main_v24, val_main_v21, val_main_v20, val_main_v19, val_main_cst_2, val_main_cst_3]

theorem v29_apply (t : Fin 8192) (c : Fin 512) :
    val_main_v29 (F := Ideal) x2 x3 (ix3 0 t c) = val_main_v28 (F := Ideal) x2 x3 (ix4 0 t ⟨c.val / 64, by omega⟩ ⟨c.val % 64, by omega⟩) := by
  pointwise [val_main_v29]

theorem v46_apply (t : Fin 8192) (c : Fin 512) :
    val_main_v46 (F := Ideal) x2 x3 x4 x5 x8 x9 (ix3 0 t c) = (val_main_v29 (F := Ideal) x2 x3 (ix3 0 t c) * x8 (ix2 0 c) + x9 (ix2 0 c)
      + x4 (ix3 0 t c) * x5 (ix3 0 t ⟨1024 + c.val, by omega⟩)) * Ideal.logistic (x5 (ix3 0 t ⟨1536 + c.val, by omega⟩)) := by
  pointwise [val_main_v46, val_main_v45, val_main_v44, val_main_v43, val_main_v42, val_main_v41, val_main_v40, val_main_v39, val_main_v38, val_main_v37, val_main_v36, val_main_v35,
    val_main_v34, val_main_v33, val_main_v32, val_main_v31, val_main_v30, val_main_v8, val_main_v7, val_main_cst_4, val_main_cst_5]
  rfl

theorem v56_apply (t : Fin 8192) (c : Fin 1024) :
    val_main_v56 (F := Ideal) x2 x3 x4 x5 x6 x7 x8 x9 x10 x11 (ix3 0 t c)
      = mergeRow (fun k => x7 (ix3 0 t ⟨k.val, by omega⟩)) (fun k => x7 (ix3 0 t ⟨1024 + k.val, by omega⟩)) (fun k => x6 (ix3 0 t k))
          (fun k => val_main_v46 (F := Ideal) x2 x3 x4 x5 x8 x9 (ix3 0 t k)) (fun j k => x10 (ix3 0 j k)) (fun j k => x11 (ix3 0 j k)) c := by
  pointwise [val_main_v56, val_main_v55, val_main_v54, val_main_v53, val_main_v52, val_main_v51, val_main_v50, val_main_v49, val_main_v48, val_main_v47, mergeRow]

theorem v61_apply (t : Fin 8192) (c : Fin 1024) :
    val_main_v61 (F := Ideal) x0 x1 x2 x3 x4 x5 x6 x7 x8 x9 x10 x11 x12 (ix3 0 t c)
      = residRow (fun k => val_main_v0 (F := Ideal) x0 (ix3 0 t k)) (fun k => x1 (ix3 0 0 ⟨2048 + k.val, by omega⟩))
          (fun k => val_main_v56 (F := Ideal) x2 x3 x4 x5 x6 x7 x8 x9 x10 x11 (ix3 0 t k)) (fun j k => x12 (ix3 0 j k)) c := by
  pointwise [val_main_v61, val_main_v60, val_main_v59, val_main_v58, val_main_v57, val_main_v3, residRow]

theorem v81_apply (t : Fin 8192) (c : Fin 1024) :
    val_main_v81 (F := Ideal) x0 x1 x2 x3 x4 x5 x6 x7 x8 x9 x10 x11 x12 x13 (ix3 0 t c)
      = normRow (fun k => val_main_v61 (F := Ideal) x0 x1 x2 x3 x4 x5 x6 x7 x8 x9 x10 x11 x12 (ix3 0 t k)) (fun k => x13 (ix2 0 k))
          (fun k => x1 (ix3 0 0 ⟨4096 + k.val, by omega⟩)) (fun k => x1 (ix3 0 0 ⟨3072 + k.val, by omega⟩)) c := by
  unfold normRow
  rw [← ofBits_one]
  pointwise [val_main_v81, val_main_v80, val_main_v79, val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v5, val_main_v4, val_main_cst_6, val_main_cst_7, val_main_cst_8, val_main_cst_9]

theorem v83_apply (t : Fin 8192) (j : Fin 5632) :
    val_main_v83 (F := Ideal) x0 x1 x2 x3 x4 x5 x6 x7 x8 x9 x10 x11 x12 x13 x14 (ix3 0 t j)
      = ∑ i : Fin 1024, val_main_v81 (F := Ideal) x0 x1 x2 x3 x4 x5 x6 x7 x8 x9 x10 x11 x12 x13 (ix3 0 t i) * x14 (ix3 0 i j) := by
  pointwise [val_main_v83, val_main_v82]

theorem v87_apply (t : Fin 8192) (j : Fin 2816) :
    val_main_v87 (F := Ideal) x0 x1 x2 x3 x4 x5 x6 x7 x8 x9 x10 x11 x12 x13 x14 (ix3 0 t j)
      = actRow (fun k => val_main_v81 (F := Ideal) x0 x1 x2 x3 x4 x5 x6 x7 x8 x9 x10 x11 x12 x13 (ix3 0 t k)) (fun i k => x14 (ix3 0 i k)) j := by
  unfold actRow
  rw [← v83_apply, ← v83_apply]
  pointwise [val_main_v87, val_main_v86, val_main_v85, val_main_v84, val_main_call0_v5, val_main_call0_v4, val_main_call0_v3, val_main_call0_v2, val_main_call0_v1, val_main_call0_v0, val_main_call0_cst, val_main_call0_cst_0]
  rfl

theorem v92_apply (t : Fin 8192) (c : Fin 1024) :
    val_main_v92 (F := Ideal) x0 x1 x2 x3 x4 x5 x6 x7 x8 x9 x10 x11 x12 x13 x14 x15 (ix3 0 t c)
      = val_main_v61 (F := Ideal) x0 x1 x2 x3 x4 x5 x6 x7 x8 x9 x10 x11 x12 (ix3 0 t c)
        + x1 (ix3 0 0 ⟨5120 + c.val, by omega⟩) * ∑ j : Fin 2816, val_main_v87 (F := Ideal) x0 x1 x2 x3 x4 x5 x6 x7 x8 x9 x10 x11 x12 x13 x14 (ix3 0 t j) * x15 (ix3 0 j c) := by
  pointwise [val_main_v92, val_main_v91, val_main_v90, val_main_v89, val_main_v88, val_main_v6]

/-- The scans' norm in each head. -/
theorem scans_apply (t : Fin 8192) (c : Fin 512) :
    val_main_v29 (F := Ideal) x2 x3 (ix3 0 t c) = unitHead (lessMean fun k => x2 (ix3 0 t k) + x3 (ix3 0 t k)) c := by
  have h64 (z : EReal) : Ideal.div z (Ideal.ofBits .f32 0x42800000#32) = z * ((1 / 64 : ℝ) : EReal) := by
    rw [ofBits_sixtyfour, Ideal.div_coe (by norm_num)]
  have h15 (h : Fin 8) (d : Fin 64) : val_main_v16 (F := Ideal) x2 x3 (ix4 0 t h d)
      = lessMean (fun k => x2 (ix3 0 t k) + x3 (ix3 0 t k)) ⟨64 * h.val + d.val, by omega⟩ := by
    have e : (64 * h.val + d.val) / 64 = h.val := by omega
    rw [v16_apply, h64, v11_apply, lessMean, headOf]
    simp only [v10_apply, e]
  have e (k : Fin 64) : 64 * (c.val / 64) + k.val < 512 := by omega
  have ec : (⟨64 * (c.val / 64) + c.val % 64, by omega⟩ : Fin 512) = c := Fin.ext (by simp; omega)
  rw [v29_apply, v28_apply, h64, v18_apply, unitHead, headOf]
  simp only [h15, ec]

/-- What the reference computes, at every entry. -/
theorem result_eq : val_main_v92 (F := Ideal) x0 x1 x2 x3 x4 x5 x6 x7 x8 x9 x10 x11 x12 x13 x14 x15
    = postResult (val_main_v0 (F := Ideal) x0) x1 x2 x3 x4 x5 x6 x7 x8 x9 x10 x11 x12 x13 x14 x15 := by
  funext i
  obtain ⟨t, c, rfl⟩ : ∃ (t : Fin 8192) (c : Fin 1024), i = ix3 0 t c := ⟨i 1, i 2, by
    funext a
    match a with
    | ⟨0, _⟩ => exact Subsingleton.elim (α := Fin 1) _ _
    | ⟨1, _⟩ => rfl
    | ⟨2, _⟩ => rfl⟩
  show _ = postEntry (val_main_v0 (F := Ideal) x0) x1 x2 x3 x4 x5 x6 x7 x8 x9 x10 x11 x12 x13 x14 x15 0 t c
  have h45 : (fun k => val_main_v46 (F := Ideal) x2 x3 x4 x5 x8 x9 (ix3 0 t k)) = scanRow (fun k => x2 (ix3 0 t k)) (fun k => x3 (ix3 0 t k)) (fun k => x4 (ix3 0 t k))
      (fun k => x5 (ix3 0 t ⟨1024 + k.val, by omega⟩)) (fun k => x5 (ix3 0 t ⟨1536 + k.val, by omega⟩)) (fun k => x8 (ix2 0 k)) (fun k => x9 (ix2 0 k)) := by
    funext k
    rw [v46_apply, scans_apply, scanRow]
  have h60 : (fun k => val_main_v61 (F := Ideal) x0 x1 x2 x3 x4 x5 x6 x7 x8 x9 x10 x11 x12 (ix3 0 t k)) = postStream (val_main_v0 (F := Ideal) x0) x1 x2 x3 x4 x5 x6 x7 x8 x9 x10 x11 x12 0 t := by
    funext k
    rw [v61_apply, postStream, tokenStream]
    simp only [v56_apply, h45]
  rw [v92_apply, postEntry, tokenEnd, endRow]
  simp only [v87_apply, v81_apply, h60]
  rw [← h60]

end Cert.PostPromptRef

end
-- ==== Proof.SampBlock.lean ====
/- What one grid point of the sample's projection call computes and stores: the stages are the prompt's, and between a head's norm
   and its store stands the rotation. -/
module

public import proofs.«01_k».proof.Proof.Gen.Kernel6Ideal.Frame
public import proofs.«01_k».proof.Proof.ProjStages

@[expose] public section

set_option maxRecDepth 16384

noncomputable section

namespace Cert.Samp

open Idealize.ShloMosaic Cert.Kernel6Ideal Cert.Kernel6Ideal.Gen
open Cert.Post (zeros2)
open Cert.Proj (hidden cols cols256 weightRow headNorm gate slab slab16 slab256)

variable (m : (ℓ : Loc nD τ sig) → Buf (Elt Ideal) ℓ)

/-- Which channels are in the first half of their run of 32. -/
def lower : IVec S256x512 1 :=
  cmpi .slt (andi (iota .tc S256x512 32 [1] iota_S256x512_d1_w32) (broadcast S256x512 31#32)) (broadcast S256x512 16#32)

/-- Each channel's partner, by two rotations of the lanes. -/
def swapped (y : FVec Ideal S256x512 .f32) : FVec Ideal S256x512 .f32 :=
  select lower (dynamicRotate 1 496#32 none y rotates_S256x512_d1) (dynamicRotate 1 16#32 none y rotates_S256x512_d1)

/-- A table's 128 columns four times over. -/
def fourfold (z : FVec Ideal S256x128 .f32) : FVec Ideal S256x512 .f32 :=
  concatenate S256x512 1 [⟨S256x128, z⟩, ⟨S256x128, z⟩, ⟨S256x128, z⟩, ⟨S256x128, z⟩] concatenates_S256x128_S256x128_S256x128_S256x128_S256x512_d1

/-- The channels turned by their angles. -/
def turned (y : FVec Ideal S256x512 .f32) (cs sn : FVec Ideal S256x128 .f32) : FVec Ideal S256x512 .f32 :=
  addf (mulf y (fourfold cs)) (mulf (swapped y) (fourfold sn))

/-- Half `i`'s rows of a table. -/
def table (x : FVec Ideal S512x128 .f32) : ℕ → FVec Ideal S256x128 .f32
  | 0 => View.ld (Val := Elt Ideal) (e' := .f32) x (Rect.unit (s := S512x128) ![0, 0] S256x128.size inb_S512x128_S256x128_0_0)
  | _ => View.ld (Val := Elt Ideal) (e' := .f32) x (Rect.unit (s := S512x128) ![256, 0] S256x128.size inb_S512x128_S256x128_256_0)

/-- The normed tokens of half `i` at grid point `t`. -/
def hid (c : Dev nD) (t : Fin cfg0.N) (i : ℕ) : FVec Ideal S256x1024 .bf16 := hidden (iblk m c 0 t) (iblk m c 1 t) (iblk m c 2 t) i
/-- 512 of their projection's columns. -/
def col (c : Dev nD) (t : Fin cfg0.N) (i o : ℕ) (ho : ∀ a, (![0, o] : Fin 2 → ℕ) a + S1024x512.size a ≤ S1024x5888.size a) : FVec Ideal S256x512 .f32 :=
  cols (hid m c t i) (iblk m c 3 t) o ho
/-- Their queries. -/
def qry (c : Dev nD) (t : Fin cfg0.N) (i : ℕ) : FVec Ideal S256x512 .f32 :=
  mulf (turned (headNorm (col m c t i 0 inb_S1024x5888_S1024x512_0_0) (weightRow (iblk m c 4 t) 0 inb_S2x512_S1x512_0_0)) (table (iblk m c 5 t) i) (table (iblk m c 6 t) i))
    (broadcast S256x512 (Scalar.ofBits (F := Ideal) .f32 0x3E38AA3B#32))
/-- Their keys. -/
def key (c : Dev nD) (t : Fin cfg0.N) (i : ℕ) : FVec Ideal S256x512 .f32 :=
  turned (headNorm (col m c t i 512 inb_S1024x5888_S1024x512_0_512) (weightRow (iblk m c 4 t) 1 inb_S2x512_S1x512_1_0)) (table (iblk m c 5 t) i) (table (iblk m c 6 t) i)
/-- Their values. -/
def val (c : Dev nD) (t : Fin cfg0.N) (i : ℕ) : FVec Ideal S256x512 .f32 := col m c t i 1024 inb_S1024x5888_S1024x512_0_1024

/-- The stores of the queries, keys and values, the last first. -/
def stores_7 (c : Dev nD) (t : Fin cfg0.N) : List (View.Piece (Elt Ideal) S1x512x1536 .bf16) :=
  [⟨Rect.unit (s := S1x512x1536) ![0, 256, 1024] S1x256x512.size inb_S1x512x1536_S1x256x512_0_256_1024, slab16 (val m c t 1)⟩,
    ⟨Rect.unit (s := S1x512x1536) ![0, 0, 1024] S1x256x512.size inb_S1x512x1536_S1x256x512_0_0_1024, slab16 (val m c t 0)⟩,
    ⟨Rect.unit (s := S1x512x1536) ![0, 256, 512] S1x256x512.size inb_S1x512x1536_S1x256x512_0_256_512, slab16 (key m c t 1)⟩,
    ⟨Rect.unit (s := S1x512x1536) ![0, 0, 512] S1x256x512.size inb_S1x512x1536_S1x256x512_0_0_512, slab16 (key m c t 0)⟩,
    ⟨Rect.unit (s := S1x512x1536) ![0, 256, 0] S1x256x512.size inb_S1x512x1536_S1x256x512_0_256_0, slab16 (qry m c t 1)⟩,
    ⟨Rect.unit (s := S1x512x1536) ![0, 0, 0] S1x256x512.size inb_S1x512x1536_S1x256x512_0_0_0, slab16 (qry m c t 0)⟩]

/-- The stores of the scan columns, the last first. -/
def stores_8 (c : Dev nD) (t : Fin cfg0.N) : List (View.Piece (Elt Ideal) S1x512x2304 .f32) :=
  [⟨Rect.unit (s := S1x512x2304) ![0, 256, 2048] S1x256x256.size inb_S1x512x2304_S1x256x256_0_256_2048, slab256 (cols256 (hid m c t 1) (iblk m c 3 t))⟩,
    ⟨Rect.unit (s := S1x512x2304) ![0, 0, 2048] S1x256x256.size inb_S1x512x2304_S1x256x256_0_0_2048, slab256 (cols256 (hid m c t 0) (iblk m c 3 t))⟩,
    ⟨Rect.unit (s := S1x512x2304) ![0, 256, 1536] S1x256x512.size inb_S1x512x2304_S1x256x512_0_256_1536, slab (col m c t 1 3072 inb_S1024x5888_S1024x512_0_3072)⟩,
    ⟨Rect.unit (s := S1x512x2304) ![0, 0, 1536] S1x256x512.size inb_S1x512x2304_S1x256x512_0_0_1536, slab (col m c t 0 3072 inb_S1024x5888_S1024x512_0_3072)⟩,
    ⟨Rect.unit (s := S1x512x2304) ![0, 256, 1024] S1x256x512.size inb_S1x512x2304_S1x256x512_0_256_1024, slab (col m c t 1 2560 inb_S1024x5888_S1024x512_0_2560)⟩,
    ⟨Rect.unit (s := S1x512x2304) ![0, 0, 1024] S1x256x512.size inb_S1x512x2304_S1x256x512_0_0_1024, slab (col m c t 0 2560 inb_S1024x5888_S1024x512_0_2560)⟩,
    ⟨Rect.unit (s := S1x512x2304) ![0, 256, 512] S1x256x512.size inb_S1x512x2304_S1x256x512_0_256_512, slab (col m c t 1 2048 inb_S1024x5888_S1024x512_0_2048)⟩,
    ⟨Rect.unit (s := S1x512x2304) ![0, 0, 512] S1x256x512.size inb_S1x512x2304_S1x256x512_0_0_512, slab (col m c t 0 2048 inb_S1024x5888_S1024x512_0_2048)⟩,
    ⟨Rect.unit (s := S1x512x2304) ![0, 256, 0] S1x256x512.size inb_S1x512x2304_S1x256x512_0_256_0, slab (col m c t 1 1536 inb_S1024x5888_S1024x512_0_1536)⟩,
    ⟨Rect.unit (s := S1x512x2304) ![0, 0, 0] S1x256x512.size inb_S1x512x2304_S1x256x512_0_0_0, slab (col m c t 0 1536 inb_S1024x5888_S1024x512_0_1536)⟩]

/-- The stores of the gates, the last first. -/
def stores_9 (c : Dev nD) (t : Fin cfg0.N) : List (View.Piece (Elt Ideal) S1x512x2048 .f32) :=
  [⟨Rect.unit (s := S1x512x2048) ![0, 256, 1536] S1x256x512.size inb_S1x512x2048_S1x256x512_0_256_1536, slab (gate (col m c t 1 5376 inb_S1024x5888_S1024x512_0_5376))⟩,
    ⟨Rect.unit (s := S1x512x2048) ![0, 0, 1536] S1x256x512.size inb_S1x512x2048_S1x256x512_0_0_1536, slab (gate (col m c t 0 5376 inb_S1024x5888_S1024x512_0_5376))⟩,
    ⟨Rect.unit (s := S1x512x2048) ![0, 256, 1024] S1x256x512.size inb_S1x512x2048_S1x256x512_0_256_1024, slab (gate (col m c t 1 4864 inb_S1024x5888_S1024x512_0_4864))⟩,
    ⟨Rect.unit (s := S1x512x2048) ![0, 0, 1024] S1x256x512.size inb_S1x512x2048_S1x256x512_0_0_1024, slab (gate (col m c t 0 4864 inb_S1024x5888_S1024x512_0_4864))⟩,
    ⟨Rect.unit (s := S1x512x2048) ![0, 256, 512] S1x256x512.size inb_S1x512x2048_S1x256x512_0_256_512, slab (gate (col m c t 1 4352 inb_S1024x5888_S1024x512_0_4352))⟩,
    ⟨Rect.unit (s := S1x512x2048) ![0, 0, 512] S1x256x512.size inb_S1x512x2048_S1x256x512_0_0_512, slab (gate (col m c t 0 4352 inb_S1024x5888_S1024x512_0_4352))⟩,
    ⟨Rect.unit (s := S1x512x2048) ![0, 256, 0] S1x256x512.size inb_S1x512x2048_S1x256x512_0_256_0, slab (gate (col m c t 1 3840 inb_S1024x5888_S1024x512_0_3840))⟩,
    ⟨Rect.unit (s := S1x512x2048) ![0, 0, 0] S1x256x512.size inb_S1x512x2048_S1x256x512_0_0_0, slab (gate (col m c t 0 3840 inb_S1024x5888_S1024x512_0_3840))⟩]

/-- The block of queries, keys and values at grid point `t` is what these stores leave. -/
theorem outs_7 (c : Dev nD) (t : Fin cfg0.N) : (outsAt0 m c t).1 = View.canon (Val := Elt Ideal) (e := .bf16) (stores_7 m c t) := by
  unfold outsAt0 out0_A_7
  dsimp only
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

/-- The block of scan columns at grid point `t` is what these stores leave. -/
theorem outs_8 (c : Dev nD) (t : Fin cfg0.N) : (outsAt0 m c t).2.1 = View.canon (Val := Elt Ideal) (e := .f32) (stores_8 m c t) := by
  unfold outsAt0 out0_A_8
  dsimp only
  rw [View.read_writes_eq_canon _ _ _ (cover0_A_8 c _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

/-- The block of gates at grid point `t` is what these stores leave. -/
theorem outs_9 (c : Dev nD) (t : Fin cfg0.N) : (outsAt0 m c t).2.2 = View.canon (Val := Elt Ideal) (e := .f32) (stores_9 m c t) := by
  unfold outsAt0 out0_A_9
  dsimp only
  rw [View.read_writes_eq_canon _ _ _ (cover0_A_9 c _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S1x1024) zeros2]
  rfl

end Cert.Samp

end
-- ==== Proof.SampSpec.lean ====
/- The projection of one of the sample's tokens, as functions of that token's rows: as the prompt's, with the queries and keys
   turned by the token's angles. -/
module

public import proofs.«01_k».proof.Proof.ProjSpec

@[expose] public section

set_option maxRecDepth 16384

noncomputable section

namespace Cert.Samp

open Idealize.ShloMosaic
open Cert.Proj (projRow headRow)

/-- The channel with which a channel is turned: the other one of its pair, sixteen away in its run of 32. -/
def partner (c : Fin 512) : Fin 512 := if h : c.val % 32 < 16 then ⟨c.val + 16, by omega⟩ else ⟨c.val - 16, by omega⟩

/-- A channel turned by its angle: the tables of cosines and sines repeat every 128 channels. -/
def turnRow (y : Fin 512 → EReal) (cs sn : Fin 128 → EReal) (c : Fin 512) : EReal :=
  y c * cs ⟨c.val % 128, by omega⟩ + y (partner c) * sn ⟨c.val % 128, by omega⟩

section Arrays

variable (x0 : FVec Ideal ⟨3, ![8, 4096, 1024]⟩ .f32) (x1 : FVec Ideal ⟨3, ![8, 1, 6144]⟩ .f32) (x2 : FVec Ideal ⟨2, ![1, 1024]⟩ .f32)
  (x3 : FVec Ideal ⟨3, ![1, 1024, 5888]⟩ .f32) (x4 x5 : FVec Ideal ⟨2, ![1, 64]⟩ .f32) (x6 x7 : FVec Ideal ⟨2, ![4096, 128]⟩ .f32)

/-- Token `t` of batch `b` at projected column `j`. -/
def projEntry (b : Fin 8) (t : Fin 4096) (j : Fin 5888) : EReal :=
  projRow (fun k => x0 (ix3 b t k)) (fun k => x2 (ix2 0 k)) (fun k => x1 (ix3 b 0 ⟨1024 + k.val, by omega⟩))
    (fun k => x1 (ix3 b 0 ⟨k.val, by omega⟩)) (fun i k => x3 (ix3 0 i k)) j

/-- A channel of a token's queries, normed. -/
def queryNorm (b : Fin 8) (t : Fin 4096) (c : Fin 512) : EReal :=
  headRow (fun k => projEntry x0 x1 x2 x3 b t ⟨k.val, by omega⟩) (fun k => x4 (ix2 0 ⟨k.val % 64, by omega⟩)) c

/-- A channel of a token's keys, normed. -/
def keyNorm (b : Fin 8) (t : Fin 4096) (c : Fin 512) : EReal :=
  headRow (fun k => projEntry x0 x1 x2 x3 b t ⟨512 + k.val, by omega⟩) (fun k => x5 (ix2 0 ⟨k.val % 64, by omega⟩)) c

/-- A channel of a token's queries, normed and turned. -/
def queryEntry (b : Fin 8) (t : Fin 4096) (c : Fin 512) : EReal :=
  turnRow (queryNorm x0 x1 x2 x3 x4 b t) (fun d => x6 (ix2 t d)) (fun d => x7 (ix2 t d)) c

/-- A channel of a token's keys, normed and turned. -/
def keyEntry (b : Fin 8) (t : Fin 4096) (c : Fin 512) : EReal :=
  turnRow (keyNorm x0 x1 x2 x3 x5 b t) (fun d => x6 (ix2 t d)) (fun d => x7 (ix2 t d)) c

/-- A channel of a token's scaled queries, keys and values. -/
def qkvEntry (b : Fin 8) (t : Fin 4096) (j : Fin 1536) : EReal :=
  if h : j.val < 512 then queryEntry x0 x1 x2 x3 x4 x6 x7 b t ⟨j.val, h⟩ * Ideal.ofBits .f32 0x3E38AA3B#32
  else if h : j.val < 1024 then keyEntry x0 x1 x2 x3 x5 x6 x7 b t ⟨j.val - 512, by omega⟩ else projEntry x0 x1 x2 x3 b t ⟨j.val, by omega⟩

/-- The queries, keys and values. -/
def qkvResult : FVec Ideal ⟨3, ![8, 4096, 1536]⟩ .bf16 := fun i => qkvEntry x0 x1 x2 x3 x4 x5 x6 x7 (i 0) (i 1) (i 2)
/-- The scan's columns. -/
def scanResult : FVec Ideal ⟨3, ![8, 4096, 2304]⟩ .f32 := fun i => projEntry x0 x1 x2 x3 (i 0) (i 1) ⟨1536 + (i 2).val, by have : (i 2).val < 2304 := (i 2).isLt; omega⟩
/-- The gates. -/
def gateResult : FVec Ideal ⟨3, ![8, 4096, 2048]⟩ .f32 := fun i =>
  Ideal.logistic (projEntry x0 x1 x2 x3 (i 0) (i 1) ⟨3840 + (i 2).val, by have : (i 2).val < 2048 := (i 2).isLt; omega⟩)

end Arrays

end Cert.Samp

end
-- ==== Proof.SampRows.lean ====
/- The rotation of a half of a grid point of the sample's projection, read at one token: it is the one-token function of that
   token's rows. -/
module

public import proofs.«01_k».proof.Proof.SampBlock
public import proofs.«01_k».proof.Proof.SampSpec
public import Idealize.ShloMosaic.Lib.KernelVsHost

@[expose] public section

set_option maxRecDepth 16384

noncomputable section

namespace Cert.Samp

open Idealize.ShloMosaic Cert.Kernel6Ideal Cert.Kernel6Ideal.Gen

theorem lower_apply (r : Fin 256) (c : Fin 512) : lower (ix2 r c) = BitVec.ofBool (decide (c.val % 32 < 16)) := by
  have h1 : IntOp.cmpi CmpIPredicate.slt (IntOp.andi (BitVec.ofNat 32 c.val) 31#32) 16#32 = BitVec.ofBool (decide (c.val % 32 < 16)) := by
    revert c; decide +kernel
  pointwise [lower]
  exact h1

/-- The rotation by 496 of 512 lanes reads sixteen lanes ahead, that by 16 sixteen behind. -/
theorem swapped_apply (y : FVec Ideal S256x512 .f32) (r : Fin 256) (c : Fin 512) : swapped y (ix2 r c) = y (ix2 r (partner c)) := by
  show Scalar.select (lower (ix2 r c)) (dynamicRotate 1 496#32 none y rotates_S256x512_d1 (ix2 r c)) (dynamicRotate 1 16#32 none y rotates_S256x512_d1 (ix2 r c)) = _
  rw [lower_apply]
  have hc := c.isLt
  by_cases h : c.val % 32 < 16
  · rw [decide_eq_true h, partner, dif_pos h]
    refine dynamicRotate_apply 1 496#32 y rotates_S256x512_d1 (ix2 r c) (ix2 r ⟨c.val + 16, by omega⟩) fun b => ?_
    match b with
    | ⟨0, _⟩ => rfl
    | ⟨1, _⟩ => show c.val + 16 = (c.val + 512 - 496 % 512) % 512; omega
  · rw [decide_eq_false h, partner, dif_neg h]
    refine dynamicRotate_apply 1 16#32 y rotates_S256x512_d1 (ix2 r c) (ix2 r ⟨c.val - 16, by omega⟩) fun b => ?_
    match b with
    | ⟨0, _⟩ => rfl
    | ⟨1, _⟩ => show c.val - 16 = (c.val + 512 - 16 % 512) % 512; omega

theorem fourfold_apply (z : FVec Ideal S256x128 .f32) (r : Fin 256) (c : Fin 512) : fourfold z (ix2 r c) = z (ix2 r ⟨c.val % 128, by omega⟩) := by
  pointwise [fourfold]
  have e (l : Fin 128) (hl : l.val = c.val % 128) : z (ix2 r l) = z (ix2 r ⟨c.val % 128, by omega⟩) := congrArg (fun l => z (ix2 r l)) (Fin.ext hl)
  by_cases h0 : c.val < 128
  · rw [dif_pos h0]
    exact e ⟨c.val, h0⟩ (by simp; omega)
  rw [dif_neg h0]
  by_cases h1 : c.val - 128 < 128
  · rw [dif_pos h1]
    exact e ⟨c.val - 128, h1⟩ (by simp; omega)
  rw [dif_neg h1]
  by_cases h2 : c.val - 128 - 128 < 128
  · rw [dif_pos h2]
    exact e ⟨c.val - 128 - 128, h2⟩ (by simp; omega)
  rw [dif_neg h2]
  exact e ⟨c.val - 128 - 128 - 128, by omega⟩ (by simp; omega)

theorem turned_apply (y : FVec Ideal S256x512 .f32) (cs sn : FVec Ideal S256x128 .f32) (r : Fin 256) (c : Fin 512) :
    turned y cs sn (ix2 r c) = turnRow (fun k => y (ix2 r k)) (fun d => cs (ix2 r d)) (fun d => sn (ix2 r d)) c := by
  rw [turnRow, ← fourfold_apply cs r c, ← fourfold_apply sn r c, ← swapped_apply y r c]
  rfl

theorem table_apply (x : FVec Ideal S512x128 .f32) (i : Fin 2) (r : Fin 256) (d : Fin 128) (q : Fin 512) (hq : q.val = 256 * i.val + r.val) :
    table x i.val (ix2 r d) = x (ix2 q d) := by
  fin_cases i <;> (show x _ = x _; refine congrArg x ?_) <;> (funext a; fin_cases a <;> (apply Fin.ext; simp [Rect.emb, Rect.unit, ix2, hq]))

end Cert.Samp

end
-- ==== Proof.SampArray.lean ====
/- What the three result arrays of the sample's projection call hold: at every token and column, the one-token function of that
   token's rows. -/
module

public import proofs.«01_k».proof.Proof.Gen.Kernel6Ideal.Value
public import proofs.«01_k».proof.Proof.SampRows
public import proofs.«01_k».proof.Proof.ProjArray

@[expose] public section

set_option maxRecDepth 16384

noncomputable section

namespace Cert.Samp

open Idealize.ShloMosaic Cert.Kernel6Ideal Cert.Kernel6Ideal.Gen
open Cert.Proj (normWeights weights headWeights normWeights_apply weights_apply headWeights_0 headWeights_1 projRow headRow cols cols256 cols_apply cols256_apply
  headNorm_apply weightRow_apply gate gate_apply slab slab16 slab256 slab_apply slab16_apply slab256_apply agrees coords)

variable (m : (ℓ : Loc nD τ sig) → Buf (Elt Ideal) ℓ)

/-! ## What the host's reshapes and casts leave -/

theorem V_norm (c : Dev nD) : V m c main_v14 = normWeights (m (c.tc.loc main_arg2)) := by
  unfold_abbrev_sides
  after_results
  rfl

theorem V_weights (c : Dev nD) : V m c main_v13 = weights (m (c.tc.loc main_arg3)) := by
  unfold_abbrev_sides
  after_results
  rfl

theorem V_heads (c : Dev nD) : V m c main_v10 = headWeights (m (c.tc.loc main_arg4)) (m (c.tc.loc main_arg5)) := by
  unfold_abbrev_sides
  after_results
  rfl

/-! ## The windows' blocks -/

/-- The batch a grid point works on. -/
def gb (t : Fin cfg0.N) : Fin 8 := grid0.coords t 0
/-- The tile of 512 tokens a grid point works on. -/
def gt (t : Fin cfg0.N) : Fin 8 := grid0.coords t 1

theorem index_0 : ∀ t : Fin cfg0.N, win0_0.index t = ![(gb t).val, (gt t).val, 0] :=
  (by decide +kernel : ∀ t : Fin grid0.N, win0_0.index t = ![(gb t).val, (gt t).val, 0])
theorem index_1 : ∀ t : Fin cfg0.N, win0_1.index t = ![(gb t).val, 0, 0] :=
  (by decide +kernel : ∀ t : Fin grid0.N, win0_1.index t = ![(gb t).val, 0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![(gt t).val, 0] :=
  (by decide +kernel : ∀ t : Fin grid0.N, win0_5.index t = ![(gt t).val, 0])
theorem index_6 : ∀ t : Fin cfg0.N, win0_6.index t = ![(gt t).val, 0] :=
  (by decide +kernel : ∀ t : Fin grid0.N, win0_6.index t = ![(gt t).val, 0])
theorem index_7 : ∀ t : Fin cfg0.N, win0_7.index t = ![(gb t).val, (gt t).val, 0] :=
  (by decide +kernel : ∀ t : Fin grid0.N, win0_7.index t = ![(gb t).val, (gt t).val, 0])
theorem index_8 : ∀ t : Fin cfg0.N, win0_8.index t = ![(gb t).val, (gt t).val, 0] :=
  (by decide +kernel : ∀ t : Fin grid0.N, win0_8.index t = ![(gb t).val, (gt t).val, 0])
theorem index_9 : ∀ t : Fin cfg0.N, win0_9.index t = ![(gb t).val, (gt t).val, 0] :=
  (by decide +kernel : ∀ t : Fin grid0.N, win0_9.index t = ![(gb t).val, (gt t).val, 0])

theorem covers_7 : (cfg0.win 7).Covers := by decide +kernel
theorem covers_8 : (cfg0.win 8).Covers := by decide +kernel
theorem covers_9 : (cfg0.win 9).Covers := by decide +kernel

/-- The token of its batch that row `i` of a grid point's blocks is. -/
def tok (t : Fin cfg0.N) (i : Fin 512) : Fin 4096 := ⟨512 * (gt t).val + i.val, by have := (gt t).isLt; omega⟩

theorem blk_0 (c : Dev nD) (t : Fin cfg0.N) (i : Fin 512) (k : Fin 1024) :
    (iblk m c 0 t : FVec Ideal S1x512x1024 .f32) (ix3 0 i k) = (m (c.tc.loc main_arg0) : FVec Ideal S8x4096x1024 .f32) (ix3 (gb t) (tok t i) k) := by
  blk_simp [iblk]
  refine (congrFun (V_main_arg0 m c) _).trans (congrArg (m (c.tc.loc main_arg0)) ?_)
  blk_ext [index_0, tok]

theorem blk_1 (c : Dev nD) (t : Fin cfg0.N) (k : Fin 6144) :
    (iblk m c 1 t : FVec Ideal S1x1x6144 .f32) (ix3 0 0 k) = (m (c.tc.loc main_arg1) : FVec Ideal S8x1x6144 .f32) (ix3 (gb t) 0 k) := by
  blk_simp [iblk]
  refine (congrFun (V_main_arg1 m c) _).trans (congrArg (m (c.tc.loc main_arg1)) ?_)
  blk_ext [index_1]

theorem blk_2 (c : Dev nD) (t : Fin cfg0.N) (k : Fin 1024) :
    (iblk m c 2 t : FVec Ideal S1x1024 .f32) (ix2 0 k) = (m (c.tc.loc main_arg2) : FVec Ideal S1x1024 .f32) (ix2 0 k) := by
  rw [← normWeights_apply (m (c.tc.loc main_arg2)) k]
  blk_simp [iblk]
  refine (congrFun (V_norm m c) _).trans (congrArg (normWeights _) ?_)
  blk_ext [index_2]

theorem blk_3 (c : Dev nD) (t : Fin cfg0.N) (i : Fin 1024) (j : Fin 5888) :
    (iblk m c 3 t : FVec Ideal S1024x5888 .bf16) (ix2 i j) = (m (c.tc.loc main_arg3) : FVec Ideal S1x1024x5888 .f32) (ix3 0 i j) := by
  rw [← weights_apply (m (c.tc.loc main_arg3)) i j]
  blk_simp [iblk]
  refine (congrFun (V_weights m c) _).trans (congrArg (weights _) ?_)
  blk_ext [index_3]

theorem blk_4 (c : Dev nD) (t : Fin cfg0.N) (o : Fin 2) (k : Fin 512) :
    (iblk m c 4 t : FVec Ideal S2x512 .f32) (ix2 o k) = headWeights (m (c.tc.loc main_arg4)) (m (c.tc.loc main_arg5)) (ix2 o k) := by
  blk_simp [iblk]
  refine (congrFun (V_heads m c) _).trans (congrArg (headWeights _ _) ?_)
  blk_ext [index_4]

theorem blk_5 (c : Dev nD) (t : Fin cfg0.N) (i : Fin 512) (d : Fin 128) :
    (iblk m c 5 t : FVec Ideal S512x128 .f32) (ix2 i d) = (m (c.tc.loc main_arg6) : FVec Ideal S4096x128 .f32) (ix2 (tok t i) d) := by
  blk_simp [iblk]
  refine (congrFun (V_main_arg6 m c) _).trans (congrArg (m (c.tc.loc main_arg6)) ?_)
  blk_ext [index_5, tok]

theorem blk_6 (c : Dev nD) (t : Fin cfg0.N) (i : Fin 512) (d : Fin 128) :
    (iblk m c 6 t : FVec Ideal S512x128 .f32) (ix2 i d) = (m (c.tc.loc main_arg7) : FVec Ideal S4096x128 .f32) (ix2 (tok t i) d) := by
  blk_simp [iblk]
  refine (congrFun (V_main_arg7 m c) _).trans (congrArg (m (c.tc.loc main_arg7)) ?_)
  blk_ext [index_6, tok]

/-! ## A half's columns at a token -/

/-- The projected columns of the whole arrays, at a token. -/
def pr (c : Dev nD) (b : Fin 8) (t : Fin 4096) (j : Fin 5888) : EReal :=
  projEntry (m (c.tc.loc main_arg0)) (m (c.tc.loc main_arg1)) (m (c.tc.loc main_arg2)) (m (c.tc.loc main_arg3)) b t j

theorem col_eq (c : Dev nD) (t : Fin cfg0.N) (i : Fin 2) (o : ℕ) (ho : ∀ a, (![0, o] : Fin 2 → ℕ) a + S1024x512.size a ≤ S1024x5888.size a) (r : Fin 256) (k : Fin 512)
    (q : Fin 512) (hq : q.val = 256 * i.val + r.val) (j : Fin 5888) (hj : j.val = o + k.val) : col m c t i.val o ho (ix2 r k) = pr m c (gb t) (tok t q) j := by
  unfold col hid
  rw [cols_apply _ _ _ _ o ho i r k q hq j hj, pr, projEntry]
  simp only [blk_0, blk_1, blk_2, blk_3]

theorem col256_eq (c : Dev nD) (t : Fin cfg0.N) (i : Fin 2) (r k : Fin 256)
    (q : Fin 512) (hq : q.val = 256 * i.val + r.val) (j : Fin 5888) (hj : j.val = 3584 + k.val) :
    cols256 (hid m c t i.val) (iblk m c 3 t) (ix2 r k) = pr m c (gb t) (tok t q) j := by
  unfold hid
  rw [cols256_apply _ _ _ _ i r k q hq j hj, pr, projEntry]
  simp only [blk_0, blk_1, blk_2, blk_3]

theorem qry_eq (c : Dev nD) (t : Fin cfg0.N) (i : Fin 2) (r : Fin 256) (k : Fin 512) (q : Fin 512) (hq : q.val = 256 * i.val + r.val) :
    qry m c t i.val (ix2 r k) = queryEntry (m (c.tc.loc main_arg0)) (m (c.tc.loc main_arg1)) (m (c.tc.loc main_arg2)) (m (c.tc.loc main_arg3)) (m (c.tc.loc main_arg4)) (m (c.tc.loc main_arg6)) (m (c.tc.loc main_arg7)) (gb t) (tok t q) k
      * Ideal.ofBits .f32 0x3E38AA3B#32 := by
  unfold qry
  refine congrArg (· * _) ?_
  rw [turned_apply, queryEntry]
  simp only [table_apply _ i r _ q hq, blk_5, blk_6]
  refine congrArg (fun z => turnRow z _ _ k) (funext fun j => ?_)
  rw [headNorm_apply, queryNorm]
  refine congrArg₂ (fun z g => headRow z g j) (funext fun l => ?_) (funext fun l => ?_)
  · exact col_eq m c t i 0 _ r l q hq ⟨l.val, by omega⟩ (Nat.zero_add _).symm
  · exact ((weightRow_apply _ 0 _ l).trans (blk_4 m c t 0 l)).trans (headWeights_0 _ _ l)

theorem key_eq (c : Dev nD) (t : Fin cfg0.N) (i : Fin 2) (r : Fin 256) (k : Fin 512) (q : Fin 512) (hq : q.val = 256 * i.val + r.val) :
    key m c t i.val (ix2 r k) = keyEntry (m (c.tc.loc main_arg0)) (m (c.tc.loc main_arg1)) (m (c.tc.loc main_arg2)) (m (c.tc.loc main_arg3)) (m (c.tc.loc main_arg5)) (m (c.tc.loc main_arg6)) (m (c.tc.loc main_arg7)) (gb t) (tok t q) k := by
  unfold key
  rw [turned_apply, keyEntry]
  simp only [table_apply _ i r _ q hq, blk_5, blk_6]
  refine congrArg (fun z => turnRow z _ _ k) (funext fun j => ?_)
  rw [headNorm_apply, keyNorm]
  refine congrArg₂ (fun z g => headRow z g j) (funext fun l => ?_) (funext fun l => ?_)
  · exact col_eq m c t i 512 _ r l q hq ⟨512 + l.val, by omega⟩ rfl
  · exact ((weightRow_apply _ 1 _ l).trans (blk_4 m c t 1 l)).trans (headWeights_1 _ _ l)

/-! ## The blocks -/

/-- What the block of queries, keys and values ends as. -/
def block_7 (c : Dev nD) (t : Fin cfg0.N) : FVec Ideal S1x512x1536 .bf16 := fun y =>
  qkvEntry (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (gb t) (tok t (y 1)) (y 2)
/-- What the block of the scan's columns ends as. -/
def block_8 (c : Dev nD) (t : Fin cfg0.N) : FVec Ideal S1x512x2304 .f32 := fun y =>
  pr m c (gb t) (tok t (y 1)) ⟨1536 + (y 2).val, by have : (y 2).val < 2304 := (y 2).isLt; omega⟩
/-- What the block of gates ends as. -/
def block_9 (c : Dev nD) (t : Fin cfg0.N) : FVec Ideal S1x512x2048 .f32 := fun y =>
  Ideal.logistic (pr m c (gb t) (tok t (y 1)) ⟨3840 + (y 2).val, by have : (y 2).val < 2048 := (y 2).isLt; omega⟩)
theorem qkv_query (c : Dev nD) (t : Fin cfg0.N) (i : Fin 2) (r : Fin 256) (k : Fin 512) (p : Fin 512) (q : Fin 1536) (hp : p.val = 256 * i.val + r.val) (hq : q.val = 0 + k.val) :
    slab16 (qry m c t i.val) (ix3 0 r k) = block_7 m c t (ix3 0 p q) := by
  have hk : q.val < 512 := by omega
  have e : k = ⟨q.val, hk⟩ := Fin.ext (by show k.val = q.val; omega)
  rw [slab16_apply, qry_eq m c t i r k p hp, e]
  show _ = qkvEntry _ _ _ _ _ _ _ _ (gb t) (tok t p) q
  rw [qkvEntry, dif_pos hk]

theorem qkv_key (c : Dev nD) (t : Fin cfg0.N) (i : Fin 2) (r : Fin 256) (k : Fin 512) (p : Fin 512) (q : Fin 1536) (hp : p.val = 256 * i.val + r.val) (hq : q.val = 512 + k.val) :
    slab16 (key m c t i.val) (ix3 0 r k) = block_7 m c t (ix3 0 p q) := by
  have hk : ¬ q.val < 512 := by omega
  have hk' : q.val < 1024 := by omega
  have e : k = ⟨q.val - 512, by omega⟩ := Fin.ext (by show k.val = q.val - 512; omega)
  rw [slab16_apply, key_eq m c t i r k p hp, e]
  show _ = qkvEntry _ _ _ _ _ _ _ _ (gb t) (tok t p) q
  rw [qkvEntry, dif_neg hk, dif_pos hk']

theorem qkv_val (c : Dev nD) (t : Fin cfg0.N) (i : Fin 2) (r : Fin 256) (k : Fin 512) (p : Fin 512) (q : Fin 1536) (hp : p.val = 256 * i.val + r.val) (hq : q.val = 1024 + k.val) :
    slab16 (val m c t i.val) (ix3 0 r k) = block_7 m c t (ix3 0 p q) := by
  have hk : ¬ q.val < 512 := by omega
  have hk' : ¬ q.val < 1024 := by omega
  rw [slab16_apply, val, col_eq m c t i 1024 _ r k p hp ⟨q.val, by omega⟩ hq]
  show _ = qkvEntry _ _ _ _ _ _ _ _ (gb t) (tok t p) q
  rw [qkvEntry, dif_neg hk, dif_neg hk', pr]

theorem holds_7 (c : Dev nD) (t : Fin cfg0.N) : ∀ p ∈ stores_7 m c t, ∀ x : p.1.shape.Idx, p.2 x = block_7 m c t (p.1.emb x) := by
  intro p hp
  simp only [stores_7, List.mem_cons, List.not_mem_nil, or_false] at hp
  rcases hp with rfl | rfl | rfl | rfl | rfl | rfl
  · exact agrees 256 1024 inb_S1x512x1536_S1x256x512_0_256_1024 _ _ fun a k p q hp hq => qkv_val m c t 1 a k p q hp hq
  · exact agrees 0 1024 inb_S1x512x1536_S1x256x512_0_0_1024 _ _ fun a k p q hp hq => qkv_val m c t 0 a k p q hp hq
  · exact agrees 256 512 inb_S1x512x1536_S1x256x512_0_256_512 _ _ fun a k p q hp hq => qkv_key m c t 1 a k p q hp hq
  · exact agrees 0 512 inb_S1x512x1536_S1x256x512_0_0_512 _ _ fun a k p q hp hq => qkv_key m c t 0 a k p q hp hq
  · exact agrees 256 0 inb_S1x512x1536_S1x256x512_0_256_0 _ _ fun a k p q hp hq => qkv_query m c t 1 a k p q hp hq
  · exact agrees 0 0 inb_S1x512x1536_S1x256x512_0_0_0 _ _ fun a k p q hp hq => qkv_query m c t 0 a k p q hp hq

theorem scan_col (c : Dev nD) (t : Fin cfg0.N) (i : Fin 2) (o : ℕ) (ho : ∀ a, (![0, 1536 + o] : Fin 2 → ℕ) a + S1024x512.size a ≤ S1024x5888.size a) (r : Fin 256) (k : Fin 512)
    (p : Fin 512) (q : Fin 2304) (hp : p.val = 256 * i.val + r.val) (hq : q.val = o + k.val) :
    slab (col m c t i.val (1536 + o) ho) (ix3 0 r k) = block_8 m c t (ix3 0 p q) := by
  rw [slab_apply]
  exact col_eq m c t i (1536 + o) ho r k p hp ⟨1536 + q.val, by omega⟩ (by show 1536 + q.val = _; omega)

theorem scan_col256 (c : Dev nD) (t : Fin cfg0.N) (i : Fin 2) (r : Fin 256) (k : Fin 256)
    (p : Fin 512) (q : Fin 2304) (hp : p.val = 256 * i.val + r.val) (hq : q.val = 2048 + k.val) :
    slab256 (cols256 (hid m c t i.val) (iblk m c 3 t)) (ix3 0 r k) = block_8 m c t (ix3 0 p q) := by
  rw [slab256_apply]
  exact col256_eq m c t i r k p hp ⟨1536 + q.val, by omega⟩ (by show 1536 + q.val = _; omega)

theorem holds_8 (c : Dev nD) (t : Fin cfg0.N) : ∀ p ∈ stores_8 m c t, ∀ x : p.1.shape.Idx, p.2 x = block_8 m c t (p.1.emb x) := by
  intro p hp
  simp only [stores_8, List.mem_cons, List.not_mem_nil, or_false] at hp
  rcases hp with rfl | rfl | rfl | rfl | rfl | rfl | rfl | rfl | rfl | rfl
  · exact agrees 256 2048 inb_S1x512x2304_S1x256x256_0_256_2048 _ _ fun a k p q hp hq => scan_col256 m c t 1 a k p q hp hq
  · exact agrees 0 2048 inb_S1x512x2304_S1x256x256_0_0_2048 _ _ fun a k p q hp hq => scan_col256 m c t 0 a k p q hp hq
  · exact agrees 256 1536 inb_S1x512x2304_S1x256x512_0_256_1536 _ _ fun a k p q hp hq => scan_col m c t 1 1536 _ a k p q hp hq
  · exact agrees 0 1536 inb_S1x512x2304_S1x256x512_0_0_1536 _ _ fun a k p q hp hq => scan_col m c t 0 1536 _ a k p q hp hq
  · exact agrees 256 1024 inb_S1x512x2304_S1x256x512_0_256_1024 _ _ fun a k p q hp hq => scan_col m c t 1 1024 _ a k p q hp hq
  · exact agrees 0 1024 inb_S1x512x2304_S1x256x512_0_0_1024 _ _ fun a k p q hp hq => scan_col m c t 0 1024 _ a k p q hp hq
  · exact agrees 256 512 inb_S1x512x2304_S1x256x512_0_256_512 _ _ fun a k p q hp hq => scan_col m c t 1 512 _ a k p q hp hq
  · exact agrees 0 512 inb_S1x512x2304_S1x256x512_0_0_512 _ _ fun a k p q hp hq => scan_col m c t 0 512 _ a k p q hp hq
  · exact agrees 256 0 inb_S1x512x2304_S1x256x512_0_256_0 _ _ fun a k p q hp hq => scan_col m c t 1 0 _ a k p q hp hq
  · exact agrees 0 0 inb_S1x512x2304_S1x256x512_0_0_0 _ _ fun a k p q hp hq => scan_col m c t 0 0 _ a k p q hp hq

theorem gate_col (c : Dev nD) (t : Fin cfg0.N) (i : Fin 2) (o : ℕ) (ho : ∀ a, (![0, 3840 + o] : Fin 2 → ℕ) a + S1024x512.size a ≤ S1024x5888.size a) (r : Fin 256) (k : Fin 512)
    (p : Fin 512) (q : Fin 2048) (hp : p.val = 256 * i.val + r.val) (hq : q.val = o + k.val) :
    slab (gate (col m c t i.val (3840 + o) ho)) (ix3 0 r k) = block_9 m c t (ix3 0 p q) := by
  rw [slab_apply, gate_apply]
  exact congrArg Ideal.logistic (col_eq m c t i (3840 + o) ho r k p hp ⟨3840 + q.val, by omega⟩ (by show 3840 + q.val = _; omega))

theorem holds_9 (c : Dev nD) (t : Fin cfg0.N) : ∀ p ∈ stores_9 m c t, ∀ x : p.1.shape.Idx, p.2 x = block_9 m c t (p.1.emb x) := by
  intro p hp
  simp only [stores_9, List.mem_cons, List.not_mem_nil, or_false] at hp
  rcases hp with rfl | rfl | rfl | rfl | rfl | rfl | rfl | rfl
  · exact agrees 256 1536 inb_S1x512x2048_S1x256x512_0_256_1536 _ _ fun a k p q hp hq => gate_col m c t 1 1536 _ a k p q hp hq
  · exact agrees 0 1536 inb_S1x512x2048_S1x256x512_0_0_1536 _ _ fun a k p q hp hq => gate_col m c t 0 1536 _ a k p q hp hq
  · exact agrees 256 1024 inb_S1x512x2048_S1x256x512_0_256_1024 _ _ fun a k p q hp hq => gate_col m c t 1 1024 _ a k p q hp hq
  · exact agrees 0 1024 inb_S1x512x2048_S1x256x512_0_0_1024 _ _ fun a k p q hp hq => gate_col m c t 0 1024 _ a k p q hp hq
  · exact agrees 256 512 inb_S1x512x2048_S1x256x512_0_256_512 _ _ fun a k p q hp hq => gate_col m c t 1 512 _ a k p q hp hq
  · exact agrees 0 512 inb_S1x512x2048_S1x256x512_0_0_512 _ _ fun a k p q hp hq => gate_col m c t 0 512 _ a k p q hp hq
  · exact agrees 256 0 inb_S1x512x2048_S1x256x512_0_256_0 _ _ fun a k p q hp hq => gate_col m c t 1 0 _ a k p q hp hq
  · exact agrees 0 0 inb_S1x512x2048_S1x256x512_0_0_0 _ _ fun a k p q hp hq => gate_col m c t 0 0 _ a k p q hp hq

theorem block_7_eq (c : Dev nD) (t : Fin cfg0.N) : (outsAt0 m c t).1 = block_7 m c t := by
  rw [outs_7]
  exact funext fun y => View.canon_apply_of_pieces _ _ (holds_7 m c t) y (View.cover_of_tiledL (stores_7 m c t) S1x256x512.size (by sl_kernel_rfl) y)
theorem block_8_eq (c : Dev nD) (t : Fin cfg0.N) : (outsAt0 m c t).2.1 = block_8 m c t := by
  rw [outs_8]
  exact funext fun y => View.canon_apply_of_pieces _ _ (holds_8 m c t) y (View.cover_of_tiledBy (stores_8 m c t) ![1, 256, 256] (by sl_kernel_rfl) y)
theorem block_9_eq (c : Dev nD) (t : Fin cfg0.N) : (outsAt0 m c t).2.2 = block_9 m c t := by
  rw [outs_9]
  exact funext fun y => View.canon_apply_of_pieces _ _ (holds_9 m c t) y (View.cover_of_tiledL (stores_9 m c t) S1x256x512.size (by sl_kernel_rfl) y)

/-! ## The arrays -/

theorem arr_7 (c : Dev nD) : (dats m 0 c).arrAt 7 cfg0.N
    = qkvResult (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  refine (dats m 0 c).arrAt_eq_of_covers 7 _ covers_7 fun t _ y => ?_
  blk_simp
  rw [after0_7, block_7_eq]
  obtain ⟨i, e, rfl⟩ := coords y
  have e0 : ((win0_7.blk t).view.emb (ix3 0 i e) 0).val = (gb t).val := by blk_simp [index_7]; simp
  have e1 : ((win0_7.blk t).view.emb (ix3 0 i e) 1).val = 512 * (gt t).val + i.val := by blk_simp [index_7]; simp; omega
  have e2 : ((win0_7.blk t).view.emb (ix3 0 i e) 2).val = e.val := by blk_simp [index_7]
  unfold qkvResult block_7
  congr 1
  · exact Fin.ext e0.symm
  · exact Fin.ext e1.symm
  · exact Fin.ext e2.symm

theorem arr_8 (c : Dev nD) : (dats m 0 c).arrAt 8 cfg0.N
    = scanResult (m (c.tc.loc main_arg0)) (m (c.tc.loc main_arg1)) (m (c.tc.loc main_arg2)) (m (c.tc.loc main_arg3)) := by
  refine (dats m 0 c).arrAt_eq_of_covers 8 _ covers_8 fun t _ y => ?_
  blk_simp
  rw [after0_8, block_8_eq]
  obtain ⟨i, e, rfl⟩ := coords y
  have e0 : ((win0_8.blk t).view.emb (ix3 0 i e) 0).val = (gb t).val := by blk_simp [index_8]; simp
  have e1 : ((win0_8.blk t).view.emb (ix3 0 i e) 1).val = 512 * (gt t).val + i.val := by blk_simp [index_8]; simp; omega
  have e2 : ((win0_8.blk t).view.emb (ix3 0 i e) 2).val = e.val := by blk_simp [index_8]
  unfold scanResult block_8 pr
  congr 1
  · exact Fin.ext e0.symm
  · exact Fin.ext e1.symm
  · exact Fin.ext (congrArg (1536 + ·) e2.symm)

theorem arr_9 (c : Dev nD) : (dats m 0 c).arrAt 9 cfg0.N
    = gateResult (m (c.tc.loc main_arg0)) (m (c.tc.loc main_arg1)) (m (c.tc.loc main_arg2)) (m (c.tc.loc main_arg3)) := by
  refine (dats m 0 c).arrAt_eq_of_covers 9 _ covers_9 fun t _ y => ?_
  blk_simp
  rw [after0_9, block_9_eq]
  obtain ⟨i, e, rfl⟩ := coords y
  have e0 : ((win0_9.blk t).view.emb (ix3 0 i e) 0).val = (gb t).val := by blk_simp [index_9]; simp
  have e1 : ((win0_9.blk t).view.emb (ix3 0 i e) 1).val = 512 * (gt t).val + i.val := by blk_simp [index_9]; simp; omega
  have e2 : ((win0_9.blk t).view.emb (ix3 0 i e) 2).val = e.val := by blk_simp [index_9]
  unfold gateResult block_9 pr
  refine congrArg Ideal.logistic ?_
  congr 1
  · exact Fin.ext e0.symm
  · exact Fin.ext e1.symm
  · exact Fin.ext (congrArg (3840 + ·) e2.symm)

end Cert.Samp

end
-- ==== Proof.SampRef.lean ====
/- What the reference of the sample's projection computes, stage by stage, at one token. -/
module

public import proofs.«01_k».proof.Proof.Gen.Reference6Ideal.Read
public import proofs.«01_k».proof.Proof.SampSpec

@[expose] public section

set_option maxRecDepth 16384

noncomputable section

namespace Cert.SampRef

open Idealize.ShloMosaic Cert.Reference6Ideal Cert.Reference6Ideal.Gen Cert.Reference6Ideal.Read Cert.Samp
open Cert.Post (headOf normRow ofBits_one ofBits_sixtyfour)
open Cert.Proj (projRow headRow)

variable (x0 : FVec Ideal S8x4096x1024 .f32) (x1 : FVec Ideal S8x1x6144 .f32) (x2 : FVec Ideal S1x1024 .f32) (x3 : FVec Ideal S1x1024x5888 .f32)
  (x4 x5 : FVec Ideal S1x64 .f32) (x6 x7 : FVec Ideal S4096x128 .f32)

theorem v25_apply (b : Fin 8) (t : Fin 4096) (k : Fin 1024) :
    val_main_v25 (F := Ideal) x0 x1 x2 (ix3 b t k) = normRow (fun k => x0 (ix3 b t k)) (fun k => x2 (ix2 0 k))
      (fun k => x1 (ix3 b 0 ⟨1024 + k.val, by omega⟩)) (fun k => x1 (ix3 b 0 ⟨k.val, by omega⟩)) k := by
  unfold normRow
  rw [← ofBits_one]
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v1, val_main_v0, val_main_cst, val_main_cst_0, val_main_cst_1, val_main_cst_2]

theorem v27_apply (b : Fin 8) (t : Fin 4096) (j : Fin 5888) : val_main_v27 (F := Ideal) x0 x1 x2 x3 (ix3 b t j) = projEntry x0 x1 x2 x3 b t j := by
  have h : val_main_v27 (F := Ideal) x0 x1 x2 x3 (ix3 b t j) = ∑ i : Fin 1024, val_main_v25 (F := Ideal) x0 x1 x2 (ix3 b t i) * x3 (ix3 0 i j) := by
    pointwise [val_main_v27, val_main_v26]
  rw [h, projEntry, projRow]
  simp only [v25_apply]

/-- Division by 64 is multiplication with a sixty-fourth. -/
theorem div64 (z : EReal) : Ideal.div z (Ideal.ofBits .f32 0x42800000#32) = z * ((1 / 64 : ℝ) : EReal) := by
  rw [ofBits_sixtyfour, Ideal.div_coe (by norm_num)]

/-! ## The queries -/

theorem v30_apply (b : Fin 8) (t : Fin 4096) (h : Fin 8) (d : Fin 64) :
    val_main_v30 (F := Ideal) x0 x1 x2 x3 (ix4 b t h d) = projEntry x0 x1 x2 x3 b t ⟨64 * h.val + d.val, by omega⟩ := by
  rw [← v27_apply]
  pointwise [val_main_v30, val_main_v28]
  have e : (⟨h.val * 64 + d.val, by omega⟩ : Fin 5888) = ⟨64 * h.val + d.val, by omega⟩ := Fin.ext (by simp; omega)
  rw [e]

theorem v43_apply (b : Fin 8) (t : Fin 4096) (h : Fin 8) (d : Fin 64) :
    val_main_v43 (F := Ideal) x0 x1 x2 x3 x4 (ix4 b t h d) = val_main_v30 (F := Ideal) x0 x1 x2 x3 (ix4 b t h d)
      * Ideal.rsqrt (Ideal.div (∑ d : Fin 64, val_main_v30 (F := Ideal) x0 x1 x2 x3 (ix4 b t h d) * val_main_v30 (F := Ideal) x0 x1 x2 x3 (ix4 b t h d)) (Ideal.ofBits .f32 0x42800000#32)
        + Ideal.ofBits .f32 0x358637BD#32) * x4 (ix2 0 d) := by
  pointwise [val_main_v43, val_main_v42, val_main_v41, val_main_v40, val_main_v39, val_main_v38, val_main_v37, val_main_v36, val_main_v35, val_main_v34, val_main_v33, val_main_v32, val_main_v31, val_main_v29, val_main_cst_3, val_main_cst_4, val_main_cst_5]

theorem v44_read (b : Fin 8) (t : Fin 4096) (c : Fin 512) :
    val_main_v44 (F := Ideal) x0 x1 x2 x3 x4 (ix3 b t c) = val_main_v43 (F := Ideal) x0 x1 x2 x3 x4 (ix4 b t ⟨c.val / 64, by omega⟩ ⟨c.val % 64, by omega⟩) := by
  pointwise [val_main_v44]

/-- The queries, normed. -/
theorem v44_apply (b : Fin 8) (t : Fin 4096) (c : Fin 512) : val_main_v44 (F := Ideal) x0 x1 x2 x3 x4 (ix3 b t c) = queryNorm x0 x1 x2 x3 x4 b t c := by
  have e (k : Fin 64) : 64 * (c.val / 64) + k.val < 512 := by omega
  have ec : 64 * (c.val / 64) + c.val % 64 = c.val := by omega
  rw [v44_read, v43_apply, div64, queryNorm, headRow, headOf]
  simp only [v30_apply, ec]

/-- The halves of each 32 channels, exchanged. -/
theorem v48_apply (b : Fin 8) (t : Fin 4096) (g : Fin 16) (e : Fin 32) (c : Fin 512) (hc : c.val = 32 * g.val + e.val) :
    val_main_v48 (F := Ideal) x0 x1 x2 x3 x4 (ix4 b t g e) = val_main_v44 (F := Ideal) x0 x1 x2 x3 x4 (ix3 b t (partner c)) := by
  have hs (l : Fin 32) (k : Fin 512) (hk : k.val = 32 * g.val + l.val) :
      val_main_v45 (F := Ideal) x0 x1 x2 x3 x4 (ix4 b t g l) = val_main_v44 (F := Ideal) x0 x1 x2 x3 x4 (ix3 b t k) := by
    pointwise [val_main_v45]
    exact congrArg (fun k => val_main_v44 (F := Ideal) x0 x1 x2 x3 x4 (ix3 b t k)) (Fin.ext (by simp; omega))
  pointwise [val_main_v48]
  by_cases h : e.val < 16
  · rw [dif_pos h, partner, dif_pos (show c.val % 32 < 16 by omega)]
    have h0 : val_main_v47 (F := Ideal) x0 x1 x2 x3 x4 (ix4 b t g ⟨e.val, h⟩) = val_main_v45 (F := Ideal) x0 x1 x2 x3 x4 (ix4 b t g ⟨16 + e.val, by omega⟩) := by
      pointwise [val_main_v47]
    exact h0.trans (hs _ _ (by show c.val + 16 = 32 * g.val + (16 + e.val); omega))
  · rw [dif_neg h, partner, dif_neg (show ¬ c.val % 32 < 16 by omega)]
    have h0 : val_main_v46 (F := Ideal) x0 x1 x2 x3 x4 (ix4 b t g ⟨e.val - 16, by omega⟩) = val_main_v45 (F := Ideal) x0 x1 x2 x3 x4 (ix4 b t g ⟨e.val - 16, by omega⟩) := by
      pointwise [val_main_v46]
    exact h0.trans (hs _ _ (by show c.val - 16 = 32 * g.val + (e.val - 16); omega))

theorem v49_apply (b : Fin 8) (t : Fin 4096) (u : Fin 4) (d : Fin 128) (c : Fin 512) (hc : c.val = 128 * u.val + d.val) :
    val_main_v49 (F := Ideal) x0 x1 x2 x3 x4 (ix4 b t u d) = val_main_v44 (F := Ideal) x0 x1 x2 x3 x4 (ix3 b t (partner c)) := by
  rw [← v48_apply x0 x1 x2 x3 x4 b t ⟨c.val / 32, by omega⟩ ⟨c.val % 32, by omega⟩ c (by show c.val = 32 * (c.val / 32) + c.val % 32; omega)]
  refine (val_main_v49_apply (F := Ideal) x0 x1 x2 x3 x4 _).trans (congrArg _ ?_)
  have := d.isLt; have := u.isLt; have := t.isLt; have := b.isLt
  funext a
  match a with
  | ⟨0, _⟩ => apply Fin.ext; show (((b.val * 4096 + t.val) * 4 + u.val) * 128 + d.val) / 2097152 = b.val; omega
  | ⟨1, _⟩ => apply Fin.ext; show (((b.val * 4096 + t.val) * 4 + u.val) * 128 + d.val) / 512 % 4096 = t.val; omega
  | ⟨2, _⟩ => apply Fin.ext; show (((b.val * 4096 + t.val) * 4 + u.val) * 128 + d.val) / 32 % 16 = c.val / 32; omega
  | ⟨3, _⟩ => apply Fin.ext; show (((b.val * 4096 + t.val) * 4 + u.val) * 128 + d.val) % 32 = c.val % 32; omega

theorem v50_apply (b : Fin 8) (t : Fin 4096) (u : Fin 4) (d : Fin 128) (c : Fin 512) (hc : c.val = 128 * u.val + d.val) :
    val_main_v50 (F := Ideal) x0 x1 x2 x3 x4 (ix4 b t u d) = val_main_v44 (F := Ideal) x0 x1 x2 x3 x4 (ix3 b t c) := by
  pointwise [val_main_v50]
  exact congrArg (fun k => val_main_v44 (F := Ideal) x0 x1 x2 x3 x4 (ix3 b t k)) (Fin.ext (by simp; omega))

theorem v57_apply (b : Fin 8) (t : Fin 4096) (u : Fin 4) (d : Fin 128) :
    val_main_v57 (F := Ideal) x0 x1 x2 x3 x4 x6 x7 (ix4 b t u d) = val_main_v50 (F := Ideal) x0 x1 x2 x3 x4 (ix4 b t u d) * x6 (ix2 t d)
      + val_main_v49 (F := Ideal) x0 x1 x2 x3 x4 (ix4 b t u d) * x7 (ix2 t d) := by
  pointwise [val_main_v57, val_main_v56, val_main_v55, val_main_v54, val_main_v53, val_main_v52, val_main_v51]

/-- The queries, normed and turned. -/
theorem v58_apply (b : Fin 8) (t : Fin 4096) (c : Fin 512) :
    val_main_v58 (F := Ideal) x0 x1 x2 x3 x4 x6 x7 (ix3 b t c) = queryEntry x0 x1 x2 x3 x4 x6 x7 b t c := by
  have h : val_main_v58 (F := Ideal) x0 x1 x2 x3 x4 x6 x7 (ix3 b t c)
      = val_main_v57 (F := Ideal) x0 x1 x2 x3 x4 x6 x7 (ix4 b t ⟨c.val / 128, by omega⟩ ⟨c.val % 128, by omega⟩) := by
    pointwise [val_main_v58]
  have hc : c.val = 128 * (c.val / 128) + c.val % 128 := by omega
  rw [h, v57_apply, v50_apply x0 x1 x2 x3 x4 b t _ _ c hc, v49_apply x0 x1 x2 x3 x4 b t _ _ c hc, v44_apply, v44_apply, queryEntry, turnRow]

/-! ## The keys -/

theorem v61_apply (b : Fin 8) (t : Fin 4096) (h : Fin 8) (d : Fin 64) :
    val_main_v61 (F := Ideal) x0 x1 x2 x3 (ix4 b t h d) = projEntry x0 x1 x2 x3 b t ⟨512 + (64 * h.val + d.val), by omega⟩ := by
  rw [← v27_apply]
  pointwise [val_main_v61, val_main_v59]
  have e : (⟨512 + (h.val * 64 + d.val), by omega⟩ : Fin 5888) = ⟨512 + (64 * h.val + d.val), by omega⟩ := Fin.ext (by simp; omega)
  rw [e]

theorem v74_apply (b : Fin 8) (t : Fin 4096) (h : Fin 8) (d : Fin 64) :
    val_main_v74 (F := Ideal) x0 x1 x2 x3 x5 (ix4 b t h d) = val_main_v61 (F := Ideal) x0 x1 x2 x3 (ix4 b t h d)
      * Ideal.rsqrt (Ideal.div (∑ d : Fin 64, val_main_v61 (F := Ideal) x0 x1 x2 x3 (ix4 b t h d) * val_main_v61 (F := Ideal) x0 x1 x2 x3 (ix4 b t h d)) (Ideal.ofBits .f32 0x42800000#32)
        + Ideal.ofBits .f32 0x358637BD#32) * x5 (ix2 0 d) := by
  pointwise [val_main_v74, val_main_v73, val_main_v72, val_main_v71, val_main_v70, val_main_v69, val_main_v68, val_main_v67, val_main_v66, val_main_v65, val_main_v64, val_main_v63, val_main_v62, val_main_v60, val_main_cst_6, val_main_cst_7, val_main_cst_8]

theorem v75_read (b : Fin 8) (t : Fin 4096) (c : Fin 512) :
    val_main_v75 (F := Ideal) x0 x1 x2 x3 x5 (ix3 b t c) = val_main_v74 (F := Ideal) x0 x1 x2 x3 x5 (ix4 b t ⟨c.val / 64, by omega⟩ ⟨c.val % 64, by omega⟩) := by
  pointwise [val_main_v75]

/-- The keys, normed. -/
theorem v75_apply (b : Fin 8) (t : Fin 4096) (c : Fin 512) : val_main_v75 (F := Ideal) x0 x1 x2 x3 x5 (ix3 b t c) = keyNorm x0 x1 x2 x3 x5 b t c := by
  have e (k : Fin 64) : 64 * (c.val / 64) + k.val < 512 := by omega
  have ec : 64 * (c.val / 64) + c.val % 64 = c.val := by omega
  rw [v75_read, v74_apply, div64, keyNorm, headRow, headOf]
  simp only [v61_apply, ec]

/-- The halves of each 32 channels, exchanged. -/
theorem v79_apply (b : Fin 8) (t : Fin 4096) (g : Fin 16) (e : Fin 32) (c : Fin 512) (hc : c.val = 32 * g.val + e.val) :
    val_main_v79 (F := Ideal) x0 x1 x2 x3 x5 (ix4 b t g e) = val_main_v75 (F := Ideal) x0 x1 x2 x3 x5 (ix3 b t (partner c)) := by
  have hs (l : Fin 32) (k : Fin 512) (hk : k.val = 32 * g.val + l.val) :
      val_main_v76 (F := Ideal) x0 x1 x2 x3 x5 (ix4 b t g l) = val_main_v75 (F := Ideal) x0 x1 x2 x3 x5 (ix3 b t k) := by
    pointwise [val_main_v76]
    exact congrArg (fun k => val_main_v75 (F := Ideal) x0 x1 x2 x3 x5 (ix3 b t k)) (Fin.ext (by simp; omega))
  pointwise [val_main_v79]
  by_cases h : e.val < 16
  · rw [dif_pos h, partner, dif_pos (show c.val % 32 < 16 by omega)]
    have h0 : val_main_v78 (F := Ideal) x0 x1 x2 x3 x5 (ix4 b t g ⟨e.val, h⟩) = val_main_v76 (F := Ideal) x0 x1 x2 x3 x5 (ix4 b t g ⟨16 + e.val, by omega⟩) := by
      pointwise [val_main_v78]
    exact h0.trans (hs _ _ (by show c.val + 16 = 32 * g.val + (16 + e.val); omega))
  · rw [dif_neg h, partner, dif_neg (show ¬ c.val % 32 < 16 by omega)]
    have h0 : val_main_v77 (F := Ideal) x0 x1 x2 x3 x5 (ix4 b t g ⟨e.val - 16, by omega⟩) = val_main_v76 (F := Ideal) x0 x1 x2 x3 x5 (ix4 b t g ⟨e.val - 16, by omega⟩) := by
      pointwise [val_main_v77]
    exact h0.trans (hs _ _ (by show c.val - 16 = 32 * g.val + (e.val - 16); omega))

theorem v80_apply (b : Fin 8) (t : Fin 4096) (u : Fin 4) (d : Fin 128) (c : Fin 512) (hc : c.val = 128 * u.val + d.val) :
    val_main_v80 (F := Ideal) x0 x1 x2 x3 x5 (ix4 b t u d) = val_main_v75 (F := Ideal) x0 x1 x2 x3 x5 (ix3 b t (partner c)) := by
  rw [← v79_apply x0 x1 x2 x3 x5 b t ⟨c.val / 32, by omega⟩ ⟨c.val % 32, by omega⟩ c (by show c.val = 32 * (c.val / 32) + c.val % 32; omega)]
  refine (val_main_v80_apply (F := Ideal) x0 x1 x2 x3 x5 _).trans (congrArg _ ?_)
  have := d.isLt; have := u.isLt; have := t.isLt; have := b.isLt
  funext a
  match a with
  | ⟨0, _⟩ => apply Fin.ext; show (((b.val * 4096 + t.val) * 4 + u.val) * 128 + d.val) / 2097152 = b.val; omega
  | ⟨1, _⟩ => apply Fin.ext; show (((b.val * 4096 + t.val) * 4 + u.val) * 128 + d.val) / 512 % 4096 = t.val; omega
  | ⟨2, _⟩ => apply Fin.ext; show (((b.val * 4096 + t.val) * 4 + u.val) * 128 + d.val) / 32 % 16 = c.val / 32; omega
  | ⟨3, _⟩ => apply Fin.ext; show (((b.val * 4096 + t.val) * 4 + u.val) * 128 + d.val) % 32 = c.val % 32; omega

theorem v81_apply (b : Fin 8) (t : Fin 4096) (u : Fin 4) (d : Fin 128) (c : Fin 512) (hc : c.val = 128 * u.val + d.val) :
    val_main_v81 (F := Ideal) x0 x1 x2 x3 x5 (ix4 b t u d) = val_main_v75 (F := Ideal) x0 x1 x2 x3 x5 (ix3 b t c) := by
  pointwise [val_main_v81]
  exact congrArg (fun k => val_main_v75 (F := Ideal) x0 x1 x2 x3 x5 (ix3 b t k)) (Fin.ext (by simp; omega))

theorem v88_apply (b : Fin 8) (t : Fin 4096) (u : Fin 4) (d : Fin 128) :
    val_main_v88 (F := Ideal) x0 x1 x2 x3 x5 x6 x7 (ix4 b t u d) = val_main_v81 (F := Ideal) x0 x1 x2 x3 x5 (ix4 b t u d) * x6 (ix2 t d)
      + val_main_v80 (F := Ideal) x0 x1 x2 x3 x5 (ix4 b t u d) * x7 (ix2 t d) := by
  pointwise [val_main_v88, val_main_v87, val_main_v86, val_main_v85, val_main_v84, val_main_v83, val_main_v82]

/-- The keys, normed and turned. -/
theorem v89_apply (b : Fin 8) (t : Fin 4096) (c : Fin 512) :
    val_main_v89 (F := Ideal) x0 x1 x2 x3 x5 x6 x7 (ix3 b t c) = keyEntry x0 x1 x2 x3 x5 x6 x7 b t c := by
  have h : val_main_v89 (F := Ideal) x0 x1 x2 x3 x5 x6 x7 (ix3 b t c)
      = val_main_v88 (F := Ideal) x0 x1 x2 x3 x5 x6 x7 (ix4 b t ⟨c.val / 128, by omega⟩ ⟨c.val % 128, by omega⟩) := by
    pointwise [val_main_v89]
  have hc : c.val = 128 * (c.val / 128) + c.val % 128 := by omega
  rw [h, v88_apply, v81_apply x0 x1 x2 x3 x5 b t _ _ c hc, v80_apply x0 x1 x2 x3 x5 b t _ _ c hc, v75_apply, v75_apply, keyEntry, turnRow]

/-! ## The results -/

theorem v90_apply (b : Fin 8) (t : Fin 4096) (c : Fin 512) : val_main_v90 (F := Ideal) x0 x1 x2 x3 (ix3 b t c) = projEntry x0 x1 x2 x3 b t ⟨1024 + c.val, by omega⟩ := by
  rw [← v27_apply]
  pointwise [val_main_v90]

theorem v95_apply (b : Fin 8) (t : Fin 4096) (c : Fin 2304) : val_main_v95 (F := Ideal) x0 x1 x2 x3 (ix3 b t c) = projEntry x0 x1 x2 x3 b t ⟨1536 + c.val, by omega⟩ := by
  rw [← v27_apply]
  pointwise [val_main_v95]

theorem v102_apply (b : Fin 8) (t : Fin 4096) (c : Fin 2048) :
    val_main_v102 (F := Ideal) x0 x1 x2 x3 (ix3 b t c) = Ideal.logistic (projEntry x0 x1 x2 x3 b t ⟨3840 + c.val, by omega⟩) := by
  rw [← v27_apply]
  pointwise [val_main_v102, val_main_v101, val_main_v100, val_main_v99, val_main_v98, val_main_v97, val_main_v96, val_main_cst_10, val_main_cst_11]
  rfl

theorem v92_apply (b : Fin 8) (t : Fin 4096) (c : Fin 512) :
    val_main_v92 (F := Ideal) x0 x1 x2 x3 x4 x6 x7 (ix3 b t c) = queryEntry x0 x1 x2 x3 x4 x6 x7 b t c * Ideal.ofBits .f32 0x3E38AA3B#32 := by
  rw [← v58_apply]
  pointwise [val_main_v92, val_main_v91, val_main_cst_9]

theorem v94_apply (b : Fin 8) (t : Fin 4096) (j : Fin 1536) :
    val_main_v94 (F := Ideal) x0 x1 x2 x3 x4 x5 x6 x7 (ix3 b t j) = qkvEntry x0 x1 x2 x3 x4 x5 x6 x7 b t j := by
  unfold qkvEntry
  pointwise [val_main_v94, val_main_v93]
  by_cases h : j.val < 512
  · rw [dif_pos h, dif_pos h]
    exact v92_apply x0 x1 x2 x3 x4 x6 x7 b t ⟨j.val, h⟩
  · rw [dif_neg h, dif_neg h]
    by_cases h' : j.val - 512 < 512
    · rw [dif_pos h', dif_pos (show j.val < 1024 by omega)]
      exact v89_apply x0 x1 x2 x3 x5 x6 x7 b t ⟨j.val - 512, h'⟩
    · rw [dif_neg h', dif_neg (show ¬ j.val < 1024 by omega)]
      exact (v90_apply x0 x1 x2 x3 b t ⟨j.val - 512 - 512, by omega⟩).trans (congrArg (projEntry x0 x1 x2 x3 b t) (Fin.ext (by show 1024 + (j.val - 512 - 512) = j.val; omega)))

theorem coords {N : ℕ} (i : (⟨3, ![8, 4096, N]⟩ : Shape).Idx) : i = ix3 (i 0 : Fin 8) (i 1 : Fin 4096) (i 2 : Fin N) := by
  funext a
  match a with
  | ⟨0, _⟩ => rfl
  | ⟨1, _⟩ => rfl
  | ⟨2, _⟩ => rfl

theorem qkv_eq : val_main_v94 (F := Ideal) x0 x1 x2 x3 x4 x5 x6 x7 = qkvResult x0 x1 x2 x3 x4 x5 x6 x7 :=
  funext fun i => (congrArg _ (coords i)).trans (v94_apply x0 x1 x2 x3 x4 x5 x6 x7 (i 0) (i 1) (i 2))
theorem scan_eq : val_main_v95 (F := Ideal) x0 x1 x2 x3 = scanResult x0 x1 x2 x3 :=
  funext fun i => (congrArg _ (coords i)).trans (v95_apply x0 x1 x2 x3 (i 0) (i 1) (i 2))
theorem gate_eq : val_main_v102 (F := Ideal) x0 x1 x2 x3 = gateResult x0 x1 x2 x3 :=
  funext fun i => (congrArg _ (coords i)).trans (v102_apply x0 x1 x2 x3 (i 0) (i 1) (i 2))

end Cert.SampRef

end
-- ==== Proof.lean ====
/- Every claim of the six programs, `Cert.Claim`: the frames come from the generated modules, the six equations from the
   closed forms that each kernel and its reference are shown to hold. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_conditioning
public import proofs.«01_k».proof.Proof.Array
public import proofs.«01_k».proof.Proof.Ref
public import proofs.«01_k».proof.Proof.PostArray
public import proofs.«01_k».proof.Proof.PostRef
public import proofs.«01_k».proof.Proof.ProjArray
public import proofs.«01_k».proof.Proof.ProjRef
public import proofs.«01_k».proof.Proof.ModArray
public import proofs.«01_k».proof.Proof.ModRef
public import proofs.«01_k».proof.Proof.PostPromptArray
public import proofs.«01_k».proof.Proof.PostPromptRef
public import proofs.«01_k».proof.Proof.SampArray
public import proofs.«01_k».proof.Proof.SampRef
public import Idealize.ShloMosaic.Adequacy
public import Idealize.ShloMosaic.Init

@[expose] public section

noncomputable section

namespace Cert.Proof

open Idealize.ShloMosaic Idealize.SL.Sem

/-- An array whose elements all compare below +∞ in absolute value holds real numbers. -/
theorem real_of_finite {s : Shape} (x : FVec Ideal s .f32) (y : FVec Ideal s .f32) (hy : ∀ i, (y i : EReal) = ⊤)
    (h : cmpf .olt (Host.absf x) y = fun _ => 1#1) (i : s.Idx) : ((x i).toReal : EReal) = (x i : EReal) := by
  have hi : Ideal.cmp .olt (max (x i : EReal) (-(x i : EReal))) (y i) = 1#1 := congrFun h i
  rw [hy] at hi
  obtain ⟨r, hr⟩ := Cert.Attn.coe_of_abs_lt (x := (x i : EReal)) (by
    by_contra hn
    simp [Ideal.cmp, hn] at hi)
  rw [hr, EReal.toReal_coe]

/-- The pattern of +∞ is the top of the extended reals. -/
theorem ofBits_inf : Ideal.ofBits .f32 0x7F800000#32 = (⊤ : EReal) := by simp [Ideal.ofBits, Ideal.ieee]

/-- The reference ends with its arguments unchanged; it declares no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- From memories that agree on the arguments, finite, the kernel and the reference end with the same result: both hold
    the closed form `Cert.Attn.result` of the arguments. -/
theorem algebraic : Cert.algebraic_KernelIdeal_ReferenceIdeal_pre_finite := fun m ρ m' ρ' hpre hag => by
  have hx := fun c => real_of_finite _ _ (fun _ => ofBits_inf) (hpre c).1
  have hk := fun c => real_of_finite _ _ (fun _ => ofBits_inf) (hpre c).2.1
  have hv := fun c => real_of_finite _ _ (fun _ => ofBits_inf) (hpre c).2.2.1
  have ha := fun c => real_of_finite _ _ (fun _ => ofBits_inf) (hpre c).2.2.2.1
  have hb := fun c => real_of_finite _ _ (fun _ => ofBits_inf) (hpre c).2.2.2.2.1
  have hc := fun c => real_of_finite _ _ (fun _ => ofBits_inf) (hpre c).2.2.2.2.2.1
  have hd := fun c => real_of_finite _ _ (fun _ => ofBits_inf) (hpre c).2.2.2.2.2.2
  refine ⟨fun c => (Cert.KernelIdeal.Gen.dats m 0 c).arrAt 7 Cert.KernelIdeal.cfg0.N, Cert.KernelIdeal.Value.run_blocks (F := Ideal) m ρ,
    (θ_run _ _ _).mono (fun _ h c => ⟨(h c).1.trans ?_, (h c).2⟩) (Cert.ReferenceIdeal.Value.run (F := Ideal) m' ρ')⟩
  obtain ⟨h0, h1, h2, h3, h4, h5, h6, h7⟩ := hag c
  rw [Cert.ReferenceIdeal.Read.val_main_v67_eq, h0, h1, h2, h3, h4, h5, h6, h7]
  exact (Cert.AttnRef.result_eq _ _ _ _ _ _ _ _ ⟨hx c, hk c, hv c⟩ (ha c) (hb c) (hc c) (hd c)).trans
    (Cert.Attn.arr_eq m c ⟨hx c, hk c, hv c⟩).symm

/-- The second reference ends with its arguments unchanged; it declares no semaphore. -/
theorem frame_reference2 : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- From memories that agree on the arguments, the second kernel and its reference end with the same result: both hold the
    closed form `Cert.Post.postResult` of the arguments. -/
theorem algebraic2 : Cert.algebraic_Kernel2Ideal_Reference2Ideal := fun m ρ m' ρ' _ hag => by
  refine ⟨fun c => (Cert.Kernel2Ideal.Gen.dats m 0 c).arrAt 18 Cert.Kernel2Ideal.cfg0.N, Cert.Kernel2Ideal.Value.run_blocks (F := Ideal) m ρ,
    (θ_run _ _ _).mono (fun _ h c => ⟨(h c).1.trans ?_, (h c).2⟩) (Cert.Reference2Ideal.Value.run (F := Ideal) m' ρ')⟩
  obtain ⟨h0, h1, h2, h3, h4, h5, h6, h7, h8, h9, h10, h11, h12, h13, h14, h15⟩ := hag c
  rw [Cert.Reference2Ideal.Read.val_main_v91_eq, h0, h1, h2, h3, h4, h5, h6, h7, h8, h9, h10, h11, h12, h13, h14, h15]
  exact (Cert.PostRef.result_eq _ _ _ _ _ _ _ _ _ _ _ _ _ _ _ _).trans (Cert.Post.arr_eq m c).symm

/-- The third reference ends with its arguments unchanged; it declares no semaphore. -/
theorem frame_reference3 : Cert.quiescent_Reference3Ideal := fun m ρ _ =>
  (θ_run _ _ _).mono (fun r h => ⟨fun c => (h c).2.2.2.2.2, sem_eq_zero_of_no_sems (by decide) r.2⟩) (Cert.Reference3Ideal.Value.run (F := Ideal) m ρ)

/-- From memories that agree on the arguments, the third kernel and its reference end with the same five results: both hold the
    closed forms `Cert.Proj.qkvResult` to `Cert.Proj.valResult` of the arguments. -/
theorem algebraic3 : Cert.algebraic_Kernel3Ideal_Reference3Ideal := fun m ρ m' ρ' _ hag => by
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, Cert.Kernel3Ideal.Value.run_blocks (F := Ideal) m ρ,
    (θ_run _ _ _).mono (fun _ h c => ⟨(h c).1.trans ?_, (h c).2.1.trans ?_, (h c).2.2.1.trans ?_, (h c).2.2.2.1.trans ?_, (h c).2.2.2.2.1.trans ?_, (h c).2.2.2.2.2⟩)
      (Cert.Reference3Ideal.Value.run (F := Ideal) m' ρ')⟩
  all_goals obtain ⟨h0, h1, h2, h3, h4, h5⟩ := hag c
  · rw [Cert.Reference3Ideal.Read.val_main_v67_eq, h0, h1, h2, h3, h4, h5]
    exact (Cert.ProjRef.qkv_eq _ _ _ _ _ _).trans (Cert.Proj.arr_5 m c).symm
  · rw [Cert.Reference3Ideal.Read.val_main_v68_eq, h0, h1, h2, h3]
    exact (Cert.ProjRef.scan_eq _ _ _ _).trans (Cert.Proj.arr_6 m c).symm
  · rw [Cert.Reference3Ideal.Read.val_main_v75_eq, h0, h1, h2, h3]
    exact (Cert.ProjRef.gate_eq _ _ _ _).trans (Cert.Proj.arr_7 m c).symm
  · rw [Cert.Reference3Ideal.Read.val_main_v63_eq, h0, h1, h2, h3, h5]
    exact (Cert.ProjRef.key_eq _ _ _ _ _).trans (Cert.Proj.arr_8 m c).symm
  · rw [Cert.Reference3Ideal.Read.val_main_v33_eq, h0, h1, h2, h3]
    exact (Cert.ProjRef.val_eq _ _ _ _).trans (Cert.Proj.arr_9 m c).symm

/-- The fourth reference ends with its arguments unchanged; it declares no semaphore. -/
theorem frame_reference4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- From memories that agree on the arguments, finite, the fourth kernel and its reference end with the same result: both hold
    the closed form `Cert.Mod.modResult` of the arguments. -/
theorem algebraic4 : Cert.algebraic_Kernel4Ideal_Reference4Ideal_pre_finite_conditioning := fun m ρ m' ρ' hpre hag => by
  have hx := fun c => real_of_finite _ _ (fun _ => ofBits_inf) (hpre c).1
  have hy := fun c => real_of_finite _ _ (fun _ => ofBits_inf) (hpre c).2.1
  have hw := fun c => real_of_finite _ _ (fun _ => ofBits_inf) (hpre c).2.2
  refine ⟨fun c => (Cert.Kernel4Ideal.Gen.dats m 0 c).arrAt 3 Cert.Kernel4Ideal.cfg0.N, Cert.Kernel4Ideal.Value.run_blocks (F := Ideal) m ρ,
    (θ_run _ _ _).mono (fun _ h c => ⟨(h c).1.trans ?_, (h c).2⟩) (Cert.Reference4Ideal.Value.run (F := Ideal) m' ρ')⟩
  obtain ⟨h0, h1, h2, h3⟩ := hag c
  rw [Cert.Reference4Ideal.Read.val_main_v9_eq, h0, h1, h2, h3]
  exact (Cert.ModRef.result_eq _ _ _ _).trans (Cert.Mod.arr_eq m c (hx c) (hy c) (hw c)).symm

/-- The fifth reference ends with its arguments unchanged; it declares no semaphore. -/
theorem frame_reference5 : Cert.quiescent_Reference5Ideal := fun m ρ _ =>
  (θ_run _ _ _).mono (fun r h => ⟨fun c => (h c).2, sem_eq_zero_of_no_sems (by decide) r.2⟩) (Cert.Reference5Ideal.Value.run (F := Ideal) m ρ)

/-- From memories that agree on the arguments, the fifth kernel and its reference end with the same result: both hold the
    closed form `Cert.Post.postResult` of the prompt's tokens in one run and the other arguments. -/
theorem algebraic5 : Cert.algebraic_Kernel5Ideal_Reference5Ideal := fun m ρ m' ρ' _ hag => by
  refine ⟨fun c => (Cert.Kernel5Ideal.Gen.dats m 0 c).arrAt 18 Cert.Kernel5Ideal.cfg0.N, Cert.Kernel5Ideal.Value.run_blocks (F := Ideal) m ρ,
    (θ_run _ _ _).mono (fun _ h c => ⟨(h c).1.trans ?_, (h c).2⟩) (Cert.Reference5Ideal.Value.run (F := Ideal) m' ρ')⟩
  obtain ⟨h0, h1, h2, h3, h4, h5, h6, h7, h8, h9, h10, h11, h12, h13, h14, h15⟩ := hag c
  rw [Cert.Reference5Ideal.Read.val_main_v92_eq, h0, h1, h2, h3, h4, h5, h6, h7, h8, h9, h10, h11, h12, h13, h14, h15]
  exact (Cert.PostPromptRef.result_eq _ _ _ _ _ _ _ _ _ _ _ _ _ _ _ _).trans (Cert.PostPrompt.arr_eq m c).symm

/-- The sixth reference ends with its arguments unchanged; it declares no semaphore. -/
theorem frame_reference6 : Cert.quiescent_Reference6Ideal := fun m ρ _ =>
  (θ_run _ _ _).mono (fun r h => ⟨fun c => (h c).2.2.2, sem_eq_zero_of_no_sems (by decide) r.2⟩) (Cert.Reference6Ideal.Value.run (F := Ideal) m ρ)

/-- From memories that agree on the arguments, the sixth kernel and its reference end with the same three results: both hold the
    closed forms `Cert.Samp.qkvResult` to `Cert.Samp.gateResult` of the arguments. -/
theorem algebraic6 : Cert.algebraic_Kernel6Ideal_Reference6Ideal := fun m ρ m' ρ' _ hag => by
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N,
    fun c => (Cert.Kernel6Ideal.Gen.dats m 0 c).arrAt 9 Cert.Kernel6Ideal.cfg0.N, Cert.Kernel6Ideal.Value.run_blocks (F := Ideal) m ρ,
    (θ_run _ _ _).mono (fun _ h c => ⟨(h c).1.trans ?_, (h c).2.1.trans ?_, (h c).2.2.1.trans ?_, (h c).2.2.2⟩)
      (Cert.Reference6Ideal.Value.run (F := Ideal) m' ρ')⟩
  all_goals obtain ⟨h0, h1, h2, h3, h4, h5, h6, h7⟩ := hag c
  · rw [Cert.Reference6Ideal.Read.val_main_v94_eq, h0, h1, h2, h3, h4, h5, h6, h7]
    exact (Cert.SampRef.qkv_eq _ _ _ _ _ _ _ _).trans (Cert.Samp.arr_7 m c).symm
  · rw [Cert.Reference6Ideal.Read.val_main_v95_eq, h0, h1, h2, h3]
    exact (Cert.SampRef.scan_eq _ _ _ _).trans (Cert.Samp.arr_8 m c).symm
  · rw [Cert.Reference6Ideal.Read.val_main_v102_eq, h0, h1, h2, h3]
    exact (Cert.SampRef.gate_eq _ _ _ _).trans (Cert.Samp.arr_9 m c).symm

/-- Every claim of the six programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_finite_conditioning.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  trivial, algebraic, trivial, algebraic2, trivial, algebraic3, trivial, algebraic4, trivial, algebraic5, trivial, algebraic6⟩

end Cert.Proof

end
